-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S4096x32 : Shape := ⟨2, ![4096, 32]⟩
abbrev S4096x200x32 : Shape := ⟨3, ![4096, 200, 32]⟩
abbrev S4096x50x32 : Shape := ⟨3, ![4096, 50, 32]⟩
abbrev S4096x200 : Shape := ⟨2, ![4096, 200]⟩
abbrev S4096x50 : Shape := ⟨2, ![4096, 50]⟩
abbrev S1x22x4 : Shape := ⟨3, ![1, 22, 4]⟩
abbrev S1x42x8 : Shape := ⟨3, ![1, 42, 8]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : FVec F S4096x32 .f32) (main_arg1 : FVec F S4096x200x32 .f32) (main_arg2 : FVec F S4096x50x32 .f32) (main_arg3 : FVec F S4096x200 .f32) (main_arg4 : FVec F S4096x50 .f32) (main_arg5 : FVec F S1x22x4 .f32) (main_arg6 : FVec F S1x42x8 .f32) : IVec S_ 1 :=
  let main_v0 : FVec F S4096x200 .f32 := Host.absf main_arg3
  let main_cst : FVec F S_ .f32 := constant S_ .f32 0x3F800000#32
  let main_v1 : FVec F S4096x200 .f32 := broadcastInDim S4096x200 ![] bcast_S_S4096x200 main_cst
  let main_v2 : IVec S4096x200 1 := cmpf .ole main_v0 main_v1
  let main_c : IVec S_ 1 := constantI S_ 1 1#1
  let main_v3 : IVec S_ 1 := (fun x v => Host.reduce IntOp.andi x v reducesTo_S4096x200_S_d0_1 h_S_) main_v2 main_c
  let main_v4 : FVec F S4096x50 .f32 := Host.absf main_arg4
  let main_cst_0 : FVec F S_ .f32 := constant S_ .f32 0x3F800000#32
  let main_v5 : FVec F S4096x50 .f32 := broadcastInDim S4096x50 ![] bcast_S_S4096x50 main_cst_0
  let main_v6 : IVec S4096x50 1 := cmpf .ole main_v4 main_v5
  let main_c_1 : IVec S_ 1 := constantI S_ 1 1#1
  let main_v7 : IVec S_ 1 := (fun x v => Host.reduce IntOp.andi x v reducesTo_S4096x50_S_d0_1 h_S_) main_v6 main_c_1
  let main_v8 : IVec S_ 1 := andi main_v3 main_v7
  main_v8
-- ==== Kernel.lean ====
abbrev S4096x32 : Shape := ⟨2, ![4096, 32]⟩
abbrev S4096x200x32 : Shape := ⟨3, ![4096, 200, 32]⟩
abbrev S4096x50x32 : Shape := ⟨3, ![4096, 50, 32]⟩
abbrev S4096x200 : Shape := ⟨2, ![4096, 200]⟩
abbrev S4096x50 : Shape := ⟨2, ![4096, 50]⟩
abbrev S1x22x4 : Shape := ⟨3, ![1, 22, 4]⟩
abbrev S1x42x8 : Shape := ⟨3, ![1, 42, 8]⟩
abbrev S64x32 : Shape := ⟨2, ![64, 32]⟩
abbrev S64x200x32 : Shape := ⟨3, ![64, 200, 32]⟩
abbrev S64x50x32 : Shape := ⟨3, ![64, 50, 32]⟩
abbrev S64x200 : Shape := ⟨2, ![64, 200]⟩
abbrev S64x50 : Shape := ⟨2, ![64, 50]⟩
abbrev S64 : Shape := ⟨1, ![64]⟩
abbrev S64x1 : Shape := ⟨2, ![64, 1]⟩
abbrev S64x1x32 : Shape := ⟨3, ![64, 1, 32]⟩
abbrev S256 : Shape := ⟨1, ![256]⟩
abbrev S_ : Shape := ⟨0, ![]⟩
abbrev S88 : Shape := ⟨1, ![88]⟩
abbrev S336 : Shape := ⟨1, ![336]⟩
abbrev S819200 : Shape := ⟨1, ![819200]⟩
abbrev S204800 : Shape := ⟨1, ![204800]⟩
abbrev S360448 : Shape := ⟨1, ![360448]⟩
abbrev S1376256 : Shape := ⟨1, ![1376256]⟩
abbrev S3200 : Shape := ⟨1, ![3200]⟩
abbrev S800 : Shape := ⟨1, ![800]⟩
abbrev S352 : Shape := ⟨1, ![352]⟩
abbrev S672 : Shape := ⟨1, ![672]⟩
abbrev S1408 : Shape := ⟨1, ![1408]⟩
abbrev S5376 : Shape := ⟨1, ![5376]⟩
abbrev S16 : Shape := ⟨1, ![16]⟩
abbrev S4096x88 : Shape := ⟨2, ![4096, 88]⟩
abbrev S4096x336 : Shape := ⟨2, ![4096, 336]⟩

abbrev nBuf : Table → Nat
  | .hbm => 60
  | .local .tc .vmem => 14
  | .local .scVector .vmem => 11
  | _ => 0

abbrev bufTy : (tb : Table) → Fin (nBuf tb) → BufTy
  | .hbm, ⟨0, _⟩ => ⟨S4096x32, .f32⟩
  | .hbm, ⟨1, _⟩ => ⟨S4096x200x32, .f32⟩
  | .hbm, ⟨2, _⟩ => ⟨S4096x50x32, .f32⟩
  | .hbm, ⟨3, _⟩ => ⟨S4096x200, .f32⟩
  | .hbm, ⟨4, _⟩ => ⟨S4096x50, .f32⟩
  | .hbm, ⟨5, _⟩ => ⟨S1x22x4, .f32⟩
  | .hbm, ⟨6, _⟩ => ⟨S1x42x8, .f32⟩
  | .hbm, ⟨7, _⟩ => ⟨S4096x200, .f32⟩
  | .hbm, ⟨8, _⟩ => ⟨S4096x50, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S88, .i32⟩
  | .hbm, ⟨15, _⟩ => ⟨S_, .i32⟩
  | .hbm, ⟨16, _⟩ => ⟨S_, .i32⟩
  | .hbm, ⟨17, _⟩ => ⟨S88, .i32⟩
  | .hbm, ⟨18, _⟩ => ⟨S88, .i32⟩
  | .hbm, ⟨19, _⟩ => ⟨S88, .i32⟩
  | .hbm, ⟨20, _⟩ => ⟨S_, .i32⟩
  | .hbm, ⟨21, _⟩ => ⟨S88, .i32⟩
  | .hbm, ⟨22, _⟩ => ⟨S88, .i1⟩
  | .hbm, ⟨23, _⟩ => ⟨S88, .i32⟩
  | .hbm, ⟨24, _⟩ => ⟨S88, .i32⟩
  | .hbm, ⟨25, _⟩ => ⟨S_, .i32⟩
  | .hbm, ⟨26, _⟩ => ⟨S88, .i32⟩
  | .hbm, ⟨27, _⟩ => ⟨S88, .i1⟩
  | .hbm, ⟨28, _⟩ => ⟨S88, .i1⟩
  | .hbm, ⟨29, _⟩ => ⟨S_, .i32⟩
  | .hbm, ⟨30, _⟩ => ⟨S88, .i32⟩
  | .hbm, ⟨31, _⟩ => ⟨S88, .i32⟩
  | .hbm, ⟨32, _⟩ => ⟨S88, .i32⟩
  | .hbm, ⟨33, _⟩ => ⟨S88, .f32⟩
  | .hbm, ⟨34, _⟩ => ⟨S336, .i32⟩
  | .hbm, ⟨35, _⟩ => ⟨S_, .i32⟩
  | .hbm, ⟨36, _⟩ => ⟨S_, .i32⟩
  | .hbm, ⟨37, _⟩ => ⟨S336, .i32⟩
  | .hbm, ⟨38, _⟩ => ⟨S336, .i32⟩
  | .hbm, ⟨39, _⟩ => ⟨S336, .i32⟩
  | .hbm, ⟨40, _⟩ => ⟨S_, .i32⟩
  | .hbm, ⟨41, _⟩ => ⟨S336, .i32⟩
  | .hbm, ⟨42, _⟩ => ⟨S336, .i1⟩
  | .hbm, ⟨43, _⟩ => ⟨S336, .i32⟩
  | .hbm, ⟨44, _⟩ => ⟨S336, .i32⟩
  | .hbm, ⟨45, _⟩ => ⟨S_, .i32⟩
  | .hbm, ⟨46, _⟩ => ⟨S336, .i32⟩
  | .hbm, ⟨47, _⟩ => ⟨S336, .i1⟩
  | .hbm, ⟨48, _⟩ => ⟨S336, .i1⟩
  | .hbm, ⟨49, _⟩ => ⟨S_, .i32⟩
  | .hbm, ⟨50, _⟩ => ⟨S336, .i32⟩
  | .hbm, ⟨51, _⟩ => ⟨S336, .i32⟩
  | .hbm, ⟨52, _⟩ => ⟨S336, .i32⟩
  | .hbm, ⟨53, _⟩ => ⟨S336, .f32⟩
  | .hbm, ⟨54, _⟩ => ⟨S819200, .f32⟩
  | .hbm, ⟨55, _⟩ => ⟨S204800, .f32⟩
  | .hbm, ⟨56, _⟩ => ⟨S360448, .f32⟩
  | .hbm, ⟨57, _⟩ => ⟨S1376256, .f32⟩
  | .hbm, ⟨58, _⟩ => ⟨S4096x88, .f32⟩
  | .hbm, ⟨59, _⟩ => ⟨S4096x336, .f32⟩
  | .local .tc .vmem, ⟨0, _⟩ => ⟨S64x32, .f32⟩
  | .local .tc .vmem, ⟨1, _⟩ => ⟨S64x32, .f32⟩
  | .local .tc .vmem, ⟨2, _⟩ => ⟨S64x200x32, .f32⟩
  | .local .tc .vmem, ⟨3, _⟩ => ⟨S64x200x32, .f32⟩
  | .local .tc .vmem, ⟨4, _⟩ => ⟨S64x50x32, .f32⟩
  | .local .tc .vmem, ⟨5, _⟩ => ⟨S64x50x32, .f32⟩
  | .local .tc .vmem, ⟨6, _⟩ => ⟨S64x200, .f32⟩
  | .local .tc .vmem, ⟨7, _⟩ => ⟨S64x200, .f32⟩
  | .local .tc .vmem, ⟨8, _⟩ => ⟨S64x50, .f32⟩
  | .local .tc .vmem, ⟨9, _⟩ => ⟨S64x50, .f32⟩
  | .local .tc .vmem, ⟨10, _⟩ => ⟨S64x200, .f32⟩
  | .local .tc .vmem, ⟨11, _⟩ => ⟨S64x200, .f32⟩
  | .local .tc .vmem, ⟨12, _⟩ => ⟨S64x50, .f32⟩
  | .local .tc .vmem, ⟨13, _⟩ => ⟨S64x50, .f32⟩
  | .local .scVector .vmem, ⟨0, _⟩ => ⟨S3200, .f32⟩
  | .local .scVector .vmem, ⟨1, _⟩ => ⟨S800, .f32⟩
  | .local .scVector .vmem, ⟨2, _⟩ => ⟨S352, .i32⟩
  | .local .scVector .vmem, ⟨3, _⟩ => ⟨S672, .i32⟩
  | .local .scVector .vmem, ⟨4, _⟩ => ⟨S1408, .f32⟩
  | .local .scVector .vmem, ⟨5, _⟩ => ⟨S5376, .f32⟩
  | .local .scVector .vmem, ⟨6, _⟩ => ⟨S256, .f32⟩
  | .local .scVector .vmem, ⟨7, _⟩ => ⟨S88, .i32⟩
  | .local .scVector .vmem, ⟨8, _⟩ => ⟨S88, .f32⟩
  | .local .scVector .vmem, ⟨9, _⟩ => ⟨S336, .i32⟩
  | .local .scVector .vmem, ⟨10, _⟩ => ⟨S336, .f32⟩
  | _, _ => ⟨S4096x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13_0 : Ref sig .tc := ⟨.hbm, 56, rfl⟩
abbrev main_v13_1 : Ref sig .tc := ⟨.hbm, 57, rfl⟩
abbrev main_v14 : Ref sig .tc := ⟨.hbm, 58, rfl⟩
abbrev main_v15 : Ref sig .tc := ⟨.hbm, 59, rfl⟩
abbrev main_v11_scv : Ref sig .scVector := ⟨.hbm, 54, rfl⟩
abbrev main_v12_scv : Ref sig .scVector := ⟨.hbm, 55, rfl⟩
abbrev main_v4_scv : Ref sig .scVector := ⟨.hbm, 13, rfl⟩
abbrev main_v6_scv : Ref sig .scVector := ⟨.hbm, 32, rfl⟩
abbrev main_v7_scv : Ref sig .scVector := ⟨.hbm, 33, rfl⟩
abbrev main_v9_scv : Ref sig .scVector := ⟨.hbm, 52, rfl⟩
abbrev main_v10_scv : Ref sig .scVector := ⟨.hbm, 53, rfl⟩
abbrev main_v13_0_scv : Ref sig .scVector := ⟨.hbm, 56, rfl⟩
abbrev main_v13_1_scv : Ref sig .scVector := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x200x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x50x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x50 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

@[reducible] def k1_t1_loop : Scf.Loop 32 :=
  let c0_i32_0 : BitVec 32 := 0#32
  let c8_i32 : BitVec 32 := 8#32
  let v13 : BitVec 32 := Scalar.addi c0_i32_0 c8_i32
  let c1_i32_1 : BitVec 32 := 1#32
  ⟨c0_i32_0, v13, c1_i32_1⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32_1 : BitVec 32 := 1#32
  let arg22 : BitVec 32 := Scf.iv c0_i32_0 c1_i32_1 k1_t1
  let c16_i32 : BitVec 32 := 16#32
  let v14 : BitVec 32 := Scalar.muli arg22 c16_i32
  let v15 : BitVec 32 := Scalar.addi v2 v14
  let c200_i32_3 : BitVec 32 := 200#32
  let v16 : BitVec 32 := Scalar.muli v15 c200_i32_3
  ![v16.toNat]
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32_1 : BitVec 32 := 1#32
  let arg22 : BitVec 32 := Scf.iv c0_i32_0 c1_i32_1 k1_t1
  let c16_i32 : BitVec 32 := 16#32
  let v14 : BitVec 32 := Scalar.muli arg22 c16_i32
  let v15 : BitVec 32 := Scalar.addi v2 v14
  let c50_i32_4 : BitVec 32 := 50#32
  let v17 : BitVec 32 := Scalar.muli v15 c50_i32_4
  ![v17.toNat]
@[reducible] def k1_t2_loop : Scf.Loop 32 :=
  let c0_i32_92 : BitVec 32 := 0#32
  let c200_i32_93 : BitVec 32 := 200#32
  let v146 : BitVec 32 := Scalar.addi c0_i32_92 c200_i32_93
  let c1_i32_94 : BitVec 32 := 1#32
  ⟨c0_i32_92, v146, c1_i32_94⟩

def k1_chk1 (v152 : IVec S16 32) : Prop :=
  (∀ a x, ((![v152] : Fin 1 → IVec S16 32) a x).toNat < S3200.size a)
theorem k1_idx1_inb : ∀ (v152 : IVec S16 32) (k1_hw1 : k1_chk1 v152), ∀ a x, ((![v152] : Fin 1 → IVec S16 32) a x).toNat < S3200.size a := fun v152 k1_hw1 => k1_hw1

def k1_chk2 (v169 : IVec S16 32) : Prop :=
  (∀ a x, ((![v169] : Fin 1 → IVec S16 32) a x).toNat < S352.size a)
theorem k1_idx2_inb : ∀ (v169 : IVec S16 32) (k1_hw2 : k1_chk2 v169), ∀ a x, ((![v169] : Fin 1 → IVec S16 32) a x).toNat < S352.size a := fun v169 k1_hw2 => k1_hw2
@[reducible] def k1_t3_loop : Scf.Loop 32 :=
  let c0_i32_97 : BitVec 32 := 0#32
  let c50_i32_98 : BitVec 32 := 50#32
  let v147 : BitVec 32 := Scalar.addi c0_i32_97 c50_i32_98
  let c1_i32_99 : BitVec 32 := 1#32
  ⟨c0_i32_97, v147, c1_i32_99⟩

def k1_chk3 (v152 : IVec S16 32) : Prop :=
  (∀ a x, ((![v152] : Fin 1 → IVec S16 32) a x).toNat < S800.size a)
theorem k1_idx3_inb : ∀ (v152 : IVec S16 32) (k1_hw3 : k1_chk3 v152), ∀ a x, ((![v152] : Fin 1 → IVec S16 32) a x).toNat < S800.size a := fun v152 k1_hw3 => k1_hw3

def k1_chk4 (v169 : IVec S16 32) : Prop :=
  (∀ a x, ((![v169] : Fin 1 → IVec S16 32) a x).toNat < S672.size a)
theorem k1_idx4_inb : ∀ (v169 : IVec S16 32) (k1_hw4 : k1_chk4 v169), ∀ a x, ((![v169] : Fin 1 → IVec S16 32) a x).toNat < S672.size a := fun v169 k1_hw4 => k1_hw4
@[reducible] def k1_t4_loop : Scf.Loop 32 :=
  let c0_i32_102 : BitVec 32 := 0#32
  let c16_i32_103 : BitVec 32 := 16#32
  let v148 : BitVec 32 := Scalar.addi c0_i32_102 c16_i32_103
  let c1_i32_104 : BitVec 32 := 1#32
  ⟨c0_i32_102, v148, c1_i32_104⟩

def k1_chk5 (v160 : IVec S16 32) : Prop :=
  (∀ a x, ((![v160] : Fin 1 → IVec S16 32) a x).toNat < S352.size a)
theorem k1_idx5_inb : ∀ (v160 : IVec S16 32) (k1_hw5 : k1_chk5 v160), ∀ a x, ((![v160] : Fin 1 → IVec S16 32) a x).toNat < S352.size a := fun v160 k1_hw5 => k1_hw5

def k1_chk6 (v161 : IVec S16 32) : Prop :=
  (∀ a x, ((![v161] : Fin 1 → IVec S16 32) a x).toNat < S256.size a)
theorem k1_idx6_inb : ∀ (v161 : IVec S16 32) (k1_hw6 : k1_chk6 v161), ∀ a x, ((![v161] : Fin 1 → IVec S16 32) a x).toNat < S256.size a := fun v161 k1_hw6 => k1_hw6

def k1_chk7 (v165 : IVec S16 32) : Prop :=
  (∀ a x, ((![v165] : Fin 1 → IVec S16 32) a x).toNat < S1408.size a)
theorem k1_idx7_inb : ∀ (v165 : IVec S16 32) (k1_hw7 : k1_chk7 v165), ∀ a x, ((![v165] : Fin 1 → IVec S16 32) a x).toNat < S1408.size a := fun v165 k1_hw7 => k1_hw7

def k1_chk8 (v169 : IVec S16 32) : Prop :=
  (∀ a x, ((![v169] : Fin 1 → IVec S16 32) a x).toNat < S352.size a)
theorem k1_idx8_inb : ∀ (v169 : IVec S16 32) (k1_hw8 : k1_chk8 v169), ∀ a x, ((![v169] : Fin 1 → IVec S16 32) a x).toNat < S352.size a := fun v169 k1_hw8 => k1_hw8

def k1_chk9 (v170 : IVec S16 32) : Prop :=
  (∀ a x, ((![v170] : Fin 1 → IVec S16 32) a x).toNat < S256.size a)
theorem k1_idx9_inb : ∀ (v170 : IVec S16 32) (k1_hw9 : k1_chk9 v170), ∀ a x, ((![v170] : Fin 1 → IVec S16 32) a x).toNat < S256.size a := fun v170 k1_hw9 => k1_hw9

def k1_chk10 (v174 : IVec S16 32) : Prop :=
  (∀ a x, ((![v174] : Fin 1 → IVec S16 32) a x).toNat < S1408.size a)
theorem k1_idx10_inb : ∀ (v174 : IVec S16 32) (k1_hw10 : k1_chk10 v174), ∀ a x, ((![v174] : Fin 1 → IVec S16 32) a x).toNat < S1408.size a := fun v174 k1_hw10 => k1_hw10

def k1_chk11 (v178 : IVec S16 32) : Prop :=
  (∀ a x, ((![v178] : Fin 1 → IVec S16 32) a x).toNat < S352.size a)
theorem k1_idx11_inb : ∀ (v178 : IVec S16 32) (k1_hw11 : k1_chk11 v178), ∀ a x, ((![v178] : Fin 1 → IVec S16 32) a x).toNat < S352.size a := fun v178 k1_hw11 => k1_hw11

def k1_chk12 (v179 : IVec S16 32) : Prop :=
  (∀ a x, ((![v179] : Fin 1 → IVec S16 32) a x).toNat < S256.size a)
theorem k1_idx12_inb : ∀ (v179 : IVec S16 32) (k1_hw12 : k1_chk12 v179), ∀ a x, ((![v179] : Fin 1 → IVec S16 32) a x).toNat < S256.size a := fun v179 k1_hw12 => k1_hw12

def k1_chk13 (v183 : IVec S16 32) : Prop :=
  (∀ a x, ((![v183] : Fin 1 → IVec S16 32) a x).toNat < S1408.size a)
theorem k1_idx13_inb : ∀ (v183 : IVec S16 32) (k1_hw13 : k1_chk13 v183), ∀ a x, ((![v183] : Fin 1 → IVec S16 32) a x).toNat < S1408.size a := fun v183 k1_hw13 => k1_hw13

def k1_chk14 (v187 : IVec S16 32) : Prop :=
  (∀ a x, ((![v187] : Fin 1 → IVec S16 32) a x).toNat < S352.size a)
theorem k1_idx14_inb : ∀ (v187 : IVec S16 32) (k1_hw14 : k1_chk14 v187), ∀ a x, ((![v187] : Fin 1 → IVec S16 32) a x).toNat < S352.size a := fun v187 k1_hw14 => k1_hw14

def k1_chk15 (v188 : IVec S16 32) : Prop :=
  (∀ a x, ((![v188] : Fin 1 → IVec S16 32) a x).toNat < S256.size a)
theorem k1_idx15_inb : ∀ (v188 : IVec S16 32) (k1_hw15 : k1_chk15 v188), ∀ a x, ((![v188] : Fin 1 → IVec S16 32) a x).toNat < S256.size a := fun v188 k1_hw15 => k1_hw15

def k1_chk16 (v192 : IVec S16 32) : Prop :=
  (∀ a x, ((![v192] : Fin 1 → IVec S16 32) a x).toNat < S1408.size a)
theorem k1_idx16_inb : ∀ (v192 : IVec S16 32) (k1_hw16 : k1_chk16 v192), ∀ a x, ((![v192] : Fin 1 → IVec S16 32) a x).toNat < S1408.size a := fun v192 k1_hw16 => k1_hw16

def k1_chk17 (v196 : IVec S16 32) : Prop :=
  (∀ a x, ((![v196] : Fin 1 → IVec S16 32) a x).toNat < S352.size a)
theorem k1_idx17_inb : ∀ (v196 : IVec S16 32) (k1_hw17 : k1_chk17 v196), ∀ a x, ((![v196] : Fin 1 → IVec S16 32) a x).toNat < S352.size a := fun v196 k1_hw17 => k1_hw17

def k1_chk18 (v197 : IVec S16 32) : Prop :=
  (∀ a x, ((![v197] : Fin 1 → IVec S16 32) a x).toNat < S256.size a)
theorem k1_idx18_inb : ∀ (v197 : IVec S16 32) (k1_hw18 : k1_chk18 v197), ∀ a x, ((![v197] : Fin 1 → IVec S16 32) a x).toNat < S256.size a := fun v197 k1_hw18 => k1_hw18

def k1_chk19 (v201 : IVec S16 32) : Prop :=
  (∀ a x, ((![v201] : Fin 1 → IVec S16 32) a x).toNat < S1408.size a)
theorem k1_idx19_inb : ∀ (v201 : IVec S16 32) (k1_hw19 : k1_chk19 v201), ∀ a x, ((![v201] : Fin 1 → IVec S16 32) a x).toNat < S1408.size a := fun v201 k1_hw19 => k1_hw19

def k1_chk20 (v205 : IVec S16 32) : Prop :=
  (∀ a x, ((![v205] : Fin 1 → IVec S16 32) a x).toNat < S352.size a)
theorem k1_idx20_inb : ∀ (v205 : IVec S16 32) (k1_hw20 : k1_chk20 v205), ∀ a x, ((![v205] : Fin 1 → IVec S16 32) a x).toNat < S352.size a := fun v205 k1_hw20 => k1_hw20

def k1_chk21 (v206 : IVec S16 32) : Prop :=
  (∀ a x, ((![v206] : Fin 1 → IVec S16 32) a x).toNat < S256.size a)
theorem k1_idx21_inb : ∀ (v206 : IVec S16 32) (k1_hw21 : k1_chk21 v206), ∀ a x, ((![v206] : Fin 1 → IVec S16 32) a x).toNat < S256.size a := fun v206 k1_hw21 => k1_hw21

def k1_chk22 (v210 : IVec S16 32) : Prop :=
  (∀ a x, ((![v210] : Fin 1 → IVec S16 32) a x).toNat < S1408.size a)
theorem k1_idx22_inb : ∀ (v210 : IVec S16 32) (k1_hw22 : k1_chk22 v210), ∀ a x, ((![v210] : Fin 1 → IVec S16 32) a x).toNat < S1408.size a := fun v210 k1_hw22 => k1_hw22

def k1_chk23 (v214 : IVec S16 32) : Prop :=
  (∀ a x, ((![v214] : Fin 1 → IVec S16 32) a x).toNat < S672.size a)
theorem k1_idx23_inb : ∀ (v214 : IVec S16 32) (k1_hw23 : k1_chk23 v214), ∀ a x, ((![v214] : Fin 1 → IVec S16 32) a x).toNat < S672.size a := fun v214 k1_hw23 => k1_hw23

def k1_chk24 (v215 : IVec S16 32) : Prop :=
  (∀ a x, ((![v215] : Fin 1 → IVec S16 32) a x).toNat < S256.size a)
theorem k1_idx24_inb : ∀ (v215 : IVec S16 32) (k1_hw24 : k1_chk24 v215), ∀ a x, ((![v215] : Fin 1 → IVec S16 32) a x).toNat < S256.size a := fun v215 k1_hw24 => k1_hw24

def k1_chk25 (v219 : IVec S16 32) : Prop :=
  (∀ a x, ((![v219] : Fin 1 → IVec S16 32) a x).toNat < S5376.size a)
theorem k1_idx25_inb : ∀ (v219 : IVec S16 32) (k1_hw25 : k1_chk25 v219), ∀ a x, ((![v219] : Fin 1 → IVec S16 32) a x).toNat < S5376.size a := fun v219 k1_hw25 => k1_hw25

def k1_chk26 (v223 : IVec S16 32) : Prop :=
  (∀ a x, ((![v223] : Fin 1 → IVec S16 32) a x).toNat < S672.size a)
theorem k1_idx26_inb : ∀ (v223 : IVec S16 32) (k1_hw26 : k1_chk26 v223), ∀ a x, ((![v223] : Fin 1 → IVec S16 32) a x).toNat < S672.size a := fun v223 k1_hw26 => k1_hw26

def k1_chk27 (v224 : IVec S16 32) : Prop :=
  (∀ a x, ((![v224] : Fin 1 → IVec S16 32) a x).toNat < S256.size a)
theorem k1_idx27_inb : ∀ (v224 : IVec S16 32) (k1_hw27 : k1_chk27 v224), ∀ a x, ((![v224] : Fin 1 → IVec S16 32) a x).toNat < S256.size a := fun v224 k1_hw27 => k1_hw27

def k1_chk28 (v228 : IVec S16 32) : Prop :=
  (∀ a x, ((![v228] : Fin 1 → IVec S16 32) a x).toNat < S5376.size a)
theorem k1_idx28_inb : ∀ (v228 : IVec S16 32) (k1_hw28 : k1_chk28 v228), ∀ a x, ((![v228] : Fin 1 → IVec S16 32) a x).toNat < S5376.size a := fun v228 k1_hw28 => k1_hw28

def k1_chk29 (v232 : IVec S16 32) : Prop :=
  (∀ a x, ((![v232] : Fin 1 → IVec S16 32) a x).toNat < S672.size a)
theorem k1_idx29_inb : ∀ (v232 : IVec S16 32) (k1_hw29 : k1_chk29 v232), ∀ a x, ((![v232] : Fin 1 → IVec S16 32) a x).toNat < S672.size a := fun v232 k1_hw29 => k1_hw29

def k1_chk30 (v233 : IVec S16 32) : Prop :=
  (∀ a x, ((![v233] : Fin 1 → IVec S16 32) a x).toNat < S256.size a)
theorem k1_idx30_inb : ∀ (v233 : IVec S16 32) (k1_hw30 : k1_chk30 v233), ∀ a x, ((![v233] : Fin 1 → IVec S16 32) a x).toNat < S256.size a := fun v233 k1_hw30 => k1_hw30

def k1_chk31 (v237 : IVec S16 32) : Prop :=
  (∀ a x, ((![v237] : Fin 1 → IVec S16 32) a x).toNat < S5376.size a)
theorem k1_idx31_inb : ∀ (v237 : IVec S16 32) (k1_hw31 : k1_chk31 v237), ∀ a x, ((![v237] : Fin 1 → IVec S16 32) a x).toNat < S5376.size a := fun v237 k1_hw31 => k1_hw31

def k1_chk32 (v241 : IVec S16 32) : Prop :=
  (∀ a x, ((![v241] : Fin 1 → IVec S16 32) a x).toNat < S672.size a)
theorem k1_idx32_inb : ∀ (v241 : IVec S16 32) (k1_hw32 : k1_chk32 v241), ∀ a x, ((![v241] : Fin 1 → IVec S16 32) a x).toNat < S672.size a := fun v241 k1_hw32 => k1_hw32

def k1_chk33 (v242 : IVec S16 32) : Prop :=
  (∀ a x, ((![v242] : Fin 1 → IVec S16 32) a x).toNat < S256.size a)
theorem k1_idx33_inb : ∀ (v242 : IVec S16 32) (k1_hw33 : k1_chk33 v242), ∀ a x, ((![v242] : Fin 1 → IVec S16 32) a x).toNat < S256.size a := fun v242 k1_hw33 => k1_hw33

def k1_chk34 (v246 : IVec S16 32) : Prop :=
  (∀ a x, ((![v246] : Fin 1 → IVec S16 32) a x).toNat < S5376.size a)
theorem k1_idx34_inb : ∀ (v246 : IVec S16 32) (k1_hw34 : k1_chk34 v246), ∀ a x, ((![v246] : Fin 1 → IVec S16 32) a x).toNat < S5376.size a := fun v246 k1_hw34 => k1_hw34

def k1_chk35 (v250 : IVec S16 32) : Prop :=
  (∀ a x, ((![v250] : Fin 1 → IVec S16 32) a x).toNat < S672.size a)
theorem k1_idx35_inb : ∀ (v250 : IVec S16 32) (k1_hw35 : k1_chk35 v250), ∀ a x, ((![v250] : Fin 1 → IVec S16 32) a x).toNat < S672.size a := fun v250 k1_hw35 => k1_hw35

def k1_chk36 (v251 : IVec S16 32) : Prop :=
  (∀ a x, ((![v251] : Fin 1 → IVec S16 32) a x).toNat < S256.size a)
theorem k1_idx36_inb : ∀ (v251 : IVec S16 32) (k1_hw36 : k1_chk36 v251), ∀ a x, ((![v251] : Fin 1 → IVec S16 32) a x).toNat < S256.size a := fun v251 k1_hw36 => k1_hw36

def k1_chk37 (v255 : IVec S16 32) : Prop :=
  (∀ a x, ((![v255] : Fin 1 → IVec S16 32) a x).toNat < S5376.size a)
theorem k1_idx37_inb : ∀ (v255 : IVec S16 32) (k1_hw37 : k1_chk37 v255), ∀ a x, ((![v255] : Fin 1 → IVec S16 32) a x).toNat < S5376.size a := fun v255 k1_hw37 => k1_hw37

def k1_chk38 (v259 : IVec S16 32) : Prop :=
  (∀ a x, ((![v259] : Fin 1 → IVec S16 32) a x).toNat < S672.size a)
theorem k1_idx38_inb : ∀ (v259 : IVec S16 32) (k1_hw38 : k1_chk38 v259), ∀ a x, ((![v259] : Fin 1 → IVec S16 32) a x).toNat < S672.size a := fun v259 k1_hw38 => k1_hw38

def k1_chk39 (v260 : IVec S16 32) : Prop :=
  (∀ a x, ((![v260] : Fin 1 → IVec S16 32) a x).toNat < S256.size a)
theorem k1_idx39_inb : ∀ (v260 : IVec S16 32) (k1_hw39 : k1_chk39 v260), ∀ a x, ((![v260] : Fin 1 → IVec S16 32) a x).toNat < S256.size a := fun v260 k1_hw39 => k1_hw39

def k1_chk40 (v264 : IVec S16 32) : Prop :=
  (∀ a x, ((![v264] : Fin 1 → IVec S16 32) a x).toNat < S5376.size a)
theorem k1_idx40_inb : ∀ (v264 : IVec S16 32) (k1_hw40 : k1_chk40 v264), ∀ a x, ((![v264] : Fin 1 → IVec S16 32) a x).toNat < S5376.size a := fun v264 k1_hw40 => k1_hw40

def k1_chk41 (v268 : IVec S16 32) : Prop :=
  (∀ a x, ((![v268] : Fin 1 → IVec S16 32) a x).toNat < S672.size a)
theorem k1_idx41_inb : ∀ (v268 : IVec S16 32) (k1_hw41 : k1_chk41 v268), ∀ a x, ((![v268] : Fin 1 → IVec S16 32) a x).toNat < S672.size a := fun v268 k1_hw41 => k1_hw41

def k1_chk42 (v269 : IVec S16 32) : Prop :=
  (∀ a x, ((![v269] : Fin 1 → IVec S16 32) a x).toNat < S256.size a)
theorem k1_idx42_inb : ∀ (v269 : IVec S16 32) (k1_hw42 : k1_chk42 v269), ∀ a x, ((![v269] : Fin 1 → IVec S16 32) a x).toNat < S256.size a := fun v269 k1_hw42 => k1_hw42

def k1_chk43 (v273 : IVec S16 32) : Prop :=
  (∀ a x, ((![v273] : Fin 1 → IVec S16 32) a x).toNat < S5376.size a)
theorem k1_idx43_inb : ∀ (v273 : IVec S16 32) (k1_hw43 : k1_chk43 v273), ∀ a x, ((![v273] : Fin 1 → IVec S16 32) a x).toNat < S5376.size a := fun v273 k1_hw43 => k1_hw43

def k1_chk44 (v277 : IVec S16 32) : Prop :=
  (∀ a x, ((![v277] : Fin 1 → IVec S16 32) a x).toNat < S672.size a)
theorem k1_idx44_inb : ∀ (v277 : IVec S16 32) (k1_hw44 : k1_chk44 v277), ∀ a x, ((![v277] : Fin 1 → IVec S16 32) a x).toNat < S672.size a := fun v277 k1_hw44 => k1_hw44

def k1_chk45 (v278 : IVec S16 32) : Prop :=
  (∀ a x, ((![v278] : Fin 1 → IVec S16 32) a x).toNat < S256.size a)
theorem k1_idx45_inb : ∀ (v278 : IVec S16 32) (k1_hw45 : k1_chk45 v278), ∀ a x, ((![v278] : Fin 1 → IVec S16 32) a x).toNat < S256.size a := fun v278 k1_hw45 => k1_hw45

def k1_chk46 (v282 : IVec S16 32) : Prop :=
  (∀ a x, ((![v282] : Fin 1 → IVec S16 32) a x).toNat < S5376.size a)
theorem k1_idx46_inb : ∀ (v282 : IVec S16 32) (k1_hw46 : k1_chk46 v282), ∀ a x, ((![v282] : Fin 1 → IVec S16 32) a x).toNat < S5376.size a := fun v282 k1_hw46 => k1_hw46

def k1_chk47 (v286 : IVec S16 32) : Prop :=
  (∀ a x, ((![v286] : Fin 1 → IVec S16 32) a x).toNat < S672.size a)
theorem k1_idx47_inb : ∀ (v286 : IVec S16 32) (k1_hw47 : k1_chk47 v286), ∀ a x, ((![v286] : Fin 1 → IVec S16 32) a x).toNat < S672.size a := fun v286 k1_hw47 => k1_hw47

def k1_chk48 (v287 : IVec S16 32) : Prop :=
  (∀ a x, ((![v287] : Fin 1 → IVec S16 32) a x).toNat < S256.size a)
theorem k1_idx48_inb : ∀ (v287 : IVec S16 32) (k1_hw48 : k1_chk48 v287), ∀ a x, ((![v287] : Fin 1 → IVec S16 32) a x).toNat < S256.size a := fun v287 k1_hw48 => k1_hw48

def k1_chk49 (v291 : IVec S16 32) : Prop :=
  (∀ a x, ((![v291] : Fin 1 → IVec S16 32) a x).toNat < S5376.size a)
theorem k1_idx49_inb : ∀ (v291 : IVec S16 32) (k1_hw49 : k1_chk49 v291), ∀ a x, ((![v291] : Fin 1 → IVec S16 32) a x).toNat < S5376.size a := fun v291 k1_hw49 => k1_hw49

def k1_chk50 (v295 : IVec S16 32) : Prop :=
  (∀ a x, ((![v295] : Fin 1 → IVec S16 32) a x).toNat < S672.size a)
theorem k1_idx50_inb : ∀ (v295 : IVec S16 32) (k1_hw50 : k1_chk50 v295), ∀ a x, ((![v295] : Fin 1 → IVec S16 32) a x).toNat < S672.size a := fun v295 k1_hw50 => k1_hw50

def k1_chk51 (v296 : IVec S16 32) : Prop :=
  (∀ a x, ((![v296] : Fin 1 → IVec S16 32) a x).toNat < S256.size a)
theorem k1_idx51_inb : ∀ (v296 : IVec S16 32) (k1_hw51 : k1_chk51 v296), ∀ a x, ((![v296] : Fin 1 → IVec S16 32) a x).toNat < S256.size a := fun v296 k1_hw51 => k1_hw51

def k1_chk52 (v300 : IVec S16 32) : Prop :=
  (∀ a x, ((![v300] : Fin 1 → IVec S16 32) a x).toNat < S5376.size a)
theorem k1_idx52_inb : ∀ (v300 : IVec S16 32) (k1_hw52 : k1_chk52 v300), ∀ a x, ((![v300] : Fin 1 → IVec S16 32) a x).toNat < S5376.size a := fun v300 k1_hw52 => k1_hw52

def k1_chk53 (v304 : IVec S16 32) : Prop :=
  (∀ a x, ((![v304] : Fin 1 → IVec S16 32) a x).toNat < S672.size a)
theorem k1_idx53_inb : ∀ (v304 : IVec S16 32) (k1_hw53 : k1_chk53 v304), ∀ a x, ((![v304] : Fin 1 → IVec S16 32) a x).toNat < S672.size a := fun v304 k1_hw53 => k1_hw53

def k1_chk54 (v305 : IVec S16 32) : Prop :=
  (∀ a x, ((![v305] : Fin 1 → IVec S16 32) a x).toNat < S256.size a)
theorem k1_idx54_inb : ∀ (v305 : IVec S16 32) (k1_hw54 : k1_chk54 v305), ∀ a x, ((![v305] : Fin 1 → IVec S16 32) a x).toNat < S256.size a := fun v305 k1_hw54 => k1_hw54

def k1_chk55 (v309 : IVec S16 32) : Prop :=
  (∀ a x, ((![v309] : Fin 1 → IVec S16 32) a x).toNat < S5376.size a)
theorem k1_idx55_inb : ∀ (v309 : IVec S16 32) (k1_hw55 : k1_chk55 v309), ∀ a x, ((![v309] : Fin 1 → IVec S16 32) a x).toNat < S5376.size a := fun v309 k1_hw55 => k1_hw55

def k1_chk56 (v313 : IVec S16 32) : Prop :=
  (∀ a x, ((![v313] : Fin 1 → IVec S16 32) a x).toNat < S672.size a)
theorem k1_idx56_inb : ∀ (v313 : IVec S16 32) (k1_hw56 : k1_chk56 v313), ∀ a x, ((![v313] : Fin 1 → IVec S16 32) a x).toNat < S672.size a := fun v313 k1_hw56 => k1_hw56

def k1_chk57 (v314 : IVec S16 32) : Prop :=
  (∀ a x, ((![v314] : Fin 1 → IVec S16 32) a x).toNat < S256.size a)
theorem k1_idx57_inb : ∀ (v314 : IVec S16 32) (k1_hw57 : k1_chk57 v314), ∀ a x, ((![v314] : Fin 1 → IVec S16 32) a x).toNat < S256.size a := fun v314 k1_hw57 => k1_hw57

def k1_chk58 (v318 : IVec S16 32) : Prop :=
  (∀ a x, ((![v318] : Fin 1 → IVec S16 32) a x).toNat < S5376.size a)
theorem k1_idx58_inb : ∀ (v318 : IVec S16 32) (k1_hw58 : k1_chk58 v318), ∀ a x, ((![v318] : Fin 1 → IVec S16 32) a x).toNat < S5376.size a := fun v318 k1_hw58 => k1_hw58

def k1_chk59 (v322 : IVec S16 32) : Prop :=
  (∀ a x, ((![v322] : Fin 1 → IVec S16 32) a x).toNat < S672.size a)
theorem k1_idx59_inb : ∀ (v322 : IVec S16 32) (k1_hw59 : k1_chk59 v322), ∀ a x, ((![v322] : Fin 1 → IVec S16 32) a x).toNat < S672.size a := fun v322 k1_hw59 => k1_hw59

def k1_chk60 (v323 : IVec S16 32) : Prop :=
  (∀ a x, ((![v323] : Fin 1 → IVec S16 32) a x).toNat < S256.size a)
theorem k1_idx60_inb : ∀ (v323 : IVec S16 32) (k1_hw60 : k1_chk60 v323), ∀ a x, ((![v323] : Fin 1 → IVec S16 32) a x).toNat < S256.size a := fun v323 k1_hw60 => k1_hw60

def k1_chk61 (v327 : IVec S16 32) : Prop :=
  (∀ a x, ((![v327] : Fin 1 → IVec S16 32) a x).toNat < S5376.size a)
theorem k1_idx61_inb : ∀ (v327 : IVec S16 32) (k1_hw61 : k1_chk61 v327), ∀ a x, ((![v327] : Fin 1 → IVec S16 32) a x).toNat < S5376.size a := fun v327 k1_hw61 => k1_hw61

def k1_chk62 (v331 : IVec S16 32) : Prop :=
  (∀ a x, ((![v331] : Fin 1 → IVec S16 32) a x).toNat < S672.size a)
theorem k1_idx62_inb : ∀ (v331 : IVec S16 32) (k1_hw62 : k1_chk62 v331), ∀ a x, ((![v331] : Fin 1 → IVec S16 32) a x).toNat < S672.size a := fun v331 k1_hw62 => k1_hw62

def k1_chk63 (v332 : IVec S16 32) : Prop :=
  (∀ a x, ((![v332] : Fin 1 → IVec S16 32) a x).toNat < S256.size a)
theorem k1_idx63_inb : ∀ (v332 : IVec S16 32) (k1_hw63 : k1_chk63 v332), ∀ a x, ((![v332] : Fin 1 → IVec S16 32) a x).toNat < S256.size a := fun v332 k1_hw63 => k1_hw63

def k1_chk64 (v336 : IVec S16 32) : Prop :=
  (∀ a x, ((![v336] : Fin 1 → IVec S16 32) a x).toNat < S5376.size a)
theorem k1_idx64_inb : ∀ (v336 : IVec S16 32) (k1_hw64 : k1_chk64 v336), ∀ a x, ((![v336] : Fin 1 → IVec S16 32) a x).toNat < S5376.size a := fun v336 k1_hw64 => k1_hw64

def k1_chk65 (v340 : IVec S16 32) : Prop :=
  (∀ a x, ((![v340] : Fin 1 → IVec S16 32) a x).toNat < S672.size a)
theorem k1_idx65_inb : ∀ (v340 : IVec S16 32) (k1_hw65 : k1_chk65 v340), ∀ a x, ((![v340] : Fin 1 → IVec S16 32) a x).toNat < S672.size a := fun v340 k1_hw65 => k1_hw65

def k1_chk66 (v341 : IVec S16 32) : Prop :=
  (∀ a x, ((![v341] : Fin 1 → IVec S16 32) a x).toNat < S256.size a)
theorem k1_idx66_inb : ∀ (v341 : IVec S16 32) (k1_hw66 : k1_chk66 v341), ∀ a x, ((![v341] : Fin 1 → IVec S16 32) a x).toNat < S256.size a := fun v341 k1_hw66 => k1_hw66

def k1_chk67 (v345 : IVec S16 32) : Prop :=
  (∀ a x, ((![v345] : Fin 1 → IVec S16 32) a x).toNat < S5376.size a)
theorem k1_idx67_inb : ∀ (v345 : IVec S16 32) (k1_hw67 : k1_chk67 v345), ∀ a x, ((![v345] : Fin 1 → IVec S16 32) a x).toNat < S5376.size a := fun v345 k1_hw67 => k1_hw67

def k1_chk68 (v349 : IVec S16 32) : Prop :=
  (∀ a x, ((![v349] : Fin 1 → IVec S16 32) a x).toNat < S672.size a)
theorem k1_idx68_inb : ∀ (v349 : IVec S16 32) (k1_hw68 : k1_chk68 v349), ∀ a x, ((![v349] : Fin 1 → IVec S16 32) a x).toNat < S672.size a := fun v349 k1_hw68 => k1_hw68

def k1_chk69 (v350 : IVec S16 32) : Prop :=
  (∀ a x, ((![v350] : Fin 1 → IVec S16 32) a x).toNat < S256.size a)
theorem k1_idx69_inb : ∀ (v350 : IVec S16 32) (k1_hw69 : k1_chk69 v350), ∀ a x, ((![v350] : Fin 1 → IVec S16 32) a x).toNat < S256.size a := fun v350 k1_hw69 => k1_hw69

def k1_chk70 (v354 : IVec S16 32) : Prop :=
  (∀ a x, ((![v354] : Fin 1 → IVec S16 32) a x).toNat < S5376.size a)
theorem k1_idx70_inb : ∀ (v354 : IVec S16 32) (k1_hw70 : k1_chk70 v354), ∀ a x, ((![v354] : Fin 1 → IVec S16 32) a x).toNat < S5376.size a := fun v354 k1_hw70 => k1_hw70

def k1_chk71 (v358 : IVec S16 32) : Prop :=
  (∀ a x, ((![v358] : Fin 1 → IVec S16 32) a x).toNat < S672.size a)
theorem k1_idx71_inb : ∀ (v358 : IVec S16 32) (k1_hw71 : k1_chk71 v358), ∀ a x, ((![v358] : Fin 1 → IVec S16 32) a x).toNat < S672.size a := fun v358 k1_hw71 => k1_hw71

def k1_chk72 (v359 : IVec S16 32) : Prop :=
  (∀ a x, ((![v359] : Fin 1 → IVec S16 32) a x).toNat < S256.size a)
theorem k1_idx72_inb : ∀ (v359 : IVec S16 32) (k1_hw72 : k1_chk72 v359), ∀ a x, ((![v359] : Fin 1 → IVec S16 32) a x).toNat < S256.size a := fun v359 k1_hw72 => k1_hw72

def k1_chk73 (v363 : IVec S16 32) : Prop :=
  (∀ a x, ((![v363] : Fin 1 → IVec S16 32) a x).toNat < S5376.size a)
theorem k1_idx73_inb : ∀ (v363 : IVec S16 32) (k1_hw73 : k1_chk73 v363), ∀ a x, ((![v363] : Fin 1 → IVec S16 32) a x).toNat < S5376.size a := fun v363 k1_hw73 => k1_hw73

def k1_chk74 (v367 : IVec S16 32) : Prop :=
  (∀ a x, ((![v367] : Fin 1 → IVec S16 32) a x).toNat < S672.size a)
theorem k1_idx74_inb : ∀ (v367 : IVec S16 32) (k1_hw74 : k1_chk74 v367), ∀ a x, ((![v367] : Fin 1 → IVec S16 32) a x).toNat < S672.size a := fun v367 k1_hw74 => k1_hw74

def k1_chk75 (v368 : IVec S16 32) : Prop :=
  (∀ a x, ((![v368] : Fin 1 → IVec S16 32) a x).toNat < S256.size a)
theorem k1_idx75_inb : ∀ (v368 : IVec S16 32) (k1_hw75 : k1_chk75 v368), ∀ a x, ((![v368] : Fin 1 → IVec S16 32) a x).toNat < S256.size a := fun v368 k1_hw75 => k1_hw75

def k1_chk76 (v372 : IVec S16 32) : Prop :=
  (∀ a x, ((![v372] : Fin 1 → IVec S16 32) a x).toNat < S5376.size a)
theorem k1_idx76_inb : ∀ (v372 : IVec S16 32) (k1_hw76 : k1_chk76 v372), ∀ a x, ((![v372] : Fin 1 → IVec S16 32) a x).toNat < S5376.size a := fun v372 k1_hw76 => k1_hw76

def k1_chk77 (v376 : IVec S16 32) : Prop :=
  (∀ a x, ((![v376] : Fin 1 → IVec S16 32) a x).toNat < S672.size a)
theorem k1_idx77_inb : ∀ (v376 : IVec S16 32) (k1_hw77 : k1_chk77 v376), ∀ a x, ((![v376] : Fin 1 → IVec S16 32) a x).toNat < S672.size a := fun v376 k1_hw77 => k1_hw77

def k1_chk78 (v377 : IVec S16 32) : Prop :=
  (∀ a x, ((![v377] : Fin 1 → IVec S16 32) a x).toNat < S256.size a)
theorem k1_idx78_inb : ∀ (v377 : IVec S16 32) (k1_hw78 : k1_chk78 v377), ∀ a x, ((![v377] : Fin 1 → IVec S16 32) a x).toNat < S256.size a := fun v377 k1_hw78 => k1_hw78

def k1_chk79 (v381 : IVec S16 32) : Prop :=
  (∀ a x, ((![v381] : Fin 1 → IVec S16 32) a x).toNat < S5376.size a)
theorem k1_idx79_inb : ∀ (v381 : IVec S16 32) (k1_hw79 : k1_chk79 v381), ∀ a x, ((![v381] : Fin 1 → IVec S16 32) a x).toNat < S5376.size a := fun v381 k1_hw79 => k1_hw79

def k1_chk80 (v385 : IVec S16 32) : Prop :=
  (∀ a x, ((![v385] : Fin 1 → IVec S16 32) a x).toNat < S672.size a)
theorem k1_idx80_inb : ∀ (v385 : IVec S16 32) (k1_hw80 : k1_chk80 v385), ∀ a x, ((![v385] : Fin 1 → IVec S16 32) a x).toNat < S672.size a := fun v385 k1_hw80 => k1_hw80

def k1_chk81 (v386 : IVec S16 32) : Prop :=
  (∀ a x, ((![v386] : Fin 1 → IVec S16 32) a x).toNat < S256.size a)
theorem k1_idx81_inb : ∀ (v386 : IVec S16 32) (k1_hw81 : k1_chk81 v386), ∀ a x, ((![v386] : Fin 1 → IVec S16 32) a x).toNat < S256.size a := fun v386 k1_hw81 => k1_hw81

def k1_chk82 (v390 : IVec S16 32) : Prop :=
  (∀ a x, ((![v390] : Fin 1 → IVec S16 32) a x).toNat < S5376.size a)
theorem k1_idx82_inb : ∀ (v390 : IVec S16 32) (k1_hw82 : k1_chk82 v390), ∀ a x, ((![v390] : Fin 1 → IVec S16 32) a x).toNat < S5376.size a := fun v390 k1_hw82 => k1_hw82

def k1_chk83 (v394 : IVec S16 32) : Prop :=
  (∀ a x, ((![v394] : Fin 1 → IVec S16 32) a x).toNat < S672.size a)
theorem k1_idx83_inb : ∀ (v394 : IVec S16 32) (k1_hw83 : k1_chk83 v394), ∀ a x, ((![v394] : Fin 1 → IVec S16 32) a x).toNat < S672.size a := fun v394 k1_hw83 => k1_hw83

def k1_chk84 (v395 : IVec S16 32) : Prop :=
  (∀ a x, ((![v395] : Fin 1 → IVec S16 32) a x).toNat < S256.size a)
theorem k1_idx84_inb : ∀ (v395 : IVec S16 32) (k1_hw84 : k1_chk84 v395), ∀ a x, ((![v395] : Fin 1 → IVec S16 32) a x).toNat < S256.size a := fun v395 k1_hw84 => k1_hw84

def k1_chk85 (v399 : IVec S16 32) : Prop :=
  (∀ a x, ((![v399] : Fin 1 → IVec S16 32) a x).toNat < S5376.size a)
theorem k1_idx85_inb : ∀ (v399 : IVec S16 32) (k1_hw85 : k1_chk85 v399), ∀ a x, ((![v399] : Fin 1 → IVec S16 32) a x).toNat < S5376.size a := fun v399 k1_hw85 => k1_hw85
def k1_off3 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32_1 : BitVec 32 := 1#32
  let arg22 : BitVec 32 := Scf.iv c0_i32_0 c1_i32_1 k1_t1
  let c16_i32 : BitVec 32 := 16#32
  let v14 : BitVec 32 := Scalar.muli arg22 c16_i32
  let v15 : BitVec 32 := Scalar.addi v2 v14
  let c88_i32 : BitVec 32 := 88#32
  let v149 : BitVec 32 := Scalar.muli v15 c88_i32
  ![v149.toNat]
def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32_1 : BitVec 32 := 1#32
  let arg22 : BitVec 32 := Scf.iv c0_i32_0 c1_i32_1 k1_t1
  let c16_i32 : BitVec 32 := 16#32
  let v14 : BitVec 32 := Scalar.muli arg22 c16_i32
  let v15 : BitVec 32 := Scalar.addi v2 v14
  let c336_i32 : BitVec 32 := 336#32
  let v150 : BitVec 32 := Scalar.muli v15 c336_i32
  ![v150.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x32 : Shape := ⟨2, ![4096, 32]⟩
abbrev S4096x200x32 : Shape := ⟨3, ![4096, 200, 32]⟩
abbrev S4096x50x32 : Shape := ⟨3, ![4096, 50, 32]⟩
abbrev S4096x200 : Shape := ⟨2, ![4096, 200]⟩
abbrev S4096x50 : Shape := ⟨2, ![4096, 50]⟩
abbrev S1x22x4 : Shape := ⟨3, ![1, 22, 4]⟩
abbrev S1x42x8 : Shape := ⟨3, ![1, 42, 8]⟩
abbrev S_ : Shape := ⟨0, ![]⟩
abbrev S4096 : Shape := ⟨1, ![4096]⟩
abbrev S4096x1 : Shape := ⟨2, ![4096, 1]⟩
abbrev S4096x200x1 : Shape := ⟨3, ![4096, 200, 1]⟩
abbrev S4096x1x32 : Shape := ⟨3, ![4096, 1, 32]⟩
abbrev S4096x50x1 : Shape := ⟨3, ![4096, 50, 1]⟩
abbrev S22 : Shape := ⟨1, ![22]⟩
abbrev S1x22x1 : Shape := ⟨3, ![1, 22, 1]⟩
abbrev S4096x1x200 : Shape := ⟨3, ![4096, 1, 200]⟩
abbrev S4096x22x200 : Shape := ⟨3, ![4096, 22, 200]⟩
abbrev S4096x22 : Shape := ⟨2, ![4096, 22]⟩
abbrev S4096x22x1 : Shape := ⟨3, ![4096, 22, 1]⟩
abbrev S4096x22x4 : Shape := ⟨3, ![4096, 22, 4]⟩
abbrev S4096x88 : Shape := ⟨2, ![4096, 88]⟩
abbrev S42 : Shape := ⟨1, ![42]⟩
abbrev S1x42x1 : Shape := ⟨3, ![1, 42, 1]⟩
abbrev S4096x1x50 : Shape := ⟨3, ![4096, 1, 50]⟩
abbrev S4096x42x50 : Shape := ⟨3, ![4096, 42, 50]⟩
abbrev S4096x42 : Shape := ⟨2, ![4096, 42]⟩
abbrev S4096x42x1 : Shape := ⟨3, ![4096, 42, 1]⟩
abbrev S4096x42x8 : Shape := ⟨3, ![4096, 42, 8]⟩
abbrev S4096x336 : Shape := ⟨2, ![4096, 336]⟩

abbrev nBuf : Space → Nat
  | .hbm => 111
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S4096x200x32, .f32⟩
  | .hbm, ⟨2, _⟩ => ⟨S4096x50x32, .f32⟩
  | .hbm, ⟨3, _⟩ => ⟨S4096x200, .f32⟩
  | .hbm, ⟨4, _⟩ => ⟨S4096x50, .f32⟩
  | .hbm, ⟨5, _⟩ => ⟨S1x22x4, .f32⟩
  | .hbm, ⟨6, _⟩ => ⟨S1x42x8, .f32⟩
  | .hbm, ⟨7, _⟩ => ⟨S4096x32, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x32, .f32⟩
  | .hbm, ⟨16, _⟩ => ⟨S4096x32, .f32⟩
  | .hbm, ⟨17, _⟩ => ⟨S4096x200x32, .f32⟩
  | .hbm, ⟨18, _⟩ => ⟨S_, .f32⟩
  | .hbm, ⟨19, _⟩ => ⟨S4096x200, .f32⟩
  | .hbm, ⟨20, _⟩ => ⟨S4096x200x1, .f32⟩
  | .hbm, ⟨21, _⟩ => ⟨S4096x200x1, .f32⟩
  | .hbm, ⟨22, _⟩ => ⟨S_, .f32⟩
  | .hbm, ⟨23, _⟩ => ⟨S4096x200x1, .f32⟩
  | .hbm, ⟨24, _⟩ => ⟨S4096x200x1, .f32⟩
  | .hbm, ⟨25, _⟩ => ⟨S4096x200x32, .f32⟩
  | .hbm, ⟨26, _⟩ => ⟨S4096x200x32, .f32⟩
  | .hbm, ⟨27, _⟩ => ⟨S4096x1x32, .f32⟩
  | .hbm, ⟨28, _⟩ => ⟨S4096x200x32, .f32⟩
  | .hbm, ⟨29, _⟩ => ⟨S4096x200x32, .f32⟩
  | .hbm, ⟨30, _⟩ => ⟨S_, .f32⟩
  | .hbm, ⟨31, _⟩ => ⟨S4096x200, .f32⟩
  | .hbm, ⟨32, _⟩ => ⟨S4096x200, .f32⟩
  | .hbm, ⟨33, _⟩ => ⟨S4096x32, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x32, .f32⟩
  | .hbm, ⟨42, _⟩ => ⟨S4096x32, .f32⟩
  | .hbm, ⟨43, _⟩ => ⟨S4096x50x32, .f32⟩
  | .hbm, ⟨44, _⟩ => ⟨S_, .f32⟩
  | .hbm, ⟨45, _⟩ => ⟨S4096x50, .f32⟩
  | .hbm, ⟨46, _⟩ => ⟨S4096x50x1, .f32⟩
  | .hbm, ⟨47, _⟩ => ⟨S4096x50x1, .f32⟩
  | .hbm, ⟨48, _⟩ => ⟨S_, .f32⟩
  | .hbm, ⟨49, _⟩ => ⟨S4096x50x1, .f32⟩
  | .hbm, ⟨50, _⟩ => ⟨S4096x50x1, .f32⟩
  | .hbm, ⟨51, _⟩ => ⟨S4096x50x32, .f32⟩
  | .hbm, ⟨52, _⟩ => ⟨S4096x50x32, .f32⟩
  | .hbm, ⟨53, _⟩ => ⟨S4096x1x32, .f32⟩
  | .hbm, ⟨54, _⟩ => ⟨S4096x50x32, .f32⟩
  | .hbm, ⟨55, _⟩ => ⟨S4096x50x32, .f32⟩
  | .hbm, ⟨56, _⟩ => ⟨S_, .f32⟩
  | .hbm, ⟨57, _⟩ => ⟨S4096x50, .f32⟩
  | .hbm, ⟨58, _⟩ => ⟨S4096x50, .f32⟩
  | .hbm, ⟨59, _⟩ => ⟨S_, .f32⟩
  | .hbm, ⟨60, _⟩ => ⟨S4096x200, .f32⟩
  | .hbm, ⟨61, _⟩ => ⟨S4096x200, .f32⟩
  | .hbm, ⟨62, _⟩ => ⟨S4096x200, .f32⟩
  | .hbm, ⟨63, _⟩ => ⟨S4096x200, .i32⟩
  | .hbm, ⟨64, _⟩ => ⟨S_, .i32⟩
  | .hbm, ⟨65, _⟩ => ⟨S4096x200, .i32⟩
  | .hbm, ⟨66, _⟩ => ⟨S4096x200, .i32⟩
  | .hbm, ⟨67, _⟩ => ⟨S22, .i32⟩
  | .hbm, ⟨68, _⟩ => ⟨S1x22x1, .i32⟩
  | .hbm, ⟨69, _⟩ => ⟨S4096x1x200, .i32⟩
  | .hbm, ⟨70, _⟩ => ⟨S4096x22x200, .i32⟩
  | .hbm, ⟨71, _⟩ => ⟨S4096x22x200, .i32⟩
  | .hbm, ⟨72, _⟩ => ⟨S4096x22x200, .i1⟩
  | .hbm, ⟨73, _⟩ => ⟨S4096x22x200, .f32⟩
  | .hbm, ⟨74, _⟩ => ⟨S_, .f32⟩
  | .hbm, ⟨75, _⟩ => ⟨S4096x22, .f32⟩
  | .hbm, ⟨76, _⟩ => ⟨S4096x22x1, .f32⟩
  | .hbm, ⟨77, _⟩ => ⟨S_, .f32⟩
  | .hbm, ⟨78, _⟩ => ⟨S4096x22x1, .f32⟩
  | .hbm, ⟨79, _⟩ => ⟨S4096x22x1, .f32⟩
  | .hbm, ⟨80, _⟩ => ⟨S4096x22x1, .f32⟩
  | .hbm, ⟨81, _⟩ => ⟨S4096x22x4, .f32⟩
  | .hbm, ⟨82, _⟩ => ⟨S4096x22x4, .f32⟩
  | .hbm, ⟨83, _⟩ => ⟨S4096x22x4, .f32⟩
  | .hbm, ⟨84, _⟩ => ⟨S4096x88, .f32⟩
  | .hbm, ⟨85, _⟩ => ⟨S_, .f32⟩
  | .hbm, ⟨86, _⟩ => ⟨S4096x50, .f32⟩
  | .hbm, ⟨87, _⟩ => ⟨S4096x50, .f32⟩
  | .hbm, ⟨88, _⟩ => ⟨S4096x50, .f32⟩
  | .hbm, ⟨89, _⟩ => ⟨S4096x50, .i32⟩
  | .hbm, ⟨90, _⟩ => ⟨S_, .i32⟩
  | .hbm, ⟨91, _⟩ => ⟨S4096x50, .i32⟩
  | .hbm, ⟨92, _⟩ => ⟨S4096x50, .i32⟩
  | .hbm, ⟨93, _⟩ => ⟨S42, .i32⟩
  | .hbm, ⟨94, _⟩ => ⟨S1x42x1, .i32⟩
  | .hbm, ⟨95, _⟩ => ⟨S4096x1x50, .i32⟩
  | .hbm, ⟨96, _⟩ => ⟨S4096x42x50, .i32⟩
  | .hbm, ⟨97, _⟩ => ⟨S4096x42x50, .i32⟩
  | .hbm, ⟨98, _⟩ => ⟨S4096x42x50, .i1⟩
  | .hbm, ⟨99, _⟩ => ⟨S4096x42x50, .f32⟩
  | .hbm, ⟨100, _⟩ => ⟨S_, .f32⟩
  | .hbm, ⟨101, _⟩ => ⟨S4096x42, .f32⟩
  | .hbm, ⟨102, _⟩ => ⟨S4096x42x1, .f32⟩
  | .hbm, ⟨103, _⟩ => ⟨S_, .f32⟩
  | .hbm, ⟨104, _⟩ => ⟨S4096x42x1, .f32⟩
  | .hbm, ⟨105, _⟩ => ⟨S4096x42x1, .f32⟩
  | .hbm, ⟨106, _⟩ => ⟨S4096x42x1, .f32⟩
  | .hbm, ⟨107, _⟩ => ⟨S4096x42x8, .f32⟩
  | .hbm, ⟨108, _⟩ => ⟨S4096x42x8, .f32⟩
  | .hbm, ⟨109, _⟩ => ⟨S4096x42x8, .f32⟩
  | .hbm, ⟨110, _⟩ => ⟨S4096x336, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_call2_v0 : Ref sig .tc := ⟨.hbm, 33, rfl⟩
abbrev main_call2_cst : Ref sig .tc := ⟨.hbm, 34, rfl⟩
abbrev main_call2_v1 : Ref sig .tc := ⟨.hbm, 35, rfl⟩
abbrev main_call2_v2 : Ref sig .tc := ⟨.hbm, 36, rfl⟩
abbrev main_v15 : Ref sig .tc := ⟨.hbm, 37, rfl⟩
abbrev main_cst_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_call3_v0 : Ref sig .tc := ⟨.hbm, 43, rfl⟩
abbrev main_call3_cst : Ref sig .tc := ⟨.hbm, 44, rfl⟩
abbrev main_call3_v1 : Ref sig .tc := ⟨.hbm, 45, rfl⟩
abbrev main_call3_v2 : Ref sig .tc := ⟨.hbm, 46, rfl⟩
abbrev main_v20 : Ref sig .tc := ⟨.hbm, 47, rfl⟩
abbrev main_cst_3 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_4 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_6 : Ref sig .tc := ⟨.hbm, 74, rfl⟩
abbrev main_v43 : Ref sig .tc := ⟨.hbm, 75, rfl⟩
abbrev main_v44 : Ref sig .tc := ⟨.hbm, 76, rfl⟩
abbrev main_cst_7 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_8 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_9 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_10 : Ref sig .tc := ⟨.hbm, 100, rfl⟩
abbrev main_v65 : Ref sig .tc := ⟨.hbm, 101, rfl⟩
abbrev main_v66 : Ref sig .tc := ⟨.hbm, 102, rfl⟩
abbrev main_cst_11 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]
-- ==== Proof.Lanes.lean ====
/-
  Rank-one arrays by position, and the scatter of sixteen lanes that name distinct positions: what
  `vector_load_idx` and `vector_store_idx` read and leave, position by position.
-/
module

public import Idealize.ShloMosaic.Lib.SparseCore

@[expose] public section

namespace Cert.Proof.Lanes

open Idealize.ShloMosaic

variable {F : FTy → Type}

/-- Position `k` of a rank-one array. -/
def ix1 {n : Nat} (k : Nat) (h : k < n) : (⟨1, ![n]⟩ : Shape).Idx := fun a => ⟨k, by rw [Fin.eq_zero a]; exact h⟩

/-- Two positions of a rank-one array with one number are one position. -/
theorem idx1_ext {n : Nat} {i j : (⟨1, ![n]⟩ : Shape).Idx} (h : (i 0).val = (j 0).val) : i = j := by
  funext a; rw [Fin.eq_zero a]; exact Fin.ext h

theorem ix1_val {n k : Nat} (h : k < n) : ((ix1 k h : (⟨1, ![n]⟩ : Shape).Idx) 0).val = k := rfl

theorem ix1_eta {n : Nat} (j : (⟨1, ![n]⟩ : Shape).Idx) (h : (j 0).val < n) : ix1 (j 0).val h = j := idx1_ext rfl

theorem idx1_lt {n : Nat} (j : (⟨1, ![n]⟩ : Shape).Idx) : (j 0).val < n := (j 0).isLt

/-- A rank-one array given by a function of the position. -/
def vec1 {n : Nat} {α : Type} (g : Nat → α) : (⟨1, ![n]⟩ : Shape).Idx → α := fun j => g (j 0).val

/-- A nonempty rank-one array as a function of the position, read around past its end. -/
def nat1 {n : Nat} [NeZero n] {α : Type} (f : (⟨1, ![n]⟩ : Shape).Idx → α) : Nat → α :=
  fun k => f (ix1 (k % n) (Nat.mod_lt _ (Nat.pos_of_ne_zero (NeZero.ne n))))

theorem nat1_of_lt {n : Nat} [NeZero n] {α : Type} (f : (⟨1, ![n]⟩ : Shape).Idx → α) {k : Nat} (h : k < n) : nat1 f k = f (ix1 k h) := by
  unfold nat1; congr 1; exact idx1_ext (Nat.mod_eq_of_lt h)

theorem nat1_idx {n : Nat} [NeZero n] {α : Type} (f : (⟨1, ![n]⟩ : Shape).Idx → α) (j : (⟨1, ![n]⟩ : Shape).Idx) : nat1 f (j 0).val = f j := by
  rw [nat1_of_lt f (idx1_lt j), ix1_eta]

theorem vec1_nat1 {n : Nat} [NeZero n] {α : Type} (f : (⟨1, ![n]⟩ : Shape).Idx → α) : vec1 (nat1 f) = f := funext fun j => nat1_idx f j

theorem nat1_vec1 {n : Nat} [NeZero n] {α : Type} (g : Nat → α) {k : Nat} (h : k < n) : nat1 (n := n) (vec1 g) k = g k := by
  rw [nat1_of_lt _ h]; rfl

/-- A gather out of a rank-one array reads the named position. -/
theorem loadIdx_apply {n m : Nat} {e : EltTy} (f : Vec F ⟨1, ![n]⟩ e) (v : IVec ⟨1, ![m]⟩ 32)
    (h : ∀ a x, ((![v] : Fin 1 → IVec ⟨1, ![m]⟩ 32) a x).toNat < (⟨1, ![n]⟩ : Shape).size a) (x : (⟨1, ![m]⟩ : Shape).Idx) :
    loadIdx f ![v] h x = f (ix1 (v x).toNat (h 0 x)) := by
  unfold loadIdx; congr 1; exact idx1_ext rfl

section Scatter

variable [FloatOps F] {n m : Nat} {e : EltTy}
variable (v : IVec ⟨1, ![m]⟩ 32) (p : Vec F ⟨1, ![m]⟩ e) (add : Bool)
variable (h : ∀ a x, ((![v] : Fin 1 → IVec ⟨1, ![m]⟩ 32) a x).toNat < (⟨1, ![n]⟩ : Shape).size a)

/-- What lane `k` of the scatter leaves. -/
private def lane (g : Vec F ⟨1, ![n]⟩ e) (k : Fin m) : Vec F ⟨1, ![n]⟩ e :=
  fun j => if (j 0).val = (v (ix1 k.val k.isLt)).toNat then
      (if add then Elt.idxAdd e (g (ix1 (v (ix1 k.val k.isLt)).toNat (h 0 _))) (p (ix1 k.val k.isLt)) else p (ix1 k.val k.isLt))
    else g j

private theorem storeIdx_eq_lanes (f : Vec F ⟨1, ![n]⟩ e) :
    storeIdx f ![v] p (fun _ => 1#1) add h = (List.finRange m).foldl (lane v p add h) f := by
  unfold storeIdx
  show (List.finRange m).foldl _ f = _
  congr 1
  funext g k
  have hk : (Shape.ofLane (d := ![m]) k : (⟨1, ![m]⟩ : Shape).Idx) = ix1 k.val k.isLt := idx1_ext rfl
  simp only [hk]
  funext j
  unfold lane
  have hq : (∀ a, (j a).val = (idxAt (s := ⟨1, ![n]⟩) ![v] h (ix1 k.val k.isLt) a).val) ↔ (j 0).val = (v (ix1 k.val k.isLt)).toNat :=
    ⟨fun hh => hh 0, fun hh a => by rw [Fin.eq_zero a]; exact hh⟩
  have hi : idxAt (s := ⟨1, ![n]⟩) ![v] h (ix1 k.val k.isLt) = ix1 (v (ix1 k.val k.isLt)).toNat (h 0 _) := idx1_ext rfl
  refine (congrFun (if_pos rfl) j).trans ?_
  by_cases hc : (j 0).val = (v (ix1 k.val k.isLt)).toNat
  · refine (if_pos (hq.mpr hc)).trans ((if_pos hc).trans ?_).symm
    exact congrArg (fun i => if add = true then Elt.idxAdd e (g i) (p (ix1 k.val k.isLt)) else p (ix1 k.val k.isLt)) hi.symm
  · exact (if_neg fun hh => hc (hq.mp hh)).trans (if_neg hc).symm

private theorem lanes_miss (j : (⟨1, ![n]⟩ : Shape).Idx) (l : List (Fin m)) (f : Vec F ⟨1, ![n]⟩ e)
    (hj : ∀ k ∈ l, (j 0).val ≠ (v (ix1 k.val k.isLt)).toNat) : l.foldl (lane v p add h) f j = f j := by
  induction l generalizing f with
  | nil => rfl
  | cons k l ih =>
    rw [List.foldl_cons, ih _ fun k' hk' => hj k' (List.mem_cons_of_mem _ hk')]
    exact if_neg (hj k List.mem_cons_self)

private theorem lanes_hit (j : (⟨1, ![n]⟩ : Shape).Idx) (x : Fin m) (hx : (j 0).val = (v (ix1 x.val x.isLt)).toNat)
    (hinj : ∀ k : Fin m, (j 0).val = (v (ix1 k.val k.isLt)).toNat → k = x) (l : List (Fin m)) (hl : l.Nodup) (hxl : x ∈ l) (f : Vec F ⟨1, ![n]⟩ e) :
    l.foldl (lane v p add h) f j = if add then Elt.idxAdd e (f j) (p (ix1 x.val x.isLt)) else p (ix1 x.val x.isLt) := by
  induction l generalizing f with
  | nil => exact absurd hxl List.not_mem_nil
  | cons k l ih =>
    rw [List.foldl_cons]
    obtain ⟨hkl, hl'⟩ := List.nodup_cons.mp hl
    by_cases hk : k = x
    · subst hk
      rw [lanes_miss v p add h j l _ fun k' hk' e' => hkl (hinj k' e' ▸ hk')]
      unfold lane
      rw [if_pos hx, show (ix1 (v (ix1 k.val k.isLt)).toNat (h 0 _) : (⟨1, ![n]⟩ : Shape).Idx) = j from idx1_ext hx.symm]
    · rw [ih hl' ((List.mem_cons.mp hxl).resolve_left fun e' => hk e'.symm)]
      rw [show lane v p add h f k j = f j from if_neg fun e' => hk (hinj k e')]

/-- A position no lane names keeps its element. -/
theorem storeIdx_miss (f : Vec F ⟨1, ![n]⟩ e) (j : (⟨1, ![n]⟩ : Shape).Idx) (hj : ∀ x, (v x).toNat ≠ (j 0).val) :
    storeIdx f ![v] p (fun _ => 1#1) add h j = f j := by
  rw [storeIdx_eq_lanes]; exact lanes_miss v p add h j _ f fun k _ e' => hj _ e'.symm

/-- A position exactly one lane names holds that lane's element, added onto the old one where the scatter adds. -/
theorem storeIdx_hit (f : Vec F ⟨1, ![n]⟩ e) (j : (⟨1, ![n]⟩ : Shape).Idx) (x : (⟨1, ![m]⟩ : Shape).Idx) (hx : (v x).toNat = (j 0).val)
    (hinj : ∀ y, (v y).toNat = (j 0).val → y = x) :
    storeIdx f ![v] p (fun _ => 1#1) add h j = if add then Elt.idxAdd e (f j) (p x) else p x := by
  rw [storeIdx_eq_lanes]
  have e0 : (ix1 (x 0).val (idx1_lt x) : (⟨1, ![m]⟩ : Shape).Idx) = x := idx1_ext rfl
  have hh := lanes_hit v p add h j ⟨(x 0).val, idx1_lt x⟩ (by rw [e0]; exact hx.symm)
    (fun k hk => by have := hinj _ hk.symm; exact Fin.ext (by rw [← this]; rfl)) _ (List.nodup_finRange m) (List.mem_finRange _) f
  rw [e0] at hh
  exact hh

end Scatter

end Cert.Proof.Lanes
-- ==== Proof.RowOps.lean ====
/-
  A vector subcore's scratch arrays held by what they read, the indexed load and store over them, and one chunk of a
  row's output: sixteen table entries looked up, their histogram counts and the counts' table values gathered, the
  products scattered to the chunk's sixteen places.
-/
module

public import Idealize.ShloMosaic.Lib.SparseCore.Ops
public import Idealize.ShloMosaic.Lib.Tactic
public import proofs.«01_k».proof.Proof.Lanes

@[expose] public section

noncomputable section

namespace Cert.Proof.RowOps

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Cert.Proof.Lanes

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {s t : Shape} {e : EltTy} {α : Type} {Q : α → sProp (MT nD τ sig Ix (Elt F) Name U Lvl)}

local notation "𝕄" => MT nD τ sig Ix (Elt F) Name U Lvl

/-- A scratch array held at a share, reading `w`. -/
def holds {sp : Space} (M : Memref sig c.2.kind sp s e) (q : PosShare TreeShare) (w : Vec F s e) : sProp 𝕄 :=
  iprop(∃ f : Buf (Elt F) (M.view.loc c), ⌜M.view.read (Elt F) f = w⌝ ∗ M.view.loc c ↦[M.view.set]{q} f)

omit [FloatOps F] in
private theorem set_access (M : Memref sig c.2.kind .vmem s e) : (M.access (.whole s)).set = M.view.set := by
  show (M.view.slice (Rect.whole s)).set = _
  rw [View.set_slice, Rect.set_whole]; rfl

omit [FloatOps F] in
private theorem read_access (M : Memref sig c.2.kind .vmem s e) (f : Buf (Elt F) (M.view.loc c)) :
    (M.access (.whole s)).read (Elt F) f = M.view.read (Elt F) f := by
  funext x
  show M.view.read (Elt F) f ((Rect.whole s).emb x) = _
  rw [Rect.emb_whole_apply]

/-- `vectorLoadIdx` at the head of a program, over a scratch array held reading `w`. -/
theorem wp_gather {M : Memref sig c.2.kind .vmem s e} {idxs : Fin s.rank → IVec t 32}
    {h : ∀ a x, (idxs a x).toNat < s.size a} {hl : M.view.Loads} {k : Vec F t e → Prog (TpuEff nD τ sig (Elt F) Λ c.2) α}
    {q : PosShare TreeShare} {w : Vec F s e} :
    (holds c M q w : sProp 𝕄)
      ⊢ iprop((holds c M q w -∗ wp frame (wpE defs 𝒱 c bd) E (k (loadIdx w idxs h)) Q)
        -∗ wp frame (wpE defs 𝒱 c bd) E (SparseCore.vectorLoadIdx M idxs h hl >>= k) Q) := by
  unfold holds
  iintro ⟨%f, %hf, H⟩ Hk
  have hr := (read_access c M f).trans hf
  iapply (SparseCore.wp_vectorLoadIdx (defs := defs) (Q := Q) 𝒱 c bd E (base := M) (S := M.view.set) (q := q) (f := f)
    (k := k) (by rw [set_access])) $$ H
  iintro H
  rw [hr]
  iapply Hk
  iexists f
  isplitr
  · ipureintro; exact hf
  · iexact H

/-- `vectorStoreIdx` at the head of a program, over a scratch array held outright reading `w`. -/
theorem wp_scatter {d : Fin 1 → Nat} {M : Memref sig c.2.kind .vmem s e} {idxs : Fin s.rank → IVec ⟨1, d⟩ 32}
    {v : Vec F ⟨1, d⟩ e} {mask : IVec ⟨1, d⟩ 1} {add : Bool} {h : ∀ a x, (idxs a x).toNat < s.size a}
    {hs : (M.access (.whole s)).Stores Finset.univ} {k : PUnit → Prog (TpuEff nD τ sig (Elt F) Λ c.2) α} {w : Vec F s e} :
    (holds c M fullShare w : sProp 𝕄)
      ⊢ iprop((holds c M fullShare (storeIdx w idxs v mask add h) -∗ wp frame (wpE defs 𝒱 c bd) E (k ⟨⟩) Q)
        -∗ wp frame (wpE defs 𝒱 c bd) E (SparseCore.vectorStoreIdx M idxs v mask add h hs >>= k) Q) := by
  unfold holds
  iintro ⟨%f, %hf, H⟩ Hk
  have hr := (read_access c M f).trans hf
  iapply (SparseCore.wp_vectorStoreIdx (defs := defs) (Q := Q) 𝒱 c bd E (base := M) (f := f) (k := k))
    $$ [H]
  · rw [set_access]; iexact H
  iintro H
  iapply Hk
  rw [set_access]
  iexists _
  isplitr
  rotate_left
  · iexact H
  · ipureintro
    rw [← read_access, View.read_write_univ, hr]

/-- A load of a rectangle at the head of a program, over a scratch array held reading `w`. -/
theorem wp_look {M : Memref sig c.2.kind .vmem s e} {r : LoadRect s} {hl : M.view.LoadsAt r}
    {k : (r.shape.Idx → Elt F e) → Prog (TpuEff nD τ sig (Elt F) Λ c.2) α} {q : PosShare TreeShare} {w : Vec F s e} :
    (holds c M q w : sProp 𝕄)
      ⊢ iprop((holds c M q w -∗ wp frame (wpE defs 𝒱 c bd) E (k (fun x => w (r.idx x))) Q)
        -∗ wp frame (wpE defs 𝒱 c bd) E (.op (.load M r hl) k) Q) := by
  unfold holds
  iintro ⟨%f, %hf, H⟩ Hk
  have hr : M.view.readAt (Elt F) r f = fun x => w (r.idx x) := by
    funext x; rw [View.readAt_apply, hf]
  iapply (wp_load (defs := defs) (Q := Q) 𝒱 c bd E (m := M) (r := r) (S := M.view.set) (q := q) (f := f)
    (Finset.map_subset_map.mpr (Finset.subset_univ _))) $$ H
  iintro H
  rw [hr]
  iapply Hk
  iexists f
  isplitr
  · ipureintro; exact hf
  · iexact H

/-- A store of a whole rectangle at the head of a program, over a scratch array held outright reading `w`: it then
    reads some `w'` with the payload on the rectangle and `w` off it. -/
theorem wp_put {M : Memref sig c.2.kind .vmem s e} {r : Rect s} {p : r.shape.Idx → Elt F e}
    {hx : (M.access r).Stores Finset.univ} {hm : (Finset.univ : Finset r.shape.Idx) = Finset.univ ∨ ∀ a, r.stride a = 1}
    {k : PUnit → Prog (TpuEff nD τ sig (Elt F) Λ c.2) α} {w : Vec F s e} :
    (holds c M fullShare w : sProp 𝕄)
      ⊢ iprop((∀ w', ⌜(∀ x, w' (r.emb x) = p x) ∧ ∀ j, (∀ x, r.emb x ≠ j) → w' j = w j⌝
            -∗ holds c M fullShare w' -∗ wp frame (wpE defs 𝒱 c bd) E (k ⟨⟩) Q)
        -∗ wp frame (wpE defs 𝒱 c bd) E (.op (.store M r p Finset.univ hx hm) k) Q) := by
  unfold holds
  iintro ⟨%f, %hf, H⟩ Hk
  iapply (wp_store (defs := defs) (Q := Q) 𝒱 c bd E (m := M) (r := r) (Mk := Finset.univ) (S := M.view.set) (f := f)
    (View.set_slice_subset M.view r)) $$ H
  iintro H
  iapply Hk $$ %(M.view.read (Elt F) ((M.access r).write (Elt F) f p Finset.univ)) [] [H]
  · ipureintro
    refine ⟨fun x => View.read_slice_write_emb (v := M.view) r f p (Finset.mem_univ x), fun j hj => ?_⟩
    rw [← hf]
    refine View.read_slice_write_of_not_mem (v := M.view) r f p Finset.univ fun hm => ?_
    obtain ⟨x, -, hx⟩ := Finset.mem_map.mp hm
    exact hj x hx
  · iexists _
    isplitr
    rotate_left
    · iexact H
    · ipureintro; rfl

/-! ### One chunk of a row -/

/-- The value a row block's output holds at position `j`: the count of the histogram cell its table entry names,
    looked up, times its factor. Rows are `nt` wide, histogram rows `nb`. -/
def cell {nh nt : Nat} [NeZero nh] [NeZero nt] (nb : Nat) (wb : Vec F ⟨1, ![nt]⟩ .i32) (we : Vec F ⟨1, ![nt]⟩ .f32)
    (wh : Vec F ⟨1, ![nh]⟩ .i32) (wl : Vec F ⟨1, ![256]⟩ .f32) (j : Nat) : F .f32 :=
  FloatOps.mulf (nat1 wl (nat1 wh (j / nt * nb + (nat1 wb (j % nt) : BitVec 32).toNat) : BitVec 32).toNat) (nat1 we (j % nt))

variable {nh nt no : Nat}

/-- One chunk: the sixteen table entries from `st` on, their histogram counts, the counts' table values, the products
    with the sixteen factors scattered to `oidx`. -/
def chunk {p : Proc τ} (Mb : Memref sig p.kind .vmem ⟨1, ![nt]⟩ .i32) (Me : Memref sig p.kind .vmem ⟨1, ![nt]⟩ .f32)
    (Mh : Memref sig p.kind .vmem ⟨1, ![nh]⟩ .i32) (Ml : Memref sig p.kind .vmem ⟨1, ![256]⟩ .f32)
    (Mo : Memref sig p.kind .vmem ⟨1, ![no]⟩ .f32) (st : Nat) (base oidx : IVec ⟨1, ![16]⟩ 32)
    {C₁ C₂ C₃ : IVec ⟨1, ![16]⟩ 32 → Prop} (d₁ : ∀ v, Decidable (C₁ v)) (d₂ : ∀ v, Decidable (C₂ v)) (d₃ : ∀ v, Decidable (C₃ v))
    (i₁ : ∀ v, C₁ v → ∀ a x, ((![v] : Fin 1 → IVec ⟨1, ![16]⟩ 32) a x).toNat < (⟨1, ![nh]⟩ : Shape).size a)
    (i₂ : ∀ v, C₂ v → ∀ a x, ((![v] : Fin 1 → IVec ⟨1, ![16]⟩ 32) a x).toNat < (⟨1, ![256]⟩ : Shape).size a)
    (i₃ : ∀ v, C₃ v → ∀ a x, ((![v] : Fin 1 → IVec ⟨1, ![16]⟩ 32) a x).toNat < (⟨1, ![no]⟩ : Shape).size a)
    (inb : ∀ a, (![st] : Fin 1 → Nat) a + (![16] : Fin 1 → Nat) a ≤ (⟨1, ![nt]⟩ : Shape).size a)
    (lb : Mb.view.LoadsAt (Rect.unit (s := ⟨1, ![nt]⟩) ![st] ![16] inb).toLoadRect)
    (le : Me.view.LoadsAt (Rect.unit (s := ⟨1, ![nt]⟩) ![st] ![16] inb).toLoadRect)
    (lh : Mh.view.Loads) (ll : Ml.view.Loads) (ho : (Mo.access (.whole _)).Stores Finset.univ) :
    Prog (TpuEff nD τ sig (Elt F) Λ p) PUnit := do
  let b : Vec F ⟨1, ![16]⟩ .i32 ← Prog.lift (.load Mb (Rect.unit (s := ⟨1, ![nt]⟩) ![st] ![16] inb).toLoadRect lb)
  have v : IVec ⟨1, ![16]⟩ 32 := addi base b
  have h₁ : C₁ v := (← Prog.lift (TpuEff.assume (C₁ v) (d₁ v))).down
  let n : Vec F ⟨1, ![16]⟩ .i32 ← SparseCore.vectorLoadIdx Mh ![v] (i₁ v h₁) lh
  have h₂ : C₂ n := (← Prog.lift (TpuEff.assume (C₂ n) (d₂ n))).down
  let l : Vec F ⟨1, ![16]⟩ .f32 ← SparseCore.vectorLoadIdx Ml ![n] (i₂ n h₂) ll
  have h₃ : C₃ oidx := (← Prog.lift (TpuEff.assume (C₃ oidx) (d₃ oidx))).down
  let f : Vec F ⟨1, ![16]⟩ .f32 ← Prog.lift (.load Me (Rect.unit (s := ⟨1, ![nt]⟩) ![st] ![16] inb).toLoadRect le)
  SparseCore.vectorStoreIdx Mo ![oidx] (mulf l f : FVec F ⟨1, ![16]⟩ .f32) (fun _ => 1#1) false (i₃ oidx h₃) ho

private theorem toNat_add_ofNat (a b : Nat) (v : BitVec 32) (hb : v.toNat = b) (h : a + b < 2 ^ 32) :
    (BitVec.ofNat 32 a + v).toNat = a + b := by
  rw [BitVec.toNat_add, BitVec.toNat_ofNat, hb]; omega

/-- One chunk at a row `r` of a block of sixteen: from an output block right below `p`, a prefix reaching the chunk, to
    one right below the chunk's end. -/
theorem wp_chunk [NeZero nh] [NeZero nt] {nb : Nat}
    {Mb : Memref sig c.2.kind .vmem ⟨1, ![nt]⟩ .i32} {Me : Memref sig c.2.kind .vmem ⟨1, ![nt]⟩ .f32}
    {Mh : Memref sig c.2.kind .vmem ⟨1, ![nh]⟩ .i32} {Ml : Memref sig c.2.kind .vmem ⟨1, ![256]⟩ .f32}
    {Mo : Memref sig c.2.kind .vmem ⟨1, ![no]⟩ .f32} {st : Nat} {base oidx : IVec ⟨1, ![16]⟩ 32}
    {C₁ C₂ C₃ : IVec ⟨1, ![16]⟩ 32 → Prop} {d₁ : ∀ v, Decidable (C₁ v)} {d₂ : ∀ v, Decidable (C₂ v)} {d₃ : ∀ v, Decidable (C₃ v)}
    {i₁ : ∀ v, C₁ v → ∀ a x, ((![v] : Fin 1 → IVec ⟨1, ![16]⟩ 32) a x).toNat < (⟨1, ![nh]⟩ : Shape).size a}
    {i₂ : ∀ v, C₂ v → ∀ a x, ((![v] : Fin 1 → IVec ⟨1, ![16]⟩ 32) a x).toNat < (⟨1, ![256]⟩ : Shape).size a}
    {i₃ : ∀ v, C₃ v → ∀ a x, ((![v] : Fin 1 → IVec ⟨1, ![16]⟩ 32) a x).toNat < (⟨1, ![no]⟩ : Shape).size a}
    {inb : ∀ a, (![st] : Fin 1 → Nat) a + (![16] : Fin 1 → Nat) a ≤ (⟨1, ![nt]⟩ : Shape).size a}
    {lb : Mb.view.LoadsAt (Rect.unit (s := ⟨1, ![nt]⟩) ![st] ![16] inb).toLoadRect}
    {le : Me.view.LoadsAt (Rect.unit (s := ⟨1, ![nt]⟩) ![st] ![16] inb).toLoadRect}
    {lh : Mh.view.Loads} {ll : Ml.view.Loads} {ho : (Mo.access (.whole _)).Stores Finset.univ}
    (e₁ : ∀ v, (∀ a x, ((![v] : Fin 1 → IVec ⟨1, ![16]⟩ 32) a x).toNat < (⟨1, ![nh]⟩ : Shape).size a) → C₁ v)
    (e₂ : ∀ v, (∀ a x, ((![v] : Fin 1 → IVec ⟨1, ![16]⟩ 32) a x).toNat < (⟨1, ![256]⟩ : Shape).size a) → C₂ v)
    (e₃ : ∀ v, (∀ a x, ((![v] : Fin 1 → IVec ⟨1, ![16]⟩ 32) a x).toNat < (⟨1, ![no]⟩ : Shape).size a) → C₃ v)
    {k : PUnit → Prog (TpuEff nD τ sig (Elt F) Λ c.2) α} {qb qe qh ql : PosShare TreeShare}
    {wb : Vec F ⟨1, ![nt]⟩ .i32} {we : Vec F ⟨1, ![nt]⟩ .f32} {wh : Vec F ⟨1, ![nh]⟩ .i32} {wl : Vec F ⟨1, ![256]⟩ .f32}
    {wo : Vec F ⟨1, ![no]⟩ .f32} (r p : Nat) (hr : r < 16) (hnh : nh = 16 * nb) (hno : no = 16 * nt) (hnh' : nh < 2 ^ 32) (hno' : no < 2 ^ 32)
    (hst : st + 16 ≤ nt) (hp : r * nt + st ≤ p) (hb : ∀ x, base x = BitVec.ofNat 32 (r * nb))
    (hi : ∀ x, oidx x = BitVec.ofNat 32 (r * nt) + (BitVec.ofNat 32 (x 0).val + BitVec.ofNat 32 st))
    (hwb : ∀ j, (wb j : BitVec 32).toNat < nb) (hwh : ∀ j, (wh j : BitVec 32).toNat < 256)
    (hwo : ∀ j, (j 0).val < p → wo j = cell nb wb we wh wl (j 0).val) :
    iprop(holds c Mb qb wb ∗ holds c Me qe we ∗ holds c Mh qh wh ∗ holds c Ml ql wl ∗ holds c Mo fullShare wo : sProp 𝕄)
      ⊢ iprop((∀ wo', ⌜∀ j, (j 0).val < r * nt + (st + 16) → wo' j = cell nb wb we wh wl (j 0).val⌝
            -∗ (holds c Mb qb wb ∗ holds c Me qe we ∗ holds c Mh qh wh ∗ holds c Ml ql wl ∗ holds c Mo fullShare wo')
            -∗ wp frame (wpE defs 𝒱 c bd) E (k ⟨⟩) Q)
        -∗ wp frame (wpE defs 𝒱 c bd) E
            (chunk Mb Me Mh Ml Mo st base oidx d₁ d₂ d₃ i₁ i₂ i₃ inb lb le lh ll ho >>= k) Q) := by
  have hrow : r * nt + nt ≤ 16 * nt := by
    have := Nat.mul_le_mul_right nt (Nat.succ_le_of_lt hr); rwa [Nat.succ_mul] at this
  have hrowb : r * nb + nb ≤ 16 * nb := by
    have := Nat.mul_le_mul_right nb (Nat.succ_le_of_lt hr); rwa [Nat.succ_mul] at this
  have hx16 : ∀ x : (⟨1, ![16]⟩ : Shape).Idx, (x 0).val < 16 := idx1_lt
  have hidx : ∀ x : (⟨1, ![16]⟩ : Shape).Idx,
      (Rect.unit (s := ⟨1, ![nt]⟩) ![st] ![16] inb).toLoadRect.idx x = ix1 (st + (x 0).val) (by have := hx16 x; omega) := by
    intro x; apply idx1_ext
    show st + 1 * (x 0).val = st + (x 0).val
    omega
  -- the histogram cell of lane `x`
  have hv : ∀ x : (⟨1, ![16]⟩ : Shape).Idx,
      (addi base (fun x => wb ((Rect.unit (s := ⟨1, ![nt]⟩) ![st] ![16] inb).toLoadRect.idx x)) x).toNat
        = r * nb + (nat1 wb (st + (x 0).val) : BitVec 32).toNat := by
    intro x
    have h1 := hwb (ix1 (st + (x 0).val) (by have := hx16 x; omega))
    show (base x + wb _).toNat = _
    rw [hb, hidx, nat1_of_lt wb (by have := hx16 x; omega : st + (x 0).val < nt)]
    exact toNat_add_ofNat _ _ _ rfl (by omega)
  have hlt : ∀ x : (⟨1, ![16]⟩ : Shape).Idx, r * nb + (nat1 wb (st + (x 0).val) : BitVec 32).toNat < nh := by
    intro x
    have := hwb (ix1 ((st + (x 0).val) % nt) (Nat.mod_lt _ (Nat.pos_of_ne_zero (NeZero.ne nt))))
    unfold nat1; omega
  have ho1 : ∀ x : (⟨1, ![16]⟩ : Shape).Idx, (oidx x).toNat = r * nt + (st + (x 0).val) := by
    intro x
    have := hx16 x
    rw [hi]
    refine toNat_add_ofNat _ _ _ ?_ (by omega)
    rw [BitVec.toNat_add, BitVec.toNat_ofNat, BitVec.toNat_ofNat]; omega
  unfold chunk
  iintro ⟨Hb, He, Hh, Hl, Ho⟩ Hk
  simp only [Prog.lift, Prog.bind_assoc, Prog.bind_op, Prog.bind_ret]
  iapply (wp_look (defs := defs) 𝒱 c bd E (M := Mb)) $$ Hb
  iintro Hb
  rw [wp_assume_of _ _ _ _ (e₁ _ fun a x => by rw [Fin.eq_zero a]; exact (hv x).trans_lt (hlt x))]
  iapply (wp_gather (defs := defs) 𝒱 c bd E (M := Mh)) $$ Hh
  iintro Hh
  rw [wp_assume_of _ _ _ _ (e₂ _ fun a x => by
    rw [Fin.eq_zero a]; show (loadIdx wh _ _ x : BitVec 32).toNat < 256; rw [loadIdx_apply]; exact hwh _)]
  iapply (wp_gather (defs := defs) 𝒱 c bd E (M := Ml)) $$ Hl
  iintro Hl
  rw [wp_assume_of _ _ _ _ (e₃ _ fun a x => by
    rw [Fin.eq_zero a]; show (oidx x).toNat < no; rw [ho1]; have := hx16 x; omega)]
  iapply (wp_look (defs := defs) 𝒱 c bd E (M := Me)) $$ He
  iintro He
  iapply (wp_scatter (defs := defs) 𝒱 c bd E (M := Mo)) $$ Ho
  iintro Ho
  iapply Hk $$ [] [Hb He Hh Hl Ho]
  rotate_left
  · isplitl [Hb]; · iexact Hb
    isplitl [He]; · iexact He
    isplitl [Hh]; · iexact Hh
    isplitl [Hl]; · iexact Hl
    iexact Ho
  ipureintro
  intro j hj
  by_cases hc : ∃ x : (⟨1, ![16]⟩ : Shape).Idx, (oidx x).toNat = (j 0).val
  · obtain ⟨x, hx⟩ := hc
    rw [storeIdx_hit _ _ _ _ _ j x hx (fun y hy => idx1_ext (by rw [ho1] at hx hy; omega))]
    have hx' := hx16 x
    rw [ho1] at hx
    have hjm : (j 0).val % nt = st + (x 0).val := by
      rw [← hx, Nat.mul_comm, Nat.mul_add_mod, Nat.mod_eq_of_lt (by omega)]
    have hjd : (j 0).val / nt = r := by
      rw [← hx, Nat.mul_comm, Nat.mul_add_div (by omega), Nat.div_eq_of_lt (by omega)]; rfl
    rw [if_neg (by decide)]
    show FloatOps.mulf _ _ = _
    unfold cell
    rw [hjm, hjd]
    have hh := hlt x
    have hs : st + (x 0).val < nt := by omega
    refine congrArg₂ FloatOps.mulf ?_ ((congrArg we (hidx x)).trans (nat1_of_lt we hs).symm)
    rw [nat1_of_lt wh hh, nat1_of_lt wl (hwh _)]
    refine (loadIdx_apply _ _ _ _).trans (congrArg wl (idx1_ext ?_))
    have hq : loadIdx wh ![addi base (fun x => wb ((Rect.unit (s := ⟨1, ![nt]⟩) ![st] ![16] inb).toLoadRect.idx x))]
        (fun a x => (Fin.eq_zero a) ▸ (hv x).trans_lt (hlt x)) x = wh (ix1 _ hh) :=
      (loadIdx_apply wh _ _ x).trans (congrArg wh (idx1_ext (by exact hv x)))
    show BitVec.toNat (loadIdx wh _ _ x) = BitVec.toNat (wh (ix1 _ hh))
    exact congrArg BitVec.toNat hq
  · rw [storeIdx_miss _ _ _ _ _ j (fun x hx => hc ⟨x, hx⟩)]
    refine hwo j ?_
    by_contra hge
    exact hc ⟨ix1 ((j 0).val - (r * nt + st)) (by omega), by rw [ho1, ix1_val]; omega⟩

end Cert.Proof.RowOps
-- ==== Proof.Hist.lean ====
/-
  Sixteen histograms side by side: a score's bin, the count of a row's scores in a bin, and the pass that adds one score
  of each of sixteen rows to its row's histogram.
-/
module

public import proofs.«01_k».proof.Proof.RowOps

@[expose] public section

noncomputable section

namespace Cert.Proof.Hist

open Idealize.ShloMosaic
open Idealize.SL
open Idealize.SL.BI (sProp)
open scoped Idealize.SL.BI
open Idealize.SL.BI.BIBase Idealize.SL.BI.Laws Idealize.SL.Sem Idealize.SL.ProofMode
open Idealize.SL.RA
open Cert.Proof.Lanes Cert.Proof.RowOps

/-- The bin of a score: the score times the number of bins per unit (the float word `w`) rounded up, moved by `off` and
    clamped to `0 … top`. -/
def bin {F : FTy → Type} [FloatOps F] (w : BitVec 32) (off top : BitVec 32) (y : F .f32) : BitVec 32 :=
  IntOp.minsi top (IntOp.maxsi 0#32 (IntOp.addi (IntOp.addi (FloatOps.fptosi 32 (FloatOps.mulf y (Scalar.ofBits .f32 w)))
    (Scalar.select (FloatOps.cmpf .ogt (FloatOps.mulf y (Scalar.ofBits .f32 w))
      (FloatOps.sitofp .f32 (FloatOps.fptosi 32 (FloatOps.mulf y (Scalar.ofBits .f32 w))))) 1#32 0#32)) off))

/-- A word clamped below by zero and above by a small bound is at most the bound. -/
theorem clamp_le (top v : BitVec 32) (ht : top.toNat < 2 ^ 31) : (IntOp.minsi top (IntOp.maxsi 0#32 v)).toNat ≤ top.toNat := by
  simp only [IntOp.minsi, IntOp.maxsi, BitVec.slt_eq_decide, BitVec.sle_eq_decide, decide_eq_true_eq, BitVec.toInt_eq_toNat_cond, BitVec.toNat_ofNat]
  split_ifs <;> simp_all <;> omega

theorem bin_le {F : FTy → Type} [FloatOps F] (w off top : BitVec 32) (ht : top.toNat < 2 ^ 31) (y : F .f32) : (bin w off top y).toNat ≤ top.toNat :=
  clamp_le top _ ht

/-- How many of the first `s` scores of row `l` — rows `len` long — fall in bin `b`. -/
def cnt {α : Type} (f : α → BitVec 32) (c : Nat → α) (len s l b : Nat) : Nat :=
  ((Finset.range s).filter fun s' => (f (c (l * len + s'))).toNat = b).card

theorem cnt_zero {α : Type} (f : α → BitVec 32) (c : Nat → α) (len l b : Nat) : cnt f c len 0 l b = 0 := rfl

theorem cnt_le {α : Type} (f : α → BitVec 32) (c : Nat → α) (len s l b : Nat) : cnt f c len s l b ≤ s :=
  (Finset.card_filter_le _ _).trans (Finset.card_range s).le

theorem cnt_succ {α : Type} (f : α → BitVec 32) (c : Nat → α) (len s l b : Nat) :
    cnt f c len (s + 1) l b = cnt f c len s l b + if (f (c (l * len + s))).toNat = b then 1 else 0 := by
  unfold cnt
  rw [Finset.range_add_one, Finset.filter_insert]
  split_ifs with h
  · rw [Finset.card_insert_of_notMem (by simp)]
  · rfl

/-- The sixteen histograms after the first `s` scores of each row: rows `nb` wide. -/
def hist {α : Type} {nh : Nat} (f : α → BitVec 32) (c : Nat → α) (len nb s : Nat) : IVec ⟨1, ![nh]⟩ 32 :=
  vec1 fun j => BitVec.ofNat 32 (cnt f c len s (j / nb) (j % nb))

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {nc nh : Nat}

/-- One score of each of sixteen rows, gathered at `idx`, added to its histogram cell `cellOf`. -/
def tally {p : Proc τ} (Mc : Memref sig p.kind .vmem ⟨1, ![nc]⟩ .f32) (Mh : Memref sig p.kind .vmem ⟨1, ![nh]⟩ .i32)
    (idx ones : IVec ⟨1, ![16]⟩ 32) (cellOf : Vec F ⟨1, ![16]⟩ .f32 → IVec ⟨1, ![16]⟩ 32)
    {C₁ C₂ : IVec ⟨1, ![16]⟩ 32 → Prop} (d₁ : ∀ v, Decidable (C₁ v)) (d₂ : ∀ v, Decidable (C₂ v))
    (i₁ : ∀ v, C₁ v → ∀ a x, ((![v] : Fin 1 → IVec ⟨1, ![16]⟩ 32) a x).toNat < (⟨1, ![nc]⟩ : Shape).size a)
    (i₂ : ∀ v, C₂ v → ∀ a x, ((![v] : Fin 1 → IVec ⟨1, ![16]⟩ 32) a x).toNat < (⟨1, ![nh]⟩ : Shape).size a)
    (lc : Mc.view.Loads) (hh : (Mh.access (.whole _)).Stores Finset.univ) :
    Prog (TpuEff nD τ sig (Elt F) Λ p) PUnit := do
  have h₁ : C₁ idx := (← Prog.lift (TpuEff.assume (C₁ idx) (d₁ idx))).down
  let y : Vec F ⟨1, ![16]⟩ .f32 ← SparseCore.vectorLoadIdx Mc ![idx] (i₁ idx h₁) lc
  have v : IVec ⟨1, ![16]⟩ 32 := cellOf y
  have h₂ : C₂ v := (← Prog.lift (TpuEff.assume (C₂ v) (d₂ v))).down
  SparseCore.vectorStoreIdx (F := F) (e := .i32) Mh ![v] ones (fun _ => 1#1) true (i₂ v h₂) hh

variable {defs : Defs nD τ sig (Elt F) Λ} (𝒱 : Variants) (c : Thread nD τ) (bd : Option 𝒱.V) (E : Set Name)
variable {α : Type} {Q : α → sProp (MT nD τ sig Ix (Elt F) Name U Lvl)}

local notation "𝕄" => MT nD τ sig Ix (Elt F) Name U Lvl

/-- The pass takes the histograms of the first `s` scores to those of the first `s + 1`. -/
theorem wp_tally [NeZero nc] {nb len : Nat} {f : F .f32 → BitVec 32}
    {Mc : Memref sig c.2.kind .vmem ⟨1, ![nc]⟩ .f32} {Mh : Memref sig c.2.kind .vmem ⟨1, ![nh]⟩ .i32}
    {idx ones : IVec ⟨1, ![16]⟩ 32} {cellOf : Vec F ⟨1, ![16]⟩ .f32 → IVec ⟨1, ![16]⟩ 32}
    {C₁ C₂ : IVec ⟨1, ![16]⟩ 32 → Prop} {d₁ : ∀ v, Decidable (C₁ v)} {d₂ : ∀ v, Decidable (C₂ v)}
    {i₁ : ∀ v, C₁ v → ∀ a x, ((![v] : Fin 1 → IVec ⟨1, ![16]⟩ 32) a x).toNat < (⟨1, ![nc]⟩ : Shape).size a}
    {i₂ : ∀ v, C₂ v → ∀ a x, ((![v] : Fin 1 → IVec ⟨1, ![16]⟩ 32) a x).toNat < (⟨1, ![nh]⟩ : Shape).size a}
    {lc : Mc.view.Loads} {hh : (Mh.access (.whole _)).Stores Finset.univ}
    (e₁ : ∀ v, (∀ a x, ((![v] : Fin 1 → IVec ⟨1, ![16]⟩ 32) a x).toNat < (⟨1, ![nc]⟩ : Shape).size a) → C₁ v)
    (e₂ : ∀ v, (∀ a x, ((![v] : Fin 1 → IVec ⟨1, ![16]⟩ 32) a x).toNat < (⟨1, ![nh]⟩ : Shape).size a) → C₂ v)
    {k : PUnit → Prog (TpuEff nD τ sig (Elt F) Λ c.2) α} {q : PosShare TreeShare} {wc : Vec F ⟨1, ![nc]⟩ .f32}
    (s : Nat) (hs : s < len) (hnc : nc = 16 * len) (hnh : nh = 16 * nb) (hnc' : nc < 2 ^ 32) (hnh' : nh < 2 ^ 32)
    (hf : ∀ y, (f y).toNat < nb) (hidx : ∀ x, idx x = BitVec.ofNat 32 (x 0).val * BitVec.ofNat 32 len + BitVec.ofNat 32 s)
    (hcell : ∀ y x, cellOf y x = BitVec.ofNat 32 (x 0).val * BitVec.ofNat 32 nb + f (y x)) (hones : ∀ x, ones x = 1#32) :
    iprop(holds c Mc q wc ∗ holds (F := F) (e := .i32) c Mh fullShare (hist f (nat1 wc) len nb s) : sProp 𝕄)
      ⊢ iprop(((holds c Mc q wc ∗ holds (F := F) (e := .i32) c Mh fullShare (hist f (nat1 wc) len nb (s + 1)))
            -∗ wp frame (wpE defs 𝒱 c bd) E (k ⟨⟩) Q)
        -∗ wp frame (wpE defs 𝒱 c bd) E (tally Mc Mh idx ones cellOf d₁ d₂ i₁ i₂ lc hh >>= k) Q) := by
  have hx16 : ∀ x : (⟨1, ![16]⟩ : Shape).Idx, (x 0).val < 16 := idx1_lt
  have hrow : ∀ x : (⟨1, ![16]⟩ : Shape).Idx, (x 0).val * len + len ≤ 16 * len := fun x => by
    have := Nat.mul_le_mul_right len (Nat.succ_le_of_lt (hx16 x)); rwa [Nat.succ_mul] at this
  have hrowb : ∀ x : (⟨1, ![16]⟩ : Shape).Idx, (x 0).val * nb + nb ≤ 16 * nb := fun x => by
    have := Nat.mul_le_mul_right nb (Nat.succ_le_of_lt (hx16 x)); rwa [Nat.succ_mul] at this
  have hi : ∀ x, (idx x).toNat = (x 0).val * len + s := by
    intro x
    have h1 := hx16 x
    have h2 := hrow x
    rw [hidx, BitVec.toNat_add, BitVec.toNat_mul, BitVec.toNat_ofNat, BitVec.toNat_ofNat, BitVec.toNat_ofNat,
      Nat.mod_eq_of_lt (by omega : (x 0).val < 2 ^ 32), Nat.mod_eq_of_lt (by omega : len < 2 ^ 32), Nat.mod_eq_of_lt (by omega : s < 2 ^ 32),
      Nat.mod_eq_of_lt (by omega : (x 0).val * len < 2 ^ 32), Nat.mod_eq_of_lt (by omega)]
  have hc : ∀ y x, (cellOf y x).toNat = (x 0).val * nb + (f (y x)).toNat := by
    intro y x
    have h1 := hx16 x
    have h2 := hrowb x
    have h3 := hf (y x)
    rw [hcell, BitVec.toNat_add, BitVec.toNat_mul, BitVec.toNat_ofNat, BitVec.toNat_ofNat,
      Nat.mod_eq_of_lt (by omega : (x 0).val < 2 ^ 32), Nat.mod_eq_of_lt (by omega : nb < 2 ^ 32),
      Nat.mod_eq_of_lt (by omega : (x 0).val * nb < 2 ^ 32), Nat.mod_eq_of_lt (by omega)]
  have hil : ∀ a x, ((![idx] : Fin 1 → IVec ⟨1, ![16]⟩ 32) a x).toNat < (⟨1, ![nc]⟩ : Shape).size a := by
    intro a x
    rw [Fin.eq_zero a]; show (idx x).toNat < nc
    have h2 := hrow x
    rw [hi]; omega
  have hcl : ∀ y a x, ((![cellOf y] : Fin 1 → IVec ⟨1, ![16]⟩ 32) a x).toNat < (⟨1, ![nh]⟩ : Shape).size a := by
    intro y a x
    rw [Fin.eq_zero a]; show (cellOf y x).toNat < nh
    have h2 := hrowb x
    have h3 := hf (y x)
    rw [hc]; omega
  unfold tally
  iintro ⟨Hc, Hh⟩ Hk
  simp only [Prog.lift, Prog.bind_assoc, Prog.bind_op, Prog.bind_ret]
  rw [wp_assume_of _ _ _ _ (e₁ _ hil)]
  iapply (wp_gather (defs := defs) 𝒱 c bd E (M := Mc)) $$ Hc
  iintro Hc
  rw [wp_assume_of _ _ _ _ (e₂ _ (hcl _))]
  iapply (wp_scatter (defs := defs) 𝒱 c bd E (M := Mh)) $$ Hh
  iintro Hh
  iapply Hk
  isplitl [Hc]; · iexact Hc
  rw [show storeIdx (F := F) (e := .i32) (hist f (nat1 wc) len nb s) ![cellOf (loadIdx wc ![idx] hil)] ones (fun _ => 1#1) true (hcl _)
      = hist f (nat1 wc) len nb (s + 1) from ?_]
  · iexact Hh
  funext j
  have hj : (j 0).val < nh := idx1_lt j
  have hnb : 0 < nb := by rcases Nat.eq_zero_or_pos nb with h | h <;> omega
  have hjl : (j 0).val / nb < 16 := by rw [Nat.div_lt_iff_lt_mul hnb]; omega
  have hy : ∀ x : (⟨1, ![16]⟩ : Shape).Idx, loadIdx wc ![idx] hil x = nat1 wc ((x 0).val * len + s) := by
    intro x
    have h2 := hrow x
    rw [nat1_of_lt wc (by omega : (x 0).val * len + s < nc)]
    refine (loadIdx_apply wc idx hil x).trans (congrArg wc (idx1_ext ?_))
    exact hi x
  have hdm := Nat.div_add_mod (j 0).val nb
  have hml := Nat.mod_lt (j 0).val hnb
  have hkey : ∀ x : (⟨1, ![16]⟩ : Shape).Idx, (cellOf (loadIdx wc ![idx] hil) x).toNat = (j 0).val →
      (x 0).val = (j 0).val / nb ∧ (f (nat1 wc ((x 0).val * len + s))).toNat = (j 0).val % nb := by
    intro x hx
    rw [hc, hy] at hx
    have h3 := hf (nat1 wc ((x 0).val * len + s))
    rw [← hx]
    refine ⟨?_, ?_⟩ <;> generalize (f (nat1 wc ((x 0).val * len + s))).toNat = b at h3 ⊢
    · rw [Nat.mul_comm, Nat.mul_add_div hnb, Nat.div_eq_of_lt h3]; rfl
    · rw [Nat.mul_comm, Nat.mul_add_mod, Nat.mod_eq_of_lt h3]
  show _ = BitVec.ofNat 32 (cnt f (nat1 wc) len (s + 1) ((j 0).val / nb) ((j 0).val % nb))
  rw [cnt_succ]
  by_cases h : (f (nat1 wc ((j 0).val / nb * len + s))).toNat = (j 0).val % nb
  · rw [if_pos h, storeIdx_hit _ _ _ _ _ j (ix1 ((j 0).val / nb) hjl) ?_ (fun y hy' => idx1_ext (hkey y hy').1), if_pos rfl, Elt.idxAdd_i32]
    · show BitVec.ofNat 32 (cnt f (nat1 wc) len s ((j 0).val / nb) ((j 0).val % nb)) + ones _ = _
      rw [hones, BitVec.ofNat_add]
    · rw [hc, hy, ix1_val, h, Nat.mul_comm]; exact hdm
  · rw [if_neg h, storeIdx_miss _ _ _ _ _ j (fun x hx => h (by have := hkey x hx; rw [← this.1]; exact this.2))]
    rfl

/-- A zeroing step: a load and a store of sixteen zeros at `st`, over an array zero below `p`, a prefix reaching `st`. -/
theorem wp_blank {M : Memref sig c.2.kind .vmem ⟨1, ![nh]⟩ .i32} {st : Nat}
    {inb : ∀ a, (![st] : Fin 1 → Nat) a + (![16] : Fin 1 → Nat) a ≤ (⟨1, ![nh]⟩ : Shape).size a}
    {hl : M.view.LoadsAt (Rect.unit (s := ⟨1, ![nh]⟩) ![st] ![16] inb).toLoadRect} {z : IVec ⟨1, ![16]⟩ 32}
    {hx : (M.access (Rect.unit (s := ⟨1, ![nh]⟩) ![st] ![16] inb)).Stores Finset.univ}
    {hm : (Finset.univ : Finset (Rect.unit (s := ⟨1, ![nh]⟩) ![st] ![16] inb).shape.Idx) = Finset.univ
      ∨ ∀ a, (Rect.unit (s := ⟨1, ![nh]⟩) ![st] ![16] inb).stride a = 1}
    {k : PUnit → Prog (TpuEff nD τ sig (Elt F) Λ c.2) α} (p : Nat) (hp : st ≤ p) (hz : ∀ x, z x = 0#32) :
    iprop(∃ w : IVec ⟨1, ![nh]⟩ 32, ⌜∀ j, (j 0).val < p → w j = 0#32⌝ ∗ holds (F := F) (e := .i32) c M fullShare w : sProp 𝕄)
      ⊢ iprop(((∃ w : IVec ⟨1, ![nh]⟩ 32, ⌜∀ j, (j 0).val < st + 16 → w j = 0#32⌝ ∗ holds (F := F) (e := .i32) c M fullShare w)
            -∗ wp frame (wpE defs 𝒱 c bd) E (k ⟨⟩) Q)
        -∗ wp frame (wpE defs 𝒱 c bd) E (.op (.load M (Rect.unit (s := ⟨1, ![nh]⟩) ![st] ![16] inb).toLoadRect hl)
            fun _ => .op (.store M (Rect.unit (s := ⟨1, ![nh]⟩) ![st] ![16] inb) z Finset.univ hx hm) k) Q) := by
  iintro ⟨%w, %hw, H⟩ Hk
  iapply (wp_look (defs := defs) 𝒱 c bd E (M := M)) $$ H
  iintro H
  iapply (wp_put (defs := defs) 𝒱 c bd E (M := M)) $$ H
  iintro %w' %hw' H
  iapply Hk
  iexists w'
  isplitr
  · ipureintro
    intro j hj
    have hemb : ∀ x : (⟨1, ![16]⟩ : Shape).Idx,
        (((Rect.unit (s := ⟨1, ![nh]⟩) ![st] ![16] inb).emb x : (⟨1, ![nh]⟩ : Shape).Idx) 0).val = st + (x 0).val := fun x => by
      show st + 1 * (x 0).val = _; omega
    by_cases hc : ∃ x : (⟨1, ![16]⟩ : Shape).Idx, st + (x 0).val = (j 0).val
    · obtain ⟨x, hx⟩ := hc
      have he : (Rect.unit (s := ⟨1, ![nh]⟩) ![st] ![16] inb).emb x = j := idx1_ext ((hemb x).trans hx)
      rw [← he]; exact (hw'.1 x).trans (hz x)
    · rw [hw'.2 j fun x hx => hc ⟨x, by rw [← hx]; exact (hemb x).symm⟩]
      refine hw j ?_
      by_contra hge
      exact hc ⟨ix1 ((j 0).val - st) (by omega), by rw [ix1_val]; omega⟩
  · iexact H

end Cert.Proof.Hist
-- ==== Proof.Copy.lean ====
/-
  A copy between two arrays of one thread's reach, with its wait: the destination comes to read what the source reads.
-/
module

public import Idealize.ShloMosaic.Lib.Transfers
public import proofs.«01_k».proof.Proof.RowOps

@[expose] public section

noncomputable section

namespace Cert.Proof.Copy

open Idealize.ShloMosaic Idealize.ShloMosaic.Transfers
open Idealize.SL
open Idealize.SL.BI (sProp)
open scoped Idealize.SL.BI
open Idealize.SL.BI.BIBase Idealize.SL.BI.Laws Idealize.SL.Sem Idealize.SL.ProofMode
open Idealize.SL.RA
open Cert.Proof.RowOps

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable [CountersIn U] [Infinite Name] [(countersEmb : UEmb Counters (MT nD τ sig Ix (Elt F) Name U Lvl)).LandsIn (upEmb : UEmb _ _)] {defs : Defs nD τ sig (Elt F) Λ} (𝒱 : Variants) (c : Thread nD τ) (bd : Option 𝒱.V)
variable {s t : Shape} {e : EltTy} {α : Type} {Q : α → sProp (MT nD τ sig Ix (Elt F) Name U Lvl)}

local notation "𝕄" => MT nD τ sig Ix (Elt F) Name U Lvl

/-- The thread's obligations and the waits it has recorded since `W`, all of one kind. -/
def dues (ι : Ix) (O : CellTallies nD τ sig Ix) (W : Waits sig Ix) : sProp 𝕄 :=
  iprop(MayWaits c ι O ∗ ∃ W' : Waits sig Ix, ⌜∀ p ∈ W', p ∈ W ∨ p.2 = ι⌝ ∗ owes c O W')

/-- A copy and the wait for it, at the head of a program. -/
theorem wp_copy {sp sp' : Space} {src : Memref sig c.2.kind sp s e} {dst : Memref sig c.2.kind sp' s e} {sem : DmaSem sig}
    {hs hs' : src.view.WordExact} {hd hd' : dst.view.WordExact} {ht : DmaTarget.Typed (nD := nD) sp (.dma sem) (.here dst)}
    {k : PUnit → Prog (TpuEff nD τ sig (Elt F) Λ c.2) α} {q : PosShare TreeShare} {w : Vec F s e}
    {O : CellTallies nD τ sig Ix} {W : Waits sig Ix} (ι : Ix) (hN : 0 < dst.view.amount (.dma sem)) :
    iprop(holds c src q w ∗ (∃ w', holds c dst fullShare w') ∗ semVal (c, SemLoc.dma sem) 0 ∗ dues c ι O W : sProp 𝕄)
      ⊢ iprop(((holds c src q w ∗ holds c dst fullShare w ∗ semVal (c, SemLoc.dma sem) 0 ∗ dues c ι O W) -∗ wp frame (wpE defs 𝒱 c bd) Set.univ (k ⟨⟩) Q)
        -∗ wp frame (wpE defs 𝒱 c bd) Set.univ (.op (.enqueueDma src (.here dst) (.dma sem) hs hd ht) fun _ => .op (.waitDma2 sem src dst hs' hd') k) Q) := by
  unfold holds dues
  iintro ⟨⟨%f, %hf, Hs⟩, ⟨%w', %g, -, Hd⟩, Hv, #Hmw, ⟨%W', %hW', HO⟩⟩ Hk
  iapply (wp_dmaLocal countersEmb 𝒱 c bd (src := src) (dst := dst) (via := .same) (fs := f) (fd := g) (q := q) ι _ rfl hN (Finset.Subset.refl _)) $$ [Hs Hd Hv]
  · isplitl [Hs]; · iexact Hs
    isplitl [Hd]; · iexact Hd
    iexact Hv
  iintro Hfl
  iapply (wp_waitLocalO countersEmb 𝒱 c bd ι (rfl : dst.view.dmaCredit = _)) $$ [Hfl HO]
  · isplitl [Hfl]; · iexact Hfl
    isplitl [HO]; · iexact HO
    iapply (MayWaits.elim (SemLoc.dma sem)) $$ Hmw
  iintro ⟨⟨Hd, Hs⟩, Hv, HO⟩
  iapply Hk
  isplitl [Hs]
  · iexists f
    isplitr; · ipureintro; exact hf
    iexact Hs
  isplitl [Hd]
  · iexists _
    isplitr
    swap; · iexact Hd
    ipureintro
    rw [View.read_write_univ]
    exact hf
  isplitl [Hv]; · iexact Hv
  isplitr; · iexact Hmw
  iexists _
  isplitr
  swap; · iexact HO
  ipureintro
  intro p hp
  rcases Finset.mem_insert.mp hp with rfl | hp
  · exact .inr rfl
  · exact hW' p hp

end Cert.Proof.Copy
-- ==== Proof.RunIdeal.Setup.lean ====
/-
  The launch's configuration, the resource algebra, and the memrefs the tile task is called at.
-/
module

public import Idealize.ShloMosaic.Lib.SparseCore
public import Idealize.ShloMosaic.Lib.SparseCore.Quiescent
public import Idealize.ShloMosaic.Lib.Transfers
public import Idealize.ShloMosaic.Lib.Tactic
public import proofs.«01_k».proof.Proof.Gen.KernelIdeal.Launch
public import proofs.«01_k».proof.Proof.Gen.KernelIdeal.Skeleton
public import proofs.«01_k».proof.Proof.RowOps

@[expose] public section

noncomputable section

namespace Cert.Proof.RunIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds, and the counts of copies in flight. -/
abbrev UH : Type := URounds (GSem nD τ sig) ℕ
abbrev UR : Type := URounds (GSem nD τ sig) Unit
abbrev UU : Type := (UH × UR) × Counters

end Cert.Proof.RunIdeal
-- ==== Proof.RunIdeal.Rows.lean ====
/-
  The task's row loop: a row's six chunks of the first level and twenty-one of the second, one after another.
-/
module

public import proofs.«01_k».proof.Proof.RunIdeal.Setup
public import proofs.«01_k».proof.Proof.Hist

@[expose] public section

noncomputable section

namespace Cert.Proof.RunIdeal

open Cert.KernelIdeal Cert.KernelIdeal.Gen Cert.Proof.Lanes Cert.Proof.RowOps Cert.Proof.Hist

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The core and subcore a task's point names. -/
abbrev cV (i : grid1.Coords) : Fin τ.nSC := (i 0).castLE hcore1
abbrev jV (i : grid1.Coords) : Fin τ.nSub := (i 1).castLE hsub1

abbrev s0 : Memref sig .scVector .vmem S3200 .f32 := Memref.whole cc1_scratch0
abbrev s1 : Memref sig .scVector .vmem S800 .f32 := Memref.whole cc1_scratch1
abbrev s2 : Memref sig .scVector .vmem S352 .i32 := Memref.whole cc1_scratch2
abbrev s3 : Memref sig .scVector .vmem S672 .i32 := Memref.whole cc1_scratch3
abbrev s4 : Memref sig .scVector .vmem S1408 .f32 := Memref.whole cc1_scratch4
abbrev s5 : Memref sig .scVector .vmem S5376 .f32 := Memref.whole cc1_scratch5
abbrev s6 : Memref sig .scVector .vmem S256 .f32 := Memref.whole cc1_scratch6
abbrev s7 : Memref sig .scVector .vmem S88 .i32 := Memref.whole cc1_scratch7
abbrev s8 : Memref sig .scVector .vmem S88 .f32 := Memref.whole cc1_scratch8
abbrev s9 : Memref sig .scVector .vmem S336 .i32 := Memref.whole cc1_scratch9
abbrev s10 : Memref sig .scVector .vmem S336 .f32 := Memref.whole cc1_scratch10

/-- A task's programs. -/
abbrev PR (F : FTy → Type) (i : grid1.Coords) : Type → Type 1 := Prog (TpuEff nD τ sig (Elt F) Λ₀ (.scVector (cV i) (jV i)))

section Chain

variable (i : grid1.Coords) (Mh0 : Memref sig .scVector .vmem S352 .i32) (Mh1 : Memref sig .scVector .vmem S672 .i32)
variable (Mo0 : Memref sig .scVector .vmem S1408 .f32) (Mo1 : Memref sig .scVector .vmem S5376 .f32)
variable (Ml : Memref sig .scVector .vmem S256 .f32)
variable (Mb0 : Memref sig .scVector .vmem S88 .i32) (Me0 : Memref sig .scVector .vmem S88 .f32)
variable (Mb1 : Memref sig .scVector .vmem S336 .i32) (Me1 : Memref sig .scVector .vmem S336 .f32)

/-- The first level's chunk at `st`. -/
def lo (v3 base row : IVec S16 32) (st : Fin 73) : PR F i PUnit :=
  chunk Mb0 Me0 Mh0 Ml Mo0 st.val base (addi row (addi v3 (broadcast S16 (BitVec.ofNat 32 st.val)))) k1_chk5.dec k1_chk6.dec k1_chk7.dec k1_idx5_inb k1_idx6_inb k1_idx7_inb
    (fun a => by rw [Fin.eq_zero a]; show st.val + 16 ≤ 88; have := st.isLt; omega) (View.loadsAt_vmem h_S16) (View.loadsAt_vmem h_S16)
    (View.loads_vmem h_S352) (View.loads_vmem h_S256) (View.stores_vmem_bits_univ h_S1408 rfl)

/-- The second level's chunk at `st`. -/
def hi (v3 base row : IVec S16 32) (st : Fin 321) : PR F i PUnit :=
  chunk Mb1 Me1 Mh1 Ml Mo1 st.val base (addi row (addi v3 (broadcast S16 (BitVec.ofNat 32 st.val)))) k1_chk23.dec k1_chk24.dec k1_chk25.dec k1_idx23_inb k1_idx24_inb k1_idx25_inb
    (fun a => by rw [Fin.eq_zero a]; show st.val + 16 ≤ 336; have := st.isLt; omega) (View.loadsAt_vmem h_S16) (View.loadsAt_vmem h_S16)
    (View.loads_vmem h_S672) (View.loads_vmem h_S256) (View.stores_vmem_bits_univ h_S5376 rfl)

/-- Programs one after another. -/
def seq {α : Type} (f : α → PR F i PUnit) (l : List α) (rest : PR F i PUnit) : PR F i PUnit := l.foldr (fun a k => f a >>= fun _ => k) rest

set_option maxHeartbeats 8000000 in
set_option maxRecDepth 65536 in
/-- A row's trip is its chunks one after another. -/
theorem t4_body_eq (arg2 : Memref sig .scVector .hbm S819200 .f32) (harg2 : arg2.IsWhole) (arg3 : Memref sig .scVector .hbm S204800 .f32) (harg3 : arg3.IsWhole) (arg4 : Memref sig .scVector .hbm S256 .f32) (harg4 : arg4.IsWhole) (arg5 : Memref sig .scVector .hbm S88 .i32) (harg5 : arg5.IsWhole) (arg6 : Memref sig .scVector .hbm S88 .f32) (harg6 : arg6.IsWhole) (arg7 : Memref sig .scVector .hbm S336 .i32) (harg7 : arg7.IsWhole) (arg8 : Memref sig .scVector .hbm S336 .f32) (harg8 : arg8.IsWhole) (arg9 : Memref sig .scVector .hbm S360448 .f32) (harg9 : arg9.IsWhole) (arg10 : Memref sig .scVector .hbm S1376256 .f32) (harg10 : arg10.IsWhole) (arg11 : Memref sig .scVector .vmem S3200 .f32) (harg11 : arg11.IsWhole) (arg12 : Memref sig .scVector .vmem S800 .f32) (harg12 : arg12.IsWhole)
    (h13 : Mh0.IsWhole) (h14 : Mh1.IsWhole) (h15 : Mo0.IsWhole) (h16 : Mo1.IsWhole) (h17 : Ml.IsWhole) (h18 : Mb0.IsWhole) (h19 : Me0.IsWhole) (h20 : Mb1.IsWhole) (h21 : Me1.IsWhole)
    (r0 r1 r2 r3 r4 r5 r6 r7 r8 : DmaSems sig S_) (v3 v4 v6 v8 v10 v12 : IVec S16 32) (k : Fin k1_t4_loop.trips) :
    k1_t4_body (F := F) i arg2 harg2 arg3 harg3 arg4 harg4 arg5 harg5 arg6 harg6 arg7 harg7 arg8 harg8 arg9 harg9 arg10 harg10 arg11 harg11 arg12 harg12
        Mh0 h13 Mh1 h14 Mo0 h15 Mo1 h16 Ml h17 Mb0 h18 Me0 h19 Mb1 h20 Me1 h21 r0 r1 r2 r3 r4 r5 r6 r7 r8 v3 v4 v6 v8 v10 v12 k ()
      = seq i (lo (F := F) i Mh0 Mo0 Ml Mb0 Me0 v3 (k1_pay6 0#32 1#32 k) (k1_pay8 0#32 1#32 k)) [0, 16, 32, 48, 64, 72]
          (seq i (hi (F := F) i Mh1 Mo1 Ml Mb1 Me1 v3 (k1_pay7 0#32 1#32 k) (k1_pay9 0#32 1#32 k))
            [0, 16, 32, 48, 64, 80, 96, 112, 128, 144, 160, 176, 192, 208, 224, 240, 256, 272, 288, 304, 320] (pure ⟨⟩)) := by
  unfold k1_t4_body
  simp only [k1_part1_eq_skeleton, k1_part2_eq_skeleton, k1_part3_eq_skeleton, k1_part4_eq_skeleton, k1_part5_eq_skeleton, k1_part6_eq_skeleton, k1_part7_eq_skeleton]
  unfold k1_part1_skel k1_part2_skel k1_part3_skel k1_part4_skel k1_part5_skel k1_part6_skel k1_part7_skel
  simp only [seq, List.foldr_cons, List.foldr_nil, lo, hi, chunk, Prog.lift, Prog.bind_op, Prog.bind_ret, Prog.bind_assoc, Prog.pure_eq_ret, SparseCore.vectorLoadIdx_bind, SparseCore.vectorStoreIdx_bind]
  rfl

/-! ### The rule for programs one after another -/

variable {Q : PUnit → sProp (MT nD τ sig (HIx 1) (Elt F) ℕ UU ℕ)} (d : Dev nD)

local notation "𝕄" => MT nD τ sig (HIx 1) (Elt F) ℕ UU ℕ

/-- Where the levels' chunks start. -/
abbrev starts0 : List (Fin 73) := [0, 16, 32, 48, 64, 72]
abbrev starts1 : List (Fin 321) := [0, 16, 32, 48, 64, 80, 96, 112, 128, 144, 160, 176, 192, 208, 224, 240, 256, 272, 288, 304, 320]

/-- Whether positions, each sixteen long, leave no gap from `p` on. -/
def noGap {α : Type} (pos : α → Nat) : List α → Nat → Bool
  | [], _ => true
  | a :: l, p => decide (pos a ≤ p) && noGap pos l (pos a + 16)

/-- Where they end. -/
def endOf {α : Type} (pos : α → Nat) : List α → Nat → Nat
  | [], p => p
  | a :: l, _ => endOf pos l (pos a + 16)

/-- Chunks one after another take a prefix to the last one's end, where each takes a prefix reaching it to its own end. -/
theorem wp_seq {α : Type} {f : α → PR F i PUnit} {R : Nat → sProp 𝕄} (pos : α → Nat) {rest : PR F i PUnit}
    (h : ∀ a p (k : PUnit → PR F i PUnit), pos a ≤ p → R p ⊢ iprop((R (pos a + 16) -∗ wp frame (wpE (defs₀ (F := F)) 𝒱₀ (V d (cV i) (jV i)) none) Set.univ (k ⟨⟩) Q)
      -∗ wp frame (wpE (defs₀ (F := F)) 𝒱₀ (V d (cV i) (jV i)) none) Set.univ (f a >>= k) Q)) :
    ∀ (l : List α) (p : Nat), noGap pos l p = true →
      R p ⊢ iprop((R (endOf pos l p) -∗ wp frame (wpE (defs₀ (F := F)) 𝒱₀ (V d (cV i) (jV i)) none) Set.univ rest Q)
        -∗ wp frame (wpE (defs₀ (F := F)) 𝒱₀ (V d (cV i) (jV i)) none) Set.univ (seq i f l rest) Q) := by
  intro l
  induction l with
  | nil =>
    intro p _
    iintro H Hk
    simp only [endOf, seq, List.foldr_nil]
    iapply Hk; iexact H
  | cons a l ih =>
    intro p hp
    simp only [noGap, Bool.and_eq_true, decide_eq_true_eq] at hp
    iintro H Hk
    iapply (h a p _ hp.1) $$ H
    iintro H
    iapply (ih _ hp.2) $$ H
    iexact Hk

/-- The five tables a task keeps in its own memory: the logarithms, and each level's ids and embeddings. -/
structure Tabs (F : FTy → Type) where
  l : Vec F S256 .f32
  b0 : Vec F S88 .i32
  e0 : Vec F S88 .f32
  b1 : Vec F S336 .i32
  e1 : Vec F S336 .f32

/-- The tables in place. -/
def tabs (T : Tabs F) : sProp 𝕄 :=
  iprop(holds (V d (cV i) (jV i)) s6 fullShare T.l ∗ holds (V d (cV i) (jV i)) s7 fullShare T.b0 ∗ holds (V d (cV i) (jV i)) s8 fullShare T.e0
    ∗ holds (V d (cV i) (jV i)) s9 fullShare T.b1 ∗ holds (V d (cV i) (jV i)) s10 fullShare T.e1)

/-- The row loop's arrays: the two output blocks are right up to `p0` and up to `p1`. -/
def lev (T : Tabs F) (h0 : Vec F S352 .i32) (h1 : Vec F S672 .i32) (p0 p1 : Nat) : sProp 𝕄 :=
  iprop(tabs i d T ∗ holds (V d (cV i) (jV i)) s2 fullShare h0 ∗ holds (V d (cV i) (jV i)) s3 fullShare h1
    ∗ (∃ wo : Vec F S1408 .f32, ⌜∀ j, (j 0).val < p0 → wo j = cell 22 T.b0 T.e0 h0 T.l (j 0).val⌝ ∗ holds (V d (cV i) (jV i)) s4 fullShare wo)
    ∗ ∃ wo : Vec F S5376 .f32, ⌜∀ j, (j 0).val < p1 → wo j = cell 42 T.b1 T.e1 h1 T.l (j 0).val⌝ ∗ holds (V d (cV i) (jV i)) s5 fullShare wo)

/-- The tables' ids name bins, and the histograms' counts name logarithms. -/
structure Fits (T : Tabs F) (h0 : Vec F S352 .i32) (h1 : Vec F S672 .i32) : Prop where
  b0 : ∀ j, (T.b0 j : BitVec 32).toNat < 22
  b1 : ∀ j, (T.b1 j : BitVec 32).toNat < 42
  h0 : ∀ j, (h0 j : BitVec 32).toNat < 256
  h1 : ∀ j, (h1 j : BitVec 32).toNat < 256

variable {i} {d} {T : Tabs F} {h0 : Vec F S352 .i32} {h1 : Vec F S672 .i32}

theorem wp_lo (hT : Fits T h0 h1) {v3 base row : IVec S16 32} (hv3 : ∀ x, v3 x = BitVec.ofNat 32 (x 0).val) (r : Nat) (hr : r < 16)
    (hb : ∀ x, base x = BitVec.ofNat 32 (r * 22)) (hw : ∀ x, row x = BitVec.ofNat 32 (r * 88)) (p1 : Nat)
    (st : Fin 73) (p : Nat) (k : PUnit → PR F i PUnit) (hp : st.val ≤ p) :
    lev i d T h0 h1 (r * 88 + p) p1 ⊢ iprop((lev i d T h0 h1 (r * 88 + (st.val + 16)) p1 -∗ wp frame (wpE (defs₀ (F := F)) 𝒱₀ (V d (cV i) (jV i)) none) Set.univ (k ⟨⟩) Q)
      -∗ wp frame (wpE (defs₀ (F := F)) 𝒱₀ (V d (cV i) (jV i)) none) Set.univ (lo i s2 s4 s6 s7 s8 v3 base row st >>= k) Q) := by
  unfold lev tabs
  iintro ⟨⟨Hl, Hb, He, Hb1, He1⟩, Hh, Hh1, ⟨%wo, %hwo, Ho⟩, Ho1⟩ Hk
  unfold lo
  iapply (wp_chunk (defs := defs₀ (F := F)) 𝒱₀ (V d (cV i) (jV i)) none Set.univ (wb := T.b0) (we := T.e0) (wh := h0) (wl := T.l) (wo := wo) (qb := fullShare) (qe := fullShare) (qh := fullShare) (ql := fullShare) (nb := 22) (nt := 88) (nh := 352) (no := 1408)
    (fun _ h => h) (fun _ h => h) (fun _ h => h) r (r * 88 + p) hr rfl rfl (by decide) (by decide) (by have := st.isLt; omega) (by omega)
    hb (fun x => by show row x + (v3 x + _) = _; rw [hv3, hw]; rfl) hT.b0 hT.h0 hwo) $$ [Hl Hb He Hh Ho]
  · isplitl [Hb]; · iexact Hb
    isplitl [He]; · iexact He
    isplitl [Hh]; · iexact Hh
    isplitl [Hl]; · iexact Hl
    iexact Ho
  iintro %wo' %hwo' ⟨Hb, He, Hh, Hl, Ho⟩
  iapply Hk
  isplitl [Hl Hb He Hb1 He1]
  · isplitl [Hl]; · iexact Hl
    isplitl [Hb]; · iexact Hb
    isplitl [He]; · iexact He
    isplitl [Hb1]; · iexact Hb1
    iexact He1
  isplitl [Hh]; · iexact Hh
  isplitl [Hh1]; · iexact Hh1
  isplitr [Ho1]
  · iexists wo'
    isplitr
    · ipureintro; exact hwo'
    · iexact Ho
  · iexact Ho1

theorem wp_hi (hT : Fits T h0 h1) {v3 base row : IVec S16 32} (hv3 : ∀ x, v3 x = BitVec.ofNat 32 (x 0).val) (r : Nat) (hr : r < 16)
    (hb : ∀ x, base x = BitVec.ofNat 32 (r * 42)) (hw : ∀ x, row x = BitVec.ofNat 32 (r * 336)) (p0 : Nat)
    (st : Fin 321) (p : Nat) (k : PUnit → PR F i PUnit) (hp : st.val ≤ p) :
    lev i d T h0 h1 p0 (r * 336 + p) ⊢ iprop((lev i d T h0 h1 p0 (r * 336 + (st.val + 16)) -∗ wp frame (wpE (defs₀ (F := F)) 𝒱₀ (V d (cV i) (jV i)) none) Set.univ (k ⟨⟩) Q)
      -∗ wp frame (wpE (defs₀ (F := F)) 𝒱₀ (V d (cV i) (jV i)) none) Set.univ (hi i s3 s5 s6 s9 s10 v3 base row st >>= k) Q) := by
  unfold lev tabs
  iintro ⟨⟨Hl, Hb0, He0, Hb, He⟩, Hh0, Hh, Ho0, ⟨%wo, %hwo, Ho⟩⟩ Hk
  unfold hi
  iapply (wp_chunk (defs := defs₀ (F := F)) 𝒱₀ (V d (cV i) (jV i)) none Set.univ (wb := T.b1) (we := T.e1) (wh := h1) (wl := T.l) (wo := wo) (qb := fullShare) (qe := fullShare) (qh := fullShare) (ql := fullShare) (nb := 42) (nt := 336) (nh := 672) (no := 5376)
    (fun _ h => h) (fun _ h => h) (fun _ h => h) r (r * 336 + p) hr rfl rfl (by decide) (by decide) (by have := st.isLt; omega) (by omega)
    hb (fun x => by show row x + (v3 x + _) = _; rw [hv3, hw]; rfl) hT.b1 hT.h1 hwo) $$ [Hl Hb He Hh Ho]
  · isplitl [Hb]; · iexact Hb
    isplitl [He]; · iexact He
    isplitl [Hh]; · iexact Hh
    isplitl [Hl]; · iexact Hl
    iexact Ho
  iintro %wo' %hwo' ⟨Hb, He, Hh, Hl, Ho⟩
  iapply Hk
  isplitl [Hl Hb0 He0 Hb He]
  · isplitl [Hl]; · iexact Hl
    isplitl [Hb0]; · iexact Hb0
    isplitl [He0]; · iexact He0
    isplitl [Hb]; · iexact Hb
    iexact He
  isplitl [Hh0]; · iexact Hh0
  isplitl [Hh]; · iexact Hh
  isplitl [Ho0]; · iexact Ho0
  iexists wo'
  isplitr
  · ipureintro; exact hwo'
  · iexact Ho

/-- One row: both blocks grow by a row. -/
theorem wp_row (hT : Fits T h0 h1) {v3 base0 row0 base1 row1 : IVec S16 32} (hv3 : ∀ x, v3 x = BitVec.ofNat 32 (x 0).val) (r : Nat) (hr : r < 16)
    (hb0 : ∀ x, base0 x = BitVec.ofNat 32 (r * 22)) (hw0 : ∀ x, row0 x = BitVec.ofNat 32 (r * 88))
    (hb1 : ∀ x, base1 x = BitVec.ofNat 32 (r * 42)) (hw1 : ∀ x, row1 x = BitVec.ofNat 32 (r * 336)) (rest : PR F i PUnit) :
    lev i d T h0 h1 (r * 88) (r * 336) ⊢ iprop((lev i d T h0 h1 ((r + 1) * 88) ((r + 1) * 336) -∗ wp frame (wpE (defs₀ (F := F)) 𝒱₀ (V d (cV i) (jV i)) none) Set.univ rest Q)
      -∗ wp frame (wpE (defs₀ (F := F)) 𝒱₀ (V d (cV i) (jV i)) none) Set.univ
        (seq i (lo i s2 s4 s6 s7 s8 v3 base0 row0) starts0 (seq i (hi i s3 s5 s6 s9 s10 v3 base1 row1) starts1 rest)) Q) := by
  iintro H Hk
  iapply (wp_seq i d (R := fun p => lev i d T h0 h1 (r * 88 + p) (r * 336)) (fun st : Fin 73 => st.val) (wp_lo hT hv3 r hr hb0 hw0 (r * 336)) starts0 0 (by decide)) $$ [H]
  · iexact H
  iintro H
  iapply (wp_seq i d (R := fun p => lev i d T h0 h1 ((r + 1) * 88) (r * 336 + p)) (fun st : Fin 321 => st.val) (wp_hi hT hv3 r hr hb1 hw1 ((r + 1) * 88)) starts1 0 (by decide)) $$ [H]
  · rw [show (r + 1) * 88 = r * 88 + endOf (fun st : Fin 73 => st.val) starts0 0 by rw [Nat.succ_mul]; rfl]
    iexact H
  iintro H
  iapply Hk
  rw [show (r + 1) * 336 = r * 336 + endOf (fun st : Fin 321 => st.val) starts1 0 by rw [Nat.succ_mul]; rfl]
  iexact H

end Chain

end Cert.Proof.RunIdeal
-- ==== Proof.RunIdeal.Loops.lean ====
/-
  The task's three inner loops: the two histograms' samples, and the sixteen rows.
-/
module

public import proofs.«01_k».proof.Proof.RunIdeal.Rows

@[expose] public section

noncomputable section

namespace Cert.Proof.RunIdeal

open Cert.KernelIdeal Cert.KernelIdeal.Gen Cert.Proof.Lanes Cert.Proof.RowOps Cert.Proof.Hist

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

abbrev a2 : Memref sig .scVector .hbm S819200 .f32 := Memref.whole main_v11_scv
abbrev a3 : Memref sig .scVector .hbm S204800 .f32 := Memref.whole main_v12_scv
abbrev a4 : Memref sig .scVector .hbm S256 .f32 := Memref.whole main_v4_scv
abbrev a5 : Memref sig .scVector .hbm S88 .i32 := Memref.whole main_v6_scv
abbrev a6 : Memref sig .scVector .hbm S88 .f32 := Memref.whole main_v7_scv
abbrev a7 : Memref sig .scVector .hbm S336 .i32 := Memref.whole main_v9_scv
abbrev a8 : Memref sig .scVector .hbm S336 .f32 := Memref.whole main_v10_scv
abbrev a9 : Memref sig .scVector .hbm S360448 .f32 := Memref.whole main_v13_0_scv
abbrev a10 : Memref sig .scVector .hbm S1376256 .f32 := Memref.whole main_v13_1_scv

/-- The lanes' numbers. -/
abbrev v3₀ : IVec S16 32 := iota .scVector S16 32 [0] iota_S16_d0_w32_scVector

theorem v3₀_apply (x : S16.Idx) : v3₀ x = BitVec.ofNat 32 (x 0).val := by
  simp [v3₀, iota]

theorem iv_eq (k : Nat) : Scf.iv 0#32 1#32 k = BitVec.ofNat 32 k := by
  simp [Scf.iv]

theorem ofNat_mul' (n m : Nat) : BitVec.ofNat 32 n * BitVec.ofNat 32 m = BitVec.ofNat 32 (n * m) := by
  apply BitVec.eq_of_toNat_eq
  simp [BitVec.toNat_mul, BitVec.toNat_ofNat, Nat.mul_mod]

/-- The bins the two levels count a sample into. -/
def bin0 (y : F .f32) : BitVec 32 := bin 0x41200000#32 10#32 21#32 y
def bin1 (y : F .f32) : BitVec 32 := bin 0x41A00000#32 20#32 41#32 y

theorem bin0_lt (y : F .f32) : (bin0 y).toNat < 22 := Nat.lt_succ_of_le (bin_le 0x41200000#32 10#32 21#32 (by decide) y)
theorem bin1_lt (y : F .f32) : (bin1 y).toNat < 42 := Nat.lt_succ_of_le (bin_le 0x41A00000#32 20#32 41#32 (by decide) y)

/-- Sixteen rows' histograms after `s` samples of each. -/
def his0 (wc : Vec F S3200 .f32) (s : Nat) : Vec F S352 .i32 := hist bin0 (nat1 wc) 200 22 s
def his1 (wc : Vec F S800 .f32) (s : Nat) : Vec F S672 .i32 := hist bin1 (nat1 wc) 50 42 s

/-- The rows' samples, and their histogram after `s` of each. -/
def tal0 (i : grid1.Coords) (d : Dev nD) (wc : Vec F S3200 .f32) (s : Nat) : sProp 𝕄 :=
  iprop(holds (V d (cV i) (jV i)) s0 fullShare wc ∗ holds (V d (cV i) (jV i)) s2 fullShare (his0 wc s))
def tal1 (i : grid1.Coords) (d : Dev nD) (wc : Vec F S800 .f32) (s : Nat) : sProp 𝕄 :=
  iprop(holds (V d (cV i) (jV i)) s1 fullShare wc ∗ holds (V d (cV i) (jV i)) s3 fullShare (his1 wc s))

/-- Trip `k` of the loop, at the launch's memrefs. -/
abbrev t2B (i : grid1.Coords) : Fin k1_t2_loop.trips → Unit → PR F i Unit :=
  k1_t2_body (F := F) i a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc1_scoped0 cc1_scoped1 cc1_scoped2 cc1_scoped3 cc1_scoped4 cc1_scoped5 cc1_scoped6 cc1_scoped7 cc1_scoped8 v3₀ k1_pay1 k1_pay2 k1_pay3 k1_pay4 k1_pay5

/-- Trip `k` of the loop, at the launch's memrefs. -/
abbrev t3B (i : grid1.Coords) : Fin k1_t3_loop.trips → Unit → PR F i Unit :=
  k1_t3_body (F := F) i a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc1_scoped0 cc1_scoped1 cc1_scoped2 cc1_scoped3 cc1_scoped4 cc1_scoped5 cc1_scoped6 cc1_scoped7 cc1_scoped8 v3₀ k1_pay1 k1_pay2 k1_pay3 k1_pay4 k1_pay5

/-- Trip `k` of the loop, at the launch's memrefs. -/
abbrev t4B (i : grid1.Coords) : Fin k1_t4_loop.trips → Unit → PR F i Unit :=
  k1_t4_body (F := F) i a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc1_scoped0 cc1_scoped1 cc1_scoped2 cc1_scoped3 cc1_scoped4 cc1_scoped5 cc1_scoped6 cc1_scoped7 cc1_scoped8 v3₀ k1_pay1 k1_pay2 k1_pay3 k1_pay4 k1_pay5

/-- One sample of sixteen rows of level 0 is tallied. -/
theorem t2_trip (i : grid1.Coords) (d : Dev nD) (wc : Vec F S3200 .f32) (k : Fin k1_t2_loop.trips) (acc : Unit) :
    tal0 i d wc k.val ⊢ wp frame (wpE (defs₀ (F := F)) 𝒱₀ (V d (cV i) (jV i)) none) Set.univ (t2B (F := F) i k acc) fun _ => tal0 i d wc (k.val + 1) := by
  have hk : k.val < 200 := k.isLt
  have e : t2B (F := F) i k acc = tally (p := .scVector (cV i) (jV i)) s0 s2 (k1_pay125 k1_pay4 k) k1_pay1 (k1_pay126 k1_pay2) k1_chk1.dec k1_chk2.dec k1_idx1_inb k1_idx2_inb
      (View.loads_vmem h_S3200) (View.stores_vmem_bits_univ h_S352 rfl) >>= fun _ => pure ⟨⟩ := by
    unfold t2B k1_t2_body tally
    simp only [Prog.bind_assoc]
  rw [e]
  unfold tal0 his0
  iintro H
  iapply (wp_tally (defs := defs₀ (F := F)) 𝒱₀ (V d (cV i) (jV i)) none Set.univ (nb := 22) (len := 200) (f := bin0) (Mc := s0) (Mh := s2) (wc := wc) (q := fullShare)
    (fun _ h => h) (fun _ h => h) k.val hk rfl rfl (by decide) (by decide) bin0_lt
    (fun x => by show v3₀ x * _ + Scf.iv 0#32 1#32 k = _; rw [iv_eq, v3₀_apply]; rfl)
    (fun y x => by show v3₀ x * _ + _ = _; rw [v3₀_apply]; rfl) (fun _ => rfl)) $$ H
  iintro H
  rw [wp_pure]
  iexact H

/-- One sample of sixteen rows of level 1 is tallied. -/
theorem t3_trip (i : grid1.Coords) (d : Dev nD) (wc : Vec F S800 .f32) (k : Fin k1_t3_loop.trips) (acc : Unit) :
    tal1 i d wc k.val ⊢ wp frame (wpE (defs₀ (F := F)) 𝒱₀ (V d (cV i) (jV i)) none) Set.univ (t3B (F := F) i k acc) fun _ => tal1 i d wc (k.val + 1) := by
  have hk : k.val < 50 := k.isLt
  have e : t3B (F := F) i k acc = tally (p := .scVector (cV i) (jV i)) s1 s3 (k1_pay127 k1_pay5 k) k1_pay1 (k1_pay128 k1_pay3) k1_chk3.dec k1_chk4.dec k1_idx3_inb k1_idx4_inb
      (View.loads_vmem h_S800) (View.stores_vmem_bits_univ h_S672 rfl) >>= fun _ => pure ⟨⟩ := by
    unfold t3B k1_t3_body tally
    simp only [Prog.bind_assoc]
  rw [e]
  unfold tal1 his1
  iintro H
  iapply (wp_tally (defs := defs₀ (F := F)) 𝒱₀ (V d (cV i) (jV i)) none Set.univ (nb := 42) (len := 50) (f := bin1) (Mc := s1) (Mh := s3) (wc := wc) (q := fullShare)
    (fun _ h => h) (fun _ h => h) k.val hk rfl rfl (by decide) (by decide) bin1_lt
    (fun x => by show v3₀ x * _ + Scf.iv 0#32 1#32 k = _; rw [iv_eq, v3₀_apply]; rfl)
    (fun y x => by show v3₀ x * _ + _ = _; rw [v3₀_apply]; rfl) (fun _ => rfl)) $$ H
  iintro H
  rw [wp_pure]
  iexact H

/-- One row of both output blocks is written. -/
theorem t4_trip (i : grid1.Coords) (d : Dev nD) {T : Tabs F} {h0 : Vec F S352 .i32} {h1 : Vec F S672 .i32} (hT : Fits T h0 h1)
    (k : Fin k1_t4_loop.trips) (acc : Unit) :
    lev i d T h0 h1 (k.val * 88) (k.val * 336) ⊢ wp frame (wpE (defs₀ (F := F)) 𝒱₀ (V d (cV i) (jV i)) none) Set.univ (t4B (F := F) i k acc) fun _ => lev i d T h0 h1 ((k.val + 1) * 88) ((k.val + 1) * 336) := by
  have hk : k.val < 16 := k.isLt
  have e := t4_body_eq (F := F) i s2 s3 s4 s5 s6 s7 s8 s9 s10 a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s0 (Memref.isWhole_whole _) s1 (Memref.isWhole_whole _)
    (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
    cc1_scoped0 cc1_scoped1 cc1_scoped2 cc1_scoped3 cc1_scoped4 cc1_scoped5 cc1_scoped6 cc1_scoped7 cc1_scoped8 v3₀ k1_pay1 k1_pay2 k1_pay3 k1_pay4 k1_pay5 k
  rw [show t4B (F := F) i k acc = _ from e]
  iintro H
  iapply (wp_row hT v3₀_apply k.val hk
    (fun x => by show Scf.iv 0#32 1#32 k * _ = _; rw [iv_eq]; exact ofNat_mul' _ 22) (fun x => by show Scf.iv 0#32 1#32 k * _ = _; rw [iv_eq]; exact ofNat_mul' _ 88)
    (fun x => by show Scf.iv 0#32 1#32 k * _ = _; rw [iv_eq]; exact ofNat_mul' _ 42) (fun x => by show Scf.iv 0#32 1#32 k * _ = _; rw [iv_eq]; exact ofNat_mul' _ 336) _) $$ H
  iintro H
  rw [wp_pure]
  iexact H

end Cert.Proof.RunIdeal
-- ==== Proof.RunIdeal.Group.lean ====
/-
  One group of sixteen rows: its samples fetched, its counts cleared and tallied, its two output blocks computed and
  written out.
-/
module

public import proofs.«01_k».proof.Proof.RunIdeal.Loops
public import proofs.«01_k».proof.Proof.Copy

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- Sixteen of level 0's counts set to zero. -/
def blank0 (i : grid1.Coords) (st : Fin 337) : PR F i PUnit :=
  .op (.load s2 (Rect.unit (s := S352) ![st.val] S16.size (fun a => by rw [Fin.eq_zero a]; show st.val + 16 ≤ 352; have := st.isLt; omega)).toLoadRect (View.loadsAt_vmem h_S16))
    fun _ => .op (.store s2 (Rect.unit (s := S352) ![st.val] S16.size (fun a => by rw [Fin.eq_zero a]; show st.val + 16 ≤ 352; have := st.isLt; omega)) (broadcast S16 0#32) Finset.univ (View.stores_vmem_bits_univ h_S16 rfl) (.inl rfl)) fun _ => pure ⟨⟩

/-- Sixteen of level 1's counts set to zero. -/
def blank1 (i : grid1.Coords) (st : Fin 657) : PR F i PUnit :=
  .op (.load s3 (Rect.unit (s := S672) ![st.val] S16.size (fun a => by rw [Fin.eq_zero a]; show st.val + 16 ≤ 672; have := st.isLt; omega)).toLoadRect (View.loadsAt_vmem h_S16))
    fun _ => .op (.store s3 (Rect.unit (s := S672) ![st.val] S16.size (fun a => by rw [Fin.eq_zero a]; show st.val + 16 ≤ 672; have := st.isLt; omega)) (broadcast S16 0#32) Finset.univ (View.stores_vmem_bits_univ h_S16 rfl) (.inl rfl)) fun _ => pure ⟨⟩

/-- Where the clearing stores fall. -/
abbrev clears0 : List (Fin 337) := [0, 16, 32, 48, 64, 80, 96, 112, 128, 144, 160, 176, 192, 208, 224, 240, 256, 272, 288, 304, 320, 336]
abbrev clears1 : List (Fin 657) := [0, 16, 32, 48, 64, 80, 96, 112, 128, 144, 160, 176, 192, 208, 224, 240, 256, 272, 288, 304, 320, 336, 352, 368, 384, 400, 416, 432, 448, 464, 480, 496, 512, 528, 544, 560, 576, 592, 608, 624, 640, 656]

/-- The groups' blocks of the flat arrays. -/
abbrev b2 (i : grid1.Coords) (k : Fin k1_t1_loop.trips) : Memref sig .scVector .hbm S3200 .f32 :=
  a2.slice (Rect.unit (s := S819200) (k1_off1 i k) S3200.size (k1_off1_inb i k)) (fun _ => rfl)
abbrev b3 (i : grid1.Coords) (k : Fin k1_t1_loop.trips) : Memref sig .scVector .hbm S800 .f32 :=
  a3.slice (Rect.unit (s := S204800) (k1_off2 i k) S800.size (k1_off2_inb i k)) (fun _ => rfl)
abbrev b9 (i : grid1.Coords) (k : Fin k1_t1_loop.trips) : Memref sig .scVector .hbm S1408 .f32 :=
  a9.slice (Rect.unit (s := S360448) (k1_off3 i k) S1408.size (k1_off3_inb i k)) (fun _ => rfl)
abbrev b10 (i : grid1.Coords) (k : Fin k1_t1_loop.trips) : Memref sig .scVector .hbm S5376 .f32 :=
  a10.slice (Rect.unit (s := S1376256) (k1_off4 i k) S5376.size (k1_off4_inb i k)) (fun _ => rfl)

/-- A group's program in order. -/
def grp (i : grid1.Coords) (k : Fin k1_t1_loop.trips) : PR F i PUnit :=
  .op (.enqueueDma (b2 i k) (.here s0) (.dma cc1_scoped5.sem) (View.wordExact_bits rfl) (Memref.isWhole_whole cc1_scratch0).wordExact ⟨Or.inl rfl, trivial⟩) fun _ =>
  .op (.waitDma2 cc1_scoped5.sem (b2 i k) s0 (View.wordExact_bits rfl) (Memref.isWhole_whole cc1_scratch0).wordExact) fun _ =>
  .op (.enqueueDma (b3 i k) (.here s1) (.dma cc1_scoped6.sem) (View.wordExact_bits rfl) (Memref.isWhole_whole cc1_scratch1).wordExact ⟨Or.inl rfl, trivial⟩) fun _ =>
  .op (.waitDma2 cc1_scoped6.sem (b3 i k) s1 (View.wordExact_bits rfl) (Memref.isWhole_whole cc1_scratch1).wordExact) fun _ =>
  seq i (blank0 i) clears0 (seq i (blank1 i) clears1
    (Scf.Loop.for k1_t2_loop k1_t2_ok ⟨⟩ (t2B i) >>= fun _ => Scf.Loop.for k1_t3_loop k1_t3_ok ⟨⟩ (t3B i) >>= fun _ =>
      Scf.Loop.for k1_t4_loop k1_t4_ok ⟨⟩ (t4B i) >>= fun _ =>
      .op (.enqueueDma s4 (.here (b9 i k)) (.dma cc1_scoped7.sem) (Memref.isWhole_whole cc1_scratch4).wordExact (View.wordExact_bits rfl) ⟨Or.inl rfl, trivial⟩) fun _ =>
      .op (.waitDma2 cc1_scoped7.sem s4 (b9 i k) (Memref.isWhole_whole cc1_scratch4).wordExact (View.wordExact_bits rfl)) fun _ =>
      .op (.enqueueDma s5 (.here (b10 i k)) (.dma cc1_scoped8.sem) (Memref.isWhole_whole cc1_scratch5).wordExact (View.wordExact_bits rfl) ⟨Or.inl rfl, trivial⟩) fun _ =>
      .op (.waitDma2 cc1_scoped8.sem s5 (b10 i k) (Memref.isWhole_whole cc1_scratch5).wordExact (View.wordExact_bits rfl)) fun _ => pure ⟨⟩))

set_option maxHeartbeats 8000000 in
set_option maxRecDepth 65536 in
/-- The group loop's trip is that program. -/
theorem t1_body_eq (i : grid1.Coords) (v2 : BitVec 32) (k : Fin k1_t1_loop.trips) :
    k1_t1_body (F := F) i a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc1_scoped0 cc1_scoped1 cc1_scoped2 cc1_scoped3 cc1_scoped4 cc1_scoped5 cc1_scoped6 cc1_scoped7 cc1_scoped8 v2 v3₀ k () = grp i k := by
  unfold k1_t1_body
  simp only [k1_part8_eq_skeleton, k1_part9_eq_skeleton, k1_part10_eq_skeleton, k1_part11_eq_skeleton, k1_part12_eq_skeleton, k1_part13_eq_skeleton]
  unfold k1_part8_skel k1_part9_skel k1_part10_skel k1_part11_skel k1_part12_skel k1_part13_skel grp
  simp only [seq, List.foldr_cons, List.foldr_nil, blank0, blank1, Prog.lift, Prog.bind_op, Prog.bind_ret, Prog.bind_assoc, Prog.pure_eq_ret]
  rfl

/-- Level 0's counts, zero up to `p`. -/
def zero0 (i : grid1.Coords) (d : Dev nD) (p : Nat) : sProp 𝕄 :=
  iprop(∃ w : IVec ⟨1, ![352]⟩ 32, ⌜∀ j, (j 0).val < p → w j = 0#32⌝ ∗ holds (F := F) (e := .i32) (V d (cV i) (jV i)) s2 fullShare w)

/-- Level 1's counts, zero up to `p`. -/
def zero1 (i : grid1.Coords) (d : Dev nD) (p : Nat) : sProp 𝕄 :=
  iprop(∃ w : IVec ⟨1, ![672]⟩ 32, ⌜∀ j, (j 0).val < p → w j = 0#32⌝ ∗ holds (F := F) (e := .i32) (V d (cV i) (jV i)) s3 fullShare w)

theorem wp_blank0 {i : grid1.Coords} {d : Dev nD} {Q : PUnit → sProp (MT nD τ sig (HIx 1) (Elt F) ℕ UU ℕ)} (st : Fin 337) (p : Nat) (k : PUnit → PR F i PUnit) (hp : st.val ≤ p) :
    zero0 i d p ⊢ iprop((zero0 i d (st.val + 16) -∗ wp frame (wpE (defs₀ (F := F)) 𝒱₀ (V d (cV i) (jV i)) none) Set.univ (k ⟨⟩) Q) -∗ wp frame (wpE (defs₀ (F := F)) 𝒱₀ (V d (cV i) (jV i)) none) Set.univ (blank0 i st >>= k) Q) := by
  unfold blank0 zero0
  simp only [Prog.bind_op, Prog.pure_eq_ret, Prog.bind_ret]
  exact wp_blank (defs := defs₀ (F := F)) 𝒱₀ (V d (cV i) (jV i)) none Set.univ (M := s2) (k := fun _ => k ⟨⟩) p hp (fun _ => rfl)

theorem wp_blank1 {i : grid1.Coords} {d : Dev nD} {Q : PUnit → sProp (MT nD τ sig (HIx 1) (Elt F) ℕ UU ℕ)} (st : Fin 657) (p : Nat) (k : PUnit → PR F i PUnit) (hp : st.val ≤ p) :
    zero1 i d p ⊢ iprop((zero1 i d (st.val + 16) -∗ wp frame (wpE (defs₀ (F := F)) 𝒱₀ (V d (cV i) (jV i)) none) Set.univ (k ⟨⟩) Q) -∗ wp frame (wpE (defs₀ (F := F)) 𝒱₀ (V d (cV i) (jV i)) none) Set.univ (blank1 i st >>= k) Q) := by
  unfold blank1 zero1
  simp only [Prog.bind_op, Prog.pure_eq_ret, Prog.bind_ret]
  exact wp_blank (defs := defs₀ (F := F)) 𝒱₀ (V d (cV i) (jV i)) none Set.univ (M := s3) (k := fun _ => k ⟨⟩) p hp (fun _ => rfl)

end Cert.Proof.RunIdeal
-- ==== Proof.RunIdeal.Trip.lean ====
/-
  One group's trip: its samples fetched, counted, looked up and written out.
-/
module

public import proofs.«01_k».proof.Proof.RunIdeal.Group

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- A group's two result blocks, from the tables and its samples. -/
def res0 (T : Tabs F) (wc : Vec F S3200 .f32) : Vec F S1408 .f32 := fun j => cell 22 T.b0 T.e0 (his0 wc 200) T.l (j 0).val
def res1 (T : Tabs F) (wc : Vec F S800 .f32) : Vec F S5376 .f32 := fun j => cell 42 T.b1 T.e1 (his1 wc 50) T.l (j 0).val

theorem his0_lt (wc : Vec F S3200 .f32) (j : S352.Idx) : (his0 wc 200 j : BitVec 32).toNat < 256 := by
  show (BitVec.ofNat 32 (cnt bin0 (nat1 wc) 200 200 ((j 0).val / 22) ((j 0).val % 22))).toNat < 256
  have := cnt_le bin0 (nat1 wc) 200 200 ((j 0).val / 22) ((j 0).val % 22)
  rw [BitVec.toNat_ofNat]
  exact lt_of_le_of_lt (Nat.mod_le _ _) (by omega)

theorem his1_lt (wc : Vec F S800 .f32) (j : S672.Idx) : (his1 wc 50 j : BitVec 32).toNat < 256 := by
  show (BitVec.ofNat 32 (cnt bin1 (nat1 wc) 50 50 ((j 0).val / 42) ((j 0).val % 42))).toNat < 256
  have := cnt_le bin1 (nat1 wc) 50 50 ((j 0).val / 42) ((j 0).val % 42)
  rw [BitVec.toNat_ofNat]
  exact lt_of_le_of_lt (Nat.mod_le _ _) (by omega)

theorem his0_zero (wc : Vec F S3200 .f32) (w : IVec S352 32) (h : ∀ j, (j 0).val < 352 → w j = 0#32) : w = his0 wc 0 := by
  funext j
  rw [h j (j 0).isLt]
  show _ = BitVec.ofNat 32 (cnt bin0 (nat1 wc) 200 0 ((j 0).val / 22) ((j 0).val % 22))
  rw [cnt_zero]

theorem his1_zero (wc : Vec F S800 .f32) (w : IVec S672 32) (h : ∀ j, (j 0).val < 672 → w j = 0#32) : w = his1 wc 0 := by
  funext j
  rw [h j (j 0).isLt]
  show _ = BitVec.ofNat 32 (cnt bin1 (nat1 wc) 50 0 ((j 0).val / 42) ((j 0).val % 42))
  rw [cnt_zero]

variable (i : grid1.Coords) (d : Dev nD)

/-- A group's blocks before its trip. -/
def todo (c0 : Vec F S3200 .f32) (c1 : Vec F S800 .f32) (k : Fin k1_t1_loop.trips) : sProp 𝕄 :=
  iprop(holds (V d (cV i) (jV i)) (b2 i k) fullShare c0 ∗ holds (V d (cV i) (jV i)) (b3 i k) fullShare c1
    ∗ (∃ w : Vec F S1408 .f32, holds (V d (cV i) (jV i)) (b9 i k) fullShare w) ∗ ∃ w : Vec F S5376 .f32, holds (V d (cV i) (jV i)) (b10 i k) fullShare w)

/-- And after. -/
def done (T : Tabs F) (c0 : Vec F S3200 .f32) (c1 : Vec F S800 .f32) (k : Fin k1_t1_loop.trips) : sProp 𝕄 :=
  iprop(holds (V d (cV i) (jV i)) (b2 i k) fullShare c0 ∗ holds (V d (cV i) (jV i)) (b3 i k) fullShare c1
    ∗ holds (V d (cV i) (jV i)) (b9 i k) fullShare (res0 T c0) ∗ holds (V d (cV i) (jV i)) (b10 i k) fullShare (res1 T c1))

/-- The task's working arrays, at any contents, and the semaphores of its copies at zero. -/
def work : sProp 𝕄 :=
  iprop((∃ w : Vec F S3200 .f32, holds (V d (cV i) (jV i)) s0 fullShare w) ∗ (∃ w : Vec F S800 .f32, holds (V d (cV i) (jV i)) s1 fullShare w)
    ∗ (∃ w : Vec F S352 .i32, holds (V d (cV i) (jV i)) s2 fullShare w) ∗ (∃ w : Vec F S672 .i32, holds (V d (cV i) (jV i)) s3 fullShare w)
    ∗ (∃ w : Vec F S1408 .f32, holds (V d (cV i) (jV i)) s4 fullShare w) ∗ (∃ w : Vec F S5376 .f32, holds (V d (cV i) (jV i)) s5 fullShare w)
    ∗ semVal ((V d (cV i) (jV i)), SemLoc.dma cc1_scoped5.sem) 0 ∗ semVal ((V d (cV i) (jV i)), SemLoc.dma cc1_scoped6.sem) 0
    ∗ semVal ((V d (cV i) (jV i)), SemLoc.dma cc1_scoped7.sem) 0 ∗ semVal ((V d (cV i) (jV i)), SemLoc.dma cc1_scoped8.sem) 0)

variable {i} {d}

/-- A group's trip. -/
theorem wp_grp {T : Tabs F} (hb0 : ∀ j, (T.b0 j : BitVec 32).toNat < 22) (hb1 : ∀ j, (T.b1 j : BitVec 32).toNat < 42)
    {O : CellTallies nD τ sig (HIx 1)} {W : Waits sig (HIx 1)} (c0 : Vec F S3200 .f32) (c1 : Vec F S800 .f32) (k : Fin k1_t1_loop.trips) :
    iprop(tabs i d T ∗ work i d ∗ dues (V d (cV i) (jV i)) (none : HIx 1) O W ∗ todo i d c0 c1 k : sProp 𝕄)
      ⊢ wp frame (wpE (defs₀ (F := F)) 𝒱₀ (V d (cV i) (jV i)) none) Set.univ (grp i k) fun _ => iprop(tabs i d T ∗ work i d ∗ dues (V d (cV i) (jV i)) (none : HIx 1) O W ∗ done i d T c0 c1 k) := by
  have hT : Fits T (his0 c0 200) (his1 c1 50) := ⟨hb0, hb1, his0_lt c0, his1_lt c1⟩
  unfold work todo
  iintro ⟨HT, ⟨H0, H1, ⟨%w2, H2⟩, ⟨%w3, H3⟩, ⟨%w4, H4⟩, ⟨%w5, H5⟩, Hs5, Hs6, Hs7, Hs8⟩, HO, ⟨Hi0, Hi1, Ho0, Ho1⟩⟩
  unfold grp
  iapply (wp_copy 𝒱₀ (V d (cV i) (jV i)) none (defs := defs₀ (F := F)) (none : HIx 1) (View.amount_pos _ _ (show 0 < S3200.numel by decide))) $$ [Hi0 H0 Hs5 HO]
  · isplitl [Hi0]; · iexact Hi0
    isplitl [H0]; · iexact H0
    isplitl [Hs5]; · iexact Hs5
    iexact HO
  iintro ⟨Hi0, H0, Hs5, HO⟩
  iapply (wp_copy 𝒱₀ (V d (cV i) (jV i)) none (defs := defs₀ (F := F)) (none : HIx 1) (View.amount_pos _ _ (show 0 < S800.numel by decide))) $$ [Hi1 H1 Hs6 HO]
  · isplitl [Hi1]; · iexact Hi1
    isplitl [H1]; · iexact H1
    isplitl [Hs6]; · iexact Hs6
    iexact HO
  iintro ⟨Hi1, H1, Hs6, HO⟩
  iapply (wp_seq i d (R := zero0 (F := F) i d) (fun st : Fin 337 => st.val) wp_blank0 clears0 0 (by decide)) $$ [H2]
  · unfold zero0
    iexists w2
    isplitr; · ipureintro; intro j hj; exact absurd hj (Nat.not_lt_zero _)
    iexact H2
  iintro H2
  iapply (wp_seq i d (R := zero1 (F := F) i d) (fun st : Fin 657 => st.val) wp_blank1 clears1 0 (by decide)) $$ [H3]
  · unfold zero1
    iexists w3
    isplitr; · ipureintro; intro j hj; exact absurd hj (Nat.not_lt_zero _)
    iexact H3
  iintro H3
  unfold zero0 zero1
  icases H2 with ⟨%z2, %hz2, H2⟩
  icases H3 with ⟨%z3, %hz3, H3⟩
  obtain rfl := his0_zero c0 z2 hz2
  obtain rfl := his1_zero c1 z3 hz3
  iapply (Scf.wp_for_bind frame (wpE (defs₀ (F := F)) 𝒱₀ (V d (cV i) (jV i)) none) Set.univ _ _ _ k1_t2_ok ⟨⟩ (t2B (F := F) i) (fun k _ => tal0 i d c0 k) (t2_trip i d c0)) $$ [H0 H2]
  · unfold tal0
    isplitl [H0]; · iexact H0
    iexact H2
  iintro %_ H
  unfold tal0
  icases H with ⟨H0, H2⟩
  iapply (Scf.wp_for_bind frame (wpE (defs₀ (F := F)) 𝒱₀ (V d (cV i) (jV i)) none) Set.univ _ _ _ k1_t3_ok ⟨⟩ (t3B (F := F) i) (fun k _ => tal1 i d c1 k) (t3_trip i d c1)) $$ [H1 H3]
  · unfold tal1
    isplitl [H1]; · iexact H1
    iexact H3
  iintro %_ H
  unfold tal1
  icases H with ⟨H1, H3⟩
  iapply (Scf.wp_for_bind frame (wpE (defs₀ (F := F)) 𝒱₀ (V d (cV i) (jV i)) none) Set.univ _ _ _ k1_t4_ok ⟨⟩ (t4B (F := F) i)
    (fun k _ => lev i d T (his0 c0 200) (his1 c1 50) (k * 88) (k * 336)) (t4_trip i d hT)) $$ [HT H2 H3 H4 H5]
  · unfold lev
    isplitl [HT]; · iexact HT
    isplitl [H2]; · iexact H2
    isplitl [H3]; · iexact H3
    isplitl [H4]
    · iexists w4
      isplitr; · ipureintro; intro j hj; exact absurd hj (by simp)
      iexact H4
    · iexists w5
      isplitr; · ipureintro; intro j hj; exact absurd hj (by simp)
      iexact H5
  iintro %_ H
  unfold lev
  icases H with ⟨HT, H2, H3, ⟨%v4, %hv4, H4⟩, ⟨%v5, %hv5, H5⟩⟩
  obtain rfl : v4 = res0 T c0 := funext fun j => hv4 j (j 0).isLt
  obtain rfl : v5 = res1 T c1 := funext fun j => hv5 j (j 0).isLt
  iapply (wp_copy 𝒱₀ (V d (cV i) (jV i)) none (defs := defs₀ (F := F)) (none : HIx 1) (View.amount_pos _ _ (show 0 < S1408.numel by decide))) $$ [H4 Ho0 Hs7 HO]
  · isplitl [H4]; · iexact H4
    isplitl [Ho0]; · iexact Ho0
    isplitl [Hs7]; · iexact Hs7
    iexact HO
  iintro ⟨H4, Ho0, Hs7, HO⟩
  iapply (wp_copy 𝒱₀ (V d (cV i) (jV i)) none (defs := defs₀ (F := F)) (none : HIx 1) (View.amount_pos _ _ (show 0 < S5376.numel by decide))) $$ [H5 Ho1 Hs8 HO]
  · isplitl [H5]; · iexact H5
    isplitl [Ho1]; · iexact Ho1
    isplitl [Hs8]; · iexact Hs8
    iexact HO
  iintro ⟨H5, Ho1, Hs8, HO⟩
  rw [wp_pure]
  unfold done
  isplitl [HT]; · iexact HT
  isplitr [HO Hi0 Hi1 Ho0 Ho1]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [Hs5]; · iexact Hs5
    isplitl [Hs6]; · iexact Hs6
    isplitl [Hs7]; · iexact Hs7
    iexact Hs8
  isplitl [HO]; · iexact HO
  isplitl [Hi0]; · iexact Hi0
  isplitl [Hi1]; · iexact Hi1
  isplitl [Ho0]; · iexact Ho0
  iexact Ho1

end Cert.Proof.RunIdeal
-- ==== Proof.RunIdeal.Tile.lean ====
/-
  The whole task: the tables fetched, and the eight groups one after another.
-/
module

public import proofs.«01_k».proof.Proof.RunIdeal.Trip

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Own

variable (d : Dev nD) (c : Fin τ.nSC) (j : Fin τ.nSub)

/-- The task's scratch arrays. -/
def scratch : Finset (Ref sig .scVector) :=
  {cc1_scratch0, cc1_scratch1, cc1_scratch2, cc1_scratch3, cc1_scratch4, cc1_scratch5, cc1_scratch6, cc1_scratch7, cc1_scratch8, cc1_scratch9, cc1_scratch10}

/-- The semaphores of its copies. -/
def copies : Finset (DmaSem sig) :=
  {cc1_scoped0.sem, cc1_scoped1.sem, cc1_scoped2.sem, cc1_scoped3.sem, cc1_scoped4.sem, cc1_scoped5.sem, cc1_scoped6.sem, cc1_scoped7.sem, cc1_scoped8.sem}

theorem scratch_sub : scratch.image (Proc.scVector c j).devRef ⊆ SparseCore.Cfg.ownRefs (τ := τ) (sig := sig) (.scVector c j) := by
  intro b hb
  obtain ⟨r, hr, rfl⟩ := Finset.mem_image.mp hb
  refine SparseCore.Cfg.mem_ownRefs_of_owner ?_
  simp only [scratch, Finset.mem_insert, Finset.mem_singleton] at hr
  rcases hr with rfl | rfl | rfl | rfl | rfl | rfl | rfl | rfl | rfl | rfl | rfl <;> rfl

theorem copies_sub : copies.image (fun s => ((V d c j, SemLoc.dma s) : GSem nD τ sig)) ⊆ SparseCore.Cfg.ownCells (V d c j) := by
  intro g hg
  obtain ⟨s, hs, rfl⟩ := Finset.mem_image.mp hg
  refine SparseCore.Cfg.mem_ownCells.mpr ⟨rfl, ?_⟩
  show (SemLoc.dma s : SemLoc sig).isScoped .scVector = true
  have h : ∀ s ∈ copies, (SemLoc.dma s : SemLoc sig).isScoped .scVector = true := by decide
  exact h s hs

/-- The task's arrays are its scratch, each at some contents, and the rest. -/
theorem ownBufs_V :
    (SparseCore.Cfg.ownBufs (V d c j) : sProp 𝕄)
      = iprop((bigSep scratch fun r => iprop(∃ f, (V d c j).loc r ↦{fullShare} f))
          ∗ bigSep (SparseCore.Cfg.ownRefs (τ := τ) (.scVector c j) \ scratch.image (Proc.scVector c j).devRef) fun b => iprop(∃ f, ((d, b) : Loc nD τ sig) ↦{fullShare} f)) := by
  unfold SparseCore.Cfg.ownBufs
  rw [SparseCore.bigSep_sdiff_split' (scratch_sub c j), SparseCore.bigSep_image_of_injOn (Proc.devRef_injective _).injOn]

/-- Its semaphores at zero are its copies' and the rest. -/
theorem ownSems0_V :
    (SparseCore.Cfg.ownSems0 (V d c j) : sProp 𝕄)
      = iprop((bigSep copies fun s => semVal ((V d c j, SemLoc.dma s) : GSem nD τ sig) 0)
          ∗ bigSep (SparseCore.Cfg.ownCells (V d c j) \ copies.image (fun s => ((V d c j, SemLoc.dma s) : GSem nD τ sig))) fun g => semVal g 0) := by
  unfold SparseCore.Cfg.ownSems0
  rw [SparseCore.bigSep_sdiff_split' (copies_sub d c j), SparseCore.bigSep_image_of_injOn (fun a _ b _ h => by injection h with _ h; injection h)]

/-- A whole array at some contents, as an array that reads some value. -/
theorem any_whole {e : EltTy} {s : Shape} (t : Thread nD τ) (M : Memref sig t.2.kind .vmem s e) (h : M.view.set = Finset.univ) :
    (iprop(∃ f, M.view.loc t ↦{fullShare} f) : sProp 𝕄) = iprop(∃ w : Vec F s e, holds t M fullShare w) := by
  unfold holds
  rw [h]
  have h1 : iprop(∃ f, M.view.loc t ↦{fullShare} f) ⊢ (iprop(∃ w : Vec F s e, ∃ f, ⌜M.view.read (Elt F) f = w⌝ ∗ M.view.loc t ↦{fullShare} f) : sProp 𝕄) := by
    iintro ⟨%f, H⟩
    iexists _; iexists f
    isplitr; · ipureintro; rfl
    iexact H
  have h2 : iprop(∃ w : Vec F s e, ∃ f, ⌜M.view.read (Elt F) f = w⌝ ∗ M.view.loc t ↦{fullShare} f) ⊢ (iprop(∃ f, M.view.loc t ↦{fullShare} f) : sProp 𝕄) := by
    iintro ⟨%w, %f, -, H⟩
    iexists f; iexact H
  exact BI.Entails.antisymm h1 h2

set_option maxHeartbeats 1600000 in
/-- The scratch arrays one by one. -/
theorem scratch_eq :
    (bigSep scratch fun r => iprop(∃ f, (V d c j).loc r ↦{fullShare} f) : sProp 𝕄)
      = iprop((∃ w : Vec F S3200 .f32, holds (V d c j) s0 fullShare w) ∗ (∃ w : Vec F S800 .f32, holds (V d c j) s1 fullShare w)
    ∗ (∃ w : Vec F S352 .i32, holds (V d c j) s2 fullShare w) ∗ (∃ w : Vec F S672 .i32, holds (V d c j) s3 fullShare w)
    ∗ (∃ w : Vec F S1408 .f32, holds (V d c j) s4 fullShare w) ∗ (∃ w : Vec F S5376 .f32, holds (V d c j) s5 fullShare w)
    ∗ (∃ w : Vec F S256 .f32, holds (V d c j) s6 fullShare w) ∗ (∃ w : Vec F S88 .i32, holds (V d c j) s7 fullShare w)
    ∗ (∃ w : Vec F S88 .f32, holds (V d c j) s8 fullShare w) ∗ (∃ w : Vec F S336 .i32, holds (V d c j) s9 fullShare w)
    ∗ (∃ w : Vec F S336 .f32, holds (V d c j) s10 fullShare w)) := by
  unfold scratch
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
  rw [← any_whole (V d c j) s0 (View.set_whole _), ← any_whole (V d c j) s1 (View.set_whole _), ← any_whole (V d c j) s2 (View.set_whole _),
    ← any_whole (V d c j) s3 (View.set_whole _), ← any_whole (V d c j) s4 (View.set_whole _), ← any_whole (V d c j) s5 (View.set_whole _),
    ← any_whole (V d c j) s6 (View.set_whole _), ← any_whole (V d c j) s7 (View.set_whole _), ← any_whole (V d c j) s8 (View.set_whole _),
    ← any_whole (V d c j) s9 (View.set_whole _), ← any_whole (V d c j) s10 (View.set_whole _)]

/-- The copies' semaphores one by one. -/
theorem copies_eq :
    (bigSep copies fun s => semVal ((V d c j, SemLoc.dma s) : GSem nD τ sig) 0 : sProp 𝕄)
      = iprop(semVal (V d c j, SemLoc.dma cc1_scoped0.sem) 0 ∗ semVal (V d c j, SemLoc.dma cc1_scoped1.sem) 0 ∗ semVal (V d c j, SemLoc.dma cc1_scoped2.sem) 0
        ∗ semVal (V d c j, SemLoc.dma cc1_scoped3.sem) 0 ∗ semVal (V d c j, SemLoc.dma cc1_scoped4.sem) 0 ∗ semVal (V d c j, SemLoc.dma cc1_scoped5.sem) 0
        ∗ semVal (V d c j, SemLoc.dma cc1_scoped6.sem) 0 ∗ semVal (V d c j, SemLoc.dma cc1_scoped7.sem) 0 ∗ semVal (V d c j, SemLoc.dma cc1_scoped8.sem) 0) := by
  unfold copies
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

end Own

variable (i : grid1.Coords) (d : Dev nD)

/-- Group `g`'s blocks once the groups below `k` are through. -/
def at_ (T : Tabs F) (c0 : Fin k1_t1_loop.trips → Vec F S3200 .f32) (c1 : Fin k1_t1_loop.trips → Vec F S800 .f32) (k : Nat) (g : Fin k1_t1_loop.trips) : sProp 𝕄 :=
  if g.val < k then done i d T (c0 g) (c1 g) g else todo i d (c0 g) (c1 g) g

/-- All of them. -/
def groups (T : Tabs F) (c0 : Fin k1_t1_loop.trips → Vec F S3200 .f32) (c1 : Fin k1_t1_loop.trips → Vec F S800 .f32) (k : Nat) : sProp 𝕄 :=
  bigSep Finset.univ (at_ i d T c0 c1 k)

variable {T : Tabs F} {c0 : Fin k1_t1_loop.trips → Vec F S3200 .f32} {c1 : Fin k1_t1_loop.trips → Vec F S800 .f32}

theorem groups_zero : groups i d T c0 c1 0 = bigSep Finset.univ fun g => todo i d (c0 g) (c1 g) g := by
  unfold groups
  exact bigSep_congr fun g _ => if_neg (Nat.not_lt_zero _)

theorem groups_all : groups i d T c0 c1 k1_t1_loop.trips = bigSep Finset.univ fun g => done i d T (c0 g) (c1 g) g := by
  unfold groups
  exact bigSep_congr fun g _ => if_pos g.isLt

/-- The groups other than `k`. -/
def others (T : Tabs F) (c0 : Fin k1_t1_loop.trips → Vec F S3200 .f32) (c1 : Fin k1_t1_loop.trips → Vec F S800 .f32) (k : Fin k1_t1_loop.trips) : sProp 𝕄 :=
  bigSep (Finset.univ.erase k) (at_ i d T c0 c1 k.val)

theorem groups_at (k : Fin k1_t1_loop.trips) : groups i d T c0 c1 k.val = iprop(todo i d (c0 k) (c1 k) k ∗ others i d T c0 c1 k) := by
  unfold groups others
  rw [SparseCore.bigSep_erase' (Finset.mem_univ k), show at_ i d T c0 c1 k.val k = todo i d (c0 k) (c1 k) k from if_neg (lt_irrefl _)]

theorem groups_succ (k : Fin k1_t1_loop.trips) : groups i d T c0 c1 (k.val + 1) = iprop(done i d T (c0 k) (c1 k) k ∗ others i d T c0 c1 k) := by
  unfold groups others
  rw [SparseCore.bigSep_erase' (Finset.mem_univ k), show at_ i d T c0 c1 (k.val + 1) k = done i d T (c0 k) (c1 k) k from if_pos (Nat.lt_succ_self _)]
  congr 1
  refine bigSep_congr fun g hg => ?_
  have hne : g.val ≠ k.val := fun e => (Finset.mem_erase.mp hg).1 (Fin.ext e)
  unfold at_
  by_cases h : g.val < k.val
  · rw [if_pos h, if_pos (by omega)]
  · rw [if_neg h, if_neg (by omega)]

/-- The group loop's trip's body. -/
abbrev t1B (v2 : BitVec 32) : Fin k1_t1_loop.trips → Unit → PR F i Unit :=
  k1_t1_body (F := F) i a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc1_scoped0 cc1_scoped1 cc1_scoped2 cc1_scoped3 cc1_scoped4 cc1_scoped5 cc1_scoped6 cc1_scoped7 cc1_scoped8 v2 v3₀

/-- What holds before the group loop's trip `k`. -/
def turn (T : Tabs F) (c0 : Fin k1_t1_loop.trips → Vec F S3200 .f32) (c1 : Fin k1_t1_loop.trips → Vec F S800 .f32) (O : CellTallies nD τ sig (HIx 1)) (W : Waits sig (HIx 1)) (k : Nat) : sProp 𝕄 :=
  iprop(tabs i d T ∗ work i d ∗ dues (V d (cV i) (jV i)) (none : HIx 1) O W ∗ groups i d T c0 c1 k)

variable {i d}

/-- The group loop's trip. -/
theorem t1_trip (hb0 : ∀ j, (T.b0 j : BitVec 32).toNat < 22) (hb1 : ∀ j, (T.b1 j : BitVec 32).toNat < 42)
    {O : CellTallies nD τ sig (HIx 1)} {W : Waits sig (HIx 1)} (v2 : BitVec 32) (k : Fin k1_t1_loop.trips) (acc : Unit) :
    turn i d T c0 c1 O W k.val
      ⊢ wp frame (wpE (defs₀ (F := F)) 𝒱₀ (V d (cV i) (jV i)) none) Set.univ (t1B i v2 k acc) fun _ => turn i d T c0 c1 O W (k.val + 1) := by
  rw [show t1B i v2 k acc = grp i k from t1_body_eq i v2 k]
  unfold turn
  rw [groups_at, groups_succ]
  iintro ⟨HT, HW, HO, Hk, Hr⟩
  iapply (wp_wand_r frame (wpE (defs₀ (F := F)) 𝒱₀ (V d (cV i) (jV i)) none) Set.univ)
  isplitl [HT HW HO Hk]
  · iapply (wp_grp hb0 hb1 (c0 k) (c1 k) k) $$ [HT HW HO Hk]
    isplitl [HT]; · iexact HT
    isplitl [HW]; · iexact HW
    isplitl [HO]; · iexact HO
    iexact Hk
  iintro %_ ⟨HT, HW, HO, Hk⟩
  isplitl [HT]; · iexact HT
  isplitl [HW]; · iexact HW
  isplitl [HO]; · iexact HO
  isplitl [Hk]; · iexact Hk
  iexact Hr

variable (i d)

/-- The tables in the chip's memory, read at share `q`. -/
def srcs (q : PosShare TreeShare) (T : Tabs F) : sProp 𝕄 :=
  iprop(holds (V d (cV i) (jV i)) a4 q T.l ∗ holds (V d (cV i) (jV i)) a5 q T.b0 ∗ holds (V d (cV i) (jV i)) a6 q T.e0
    ∗ holds (V d (cV i) (jV i)) a7 q T.b1 ∗ holds (V d (cV i) (jV i)) a8 q T.e1)

/-- What a task is given, and what it gives back. -/
def given (q : PosShare TreeShare) (T : Tabs F) (c0 : Fin k1_t1_loop.trips → Vec F S3200 .f32) (c1 : Fin k1_t1_loop.trips → Vec F S800 .f32) : sProp 𝕄 :=
  iprop(srcs i d q T ∗ bigSep Finset.univ fun g => todo i d (c0 g) (c1 g) g)
def taken (q : PosShare TreeShare) (T : Tabs F) (c0 : Fin k1_t1_loop.trips → Vec F S3200 .f32) (c1 : Fin k1_t1_loop.trips → Vec F S800 .f32) : sProp 𝕄 :=
  iprop(srcs i d q T ∗ bigSep Finset.univ fun g => done i d T (c0 g) (c1 g) g)

variable {i d}

set_option maxHeartbeats 1600000 in
/-- The task on a vector subcore: the tables fetched, then the groups. -/
theorem tile_body (hb0 : ∀ j, (T.b0 j : BitVec 32).toNat < 22) (hb1 : ∀ j, (T.b1 j : BitVec 32).toNat < 42) (q : PosShare TreeShare)
    (O : CellTallies nD τ sig (HIx 1)) (W : Waits sig (HIx 1)) (hO : ∀ g, O g none = 0) :
    iprop(levAts (K (F := F)).L (K (F := F)).lev ∗ given i d q T c0 c1
        ∗ scopedBufs (V d (cV i) (jV i)) ∗ scopedSems0 (V d (cV i) (jV i)) ∗ owes (V d (cV i) (jV i)) O W : sProp 𝕄)
      ⊢ wp frame (wpE (defs₀ (F := F)) 𝒱₀ (V d (cV i) (jV i)) none) Set.univ
          (cc1__simtier_sc_body i a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc1_scoped0 cc1_scoped1 cc1_scoped2 cc1_scoped3 cc1_scoped4 cc1_scoped5 cc1_scoped6 cc1_scoped7 cc1_scoped8)
          fun _ => iprop(taken i d q T c0 c1 ∗ scopedBufs (V d (cV i) (jV i)) ∗ scopedSems0 (V d (cV i) (jV i))
            ∗ ∃ W', ⌜∀ p ∈ W', p ∈ W ∨ p.2 = none⌝ ∗ owes (V d (cV i) (jV i)) O W') := by
  simp only [cc1__simtier_sc_body_eq_skeleton]; unfold cc1__simtier_sc_body_skel
  simp only [Prog.lift, Prog.bind_op, Prog.bind_ret, Prog.pure_eq_ret]
  rw [(K (F := F)).scopedBufs_V facts d (cV i) (jV i), SparseCore.Cfg.scopedSems0_V (Val := Elt F) d (cV i) (jV i), ownSems0_V, ownBufs_V, scratch_eq, copies_eq]
  unfold given taken srcs
  iintro ⟨#Hlv, ⟨⟨Ha4, Ha5, Ha6, Ha7, Ha8⟩, Hg⟩, ⟨⟨H0, H1, H2, H3, H4, H5, H6, H7, H8, H9, H10⟩, Hbufs⟩,
    ⟨⟨Hs0, Hs1, Hs2, Hs3, Hs4, Hs5, Hs6, Hs7, Hs8⟩, Hsems⟩, HO⟩
  ihave HO := (show iprop(levAts (K (F := F)).L (K (F := F)).lev ∗ owes (V d (cV i) (jV i)) O W : sProp 𝕄) ⊢ dues (V d (cV i) (jV i)) (none : HIx 1) O W from ?_) $$ [HO]
  · unfold dues
    iintro ⟨#Hlv, HO⟩
    isplitr; · iapply ((K (F := F)).mayWaits_none (thr := V d (cV i) (jV i)) hO); iexact Hlv
    iexists W
    isplitr; · ipureintro; exact fun p hp => .inl hp
    iexact HO
  · isplitr; · iexact Hlv
    iexact HO
  iapply (wp_copy 𝒱₀ (V d (cV i) (jV i)) none (defs := defs₀ (F := F)) (none : HIx 1) (View.amount_pos _ _ (show 0 < S256.numel by decide))) $$ [Ha4 H6 Hs0 HO]
  · isplitl [Ha4]; · iexact Ha4
    isplitl [H6]; · iexact H6
    isplitl [Hs0]; · iexact Hs0
    iexact HO
  iintro ⟨Ha4, H6, Hs0, HO⟩
  iapply (wp_copy 𝒱₀ (V d (cV i) (jV i)) none (defs := defs₀ (F := F)) (none : HIx 1) (View.amount_pos _ _ (show 0 < S88.numel by decide))) $$ [Ha5 H7 Hs1 HO]
  · isplitl [Ha5]; · iexact Ha5
    isplitl [H7]; · iexact H7
    isplitl [Hs1]; · iexact Hs1
    iexact HO
  iintro ⟨Ha5, H7, Hs1, HO⟩
  iapply (wp_copy 𝒱₀ (V d (cV i) (jV i)) none (defs := defs₀ (F := F)) (none : HIx 1) (View.amount_pos _ _ (show 0 < S88.numel by decide))) $$ [Ha6 H8 Hs2 HO]
  · isplitl [Ha6]; · iexact Ha6
    isplitl [H8]; · iexact H8
    isplitl [Hs2]; · iexact Hs2
    iexact HO
  iintro ⟨Ha6, H8, Hs2, HO⟩
  iapply (wp_copy 𝒱₀ (V d (cV i) (jV i)) none (defs := defs₀ (F := F)) (none : HIx 1) (View.amount_pos _ _ (show 0 < S336.numel by decide))) $$ [Ha7 H9 Hs3 HO]
  · isplitl [Ha7]; · iexact Ha7
    isplitl [H9]; · iexact H9
    isplitl [Hs3]; · iexact Hs3
    iexact HO
  iintro ⟨Ha7, H9, Hs3, HO⟩
  iapply (wp_copy 𝒱₀ (V d (cV i) (jV i)) none (defs := defs₀ (F := F)) (none : HIx 1) (View.amount_pos _ _ (show 0 < S336.numel by decide))) $$ [Ha8 H10 Hs4 HO]
  · isplitl [Ha8]; · iexact Ha8
    isplitl [H10]; · iexact H10
    isplitl [Hs4]; · iexact Hs4
    iexact HO
  iintro ⟨Ha8, H10, Hs4, HO⟩
  iapply (Scf.wp_for_bind frame (wpE (defs₀ (F := F)) 𝒱₀ (V d (cV i) (jV i)) none) Set.univ _ _ _ k1_t1_ok ⟨⟩ (t1B (F := F) i _) (fun k _ => turn i d T c0 c1 O W k) (t1_trip hb0 hb1 _))
    $$ [H0 H1 H2 H3 H4 H5 H6 H7 H8 H9 H10 Hs5 Hs6 Hs7 Hs8 HO Hg]
  · unfold turn tabs work
    rw [groups_zero]
    isplitl [H6 H7 H8 H9 H10]
    · isplitl [H6]; · iexact H6
      isplitl [H7]; · iexact H7
      isplitl [H8]; · iexact H8
      isplitl [H9]; · iexact H9
      iexact H10
    isplitl [H0 H1 H2 H3 H4 H5 Hs5 Hs6 Hs7 Hs8]
    · isplitl [H0]; · iexact H0
      isplitl [H1]; · iexact H1
      isplitl [H2]; · iexact H2
      isplitl [H3]; · iexact H3
      isplitl [H4]; · iexact H4
      isplitl [H5]; · iexact H5
      isplitl [Hs5]; · iexact Hs5
      isplitl [Hs6]; · iexact Hs6
      isplitl [Hs7]; · iexact Hs7
      iexact Hs8
    isplitl [HO]; · iexact HO
    iexact Hg
  iintro %_ H
  unfold turn tabs work dues
  rw [groups_all]
  icases H with ⟨⟨H6, H7, H8, H9, H10⟩, ⟨H0, H1, H2, H3, H4, H5, Hs5, Hs6, Hs7, Hs8⟩, ⟨-, HO⟩, Hg⟩
  rw [wp_ret]; imodintro
  isplitl [Ha4 Ha5 Ha6 Ha7 Ha8 Hg]
  · isplitr [Hg]
    · isplitl [Ha4]; · iexact Ha4
      isplitl [Ha5]; · iexact Ha5
      isplitl [Ha6]; · iexact Ha6
      isplitl [Ha7]; · iexact Ha7
      iexact Ha8
    iexact Hg
  isplitl [H0 H1 H2 H3 H4 H5 H6 H7 H8 H9 H10 Hbufs]
  · isplitr [Hbufs]
    · isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      iexists _; iexact H10
    iexact Hbufs
  isplitl [Hs0 Hs1 Hs2 Hs3 Hs4 Hs5 Hs6 Hs7 Hs8 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexact Hsems
  iexact HO

end Cert.Proof.RunIdeal
-- ==== Proof.RunIdeal.Blocks.lean ====
/-
  The samples and the results, whole, as the groups' blocks.
-/
module

public import proofs.«01_k».proof.Proof.RunIdeal.Tile
public import Idealize.ShloMosaic.Lib.Pipeline.ValueKit

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The tasks' groups and their numbers -/

/-- The point of the grid at core `c` and subcore `s`. -/
def pt (c : Fin 2) (s : Fin 16) : grid1.Coords :=
  fun | 0 => c | 1 => s | ⟨_ + 2, h⟩ => absurd h (Nat.not_lt.2 (Nat.le_add_left _ _))

/-- A group: its core, its subcore and its turn. -/
abbrev Grp : Type := Fin 2 × Fin 16 × Fin k1_t1_loop.trips

/-- A group's number among all of them, in row order. -/
def num (t : Grp) : Nat := (t.2.1.val * 2 + t.1.val) * 8 + t.2.2.val

theorem trips1 : k1_t1_loop.trips = 8 := by decide

theorem turn_lt (t : Grp) : t.2.2.val < 8 := lt_of_lt_of_eq t.2.2.isLt trips1

theorem num_lt (t : Grp) : num t < 256 := by
  have h0 := t.1.isLt; have h1 := t.2.1.isLt; have h2 := turn_lt t
  unfold num; omega

theorem num_inj {t t' : Grp} (h : num t = num t') : t = t' := by
  obtain ⟨c, s, g⟩ := t; obtain ⟨c', s', g'⟩ := t'
  have h0 := c.isLt; have h2 := turn_lt (c, s, g)
  have h0' := c'.isLt; have h2' := turn_lt (c', s', g')
  unfold num at h; dsimp only at *
  have e1 : c.val = c'.val := by omega
  have e2 : s.val = s'.val := by omega
  have e3 : g.val = g'.val := by omega
  rw [Fin.ext e1, Fin.ext e2, Fin.ext e3]

theorem num_surj {n : Nat} (h : n < 256) : ∃ t : Grp, num t = n :=
  ⟨(⟨n / 8 % 2, by omega⟩, ⟨n / 16, by omega⟩, ⟨n % 8, by rw [trips1]; omega⟩), by unfold num; dsimp only; omega⟩

/-- Sets that hold the positions of one group each are disjoint, -/
theorem parts_disjoint {I : Type} {p : Grp → Finset I} {q : I → Nat} (h : ∀ t n, n ∈ p t ↔ q n = num t) :
    ∀ t ∈ (Finset.univ : Finset Grp), ∀ t' ∈ (Finset.univ : Finset Grp), t ≠ t' → Disjoint (p t) (p t') :=
  fun t _ t' _ hne => Finset.disjoint_left.mpr fun n hn hn' => hne (num_inj (((h t n).mp hn).symm.trans ((h t' n).mp hn')))

/-- and are everything together. -/
theorem parts_cover {I : Type} [Fintype I] [DecidableEq I] {p : Grp → Finset I} {q : I → Nat} (h : ∀ t n, n ∈ p t ↔ q n = num t) (hq : ∀ n, q n < 256) :
    (Finset.univ : Finset Grp).biUnion p = Finset.univ := by
  refine Finset.eq_univ_iff_forall.mpr fun n => ?_
  obtain ⟨t, ht⟩ := num_surj (hq n)
  exact Finset.mem_biUnion.mpr ⟨t, Finset.mem_univ _, (h t n).mpr ht.symm⟩

/-- An array held whole is its groups' parts held. -/
theorem whole_parts {ℓ : Loc nD τ sig} {p : Grp → Finset (Idx ℓ)} {q : Idx ℓ → Nat} (h : ∀ t n, n ∈ p t ↔ q n = num t) (hq : ∀ n, q n < 256)
    (f : Buf (Elt F) ℓ) : (ℓ ↦{fullShare} f : sProp 𝕄) = bigSep Finset.univ fun t => ℓ ↦[p t]{fullShare} f := by
  classical
  rw [← pointsTo_biUnion Finset.univ (ℓ := ℓ) p (parts_disjoint h), parts_cover h hq]

/-! ## The four arrays' blocks -/

variable (t : Grp)

abbrev B2 : Memref sig .scVector .hbm S3200 .f32 := b2 (pt t.1 t.2.1) t.2.2
abbrev B3 : Memref sig .scVector .hbm S800 .f32 := b3 (pt t.1 t.2.1) t.2.2
abbrev B9 : Memref sig .scVector .hbm S1408 .f32 := b9 (pt t.1 t.2.1) t.2.2
abbrev B10 : Memref sig .scVector .hbm S5376 .f32 := b10 (pt t.1 t.2.1) t.2.2

theorem off1_num : k1_off1 (pt t.1 t.2.1) t.2.2 = ![num t * 3200] := by
  rw [k1_off1_eq]; unfold num
  show ![51200 * t.2.1.val + 25600 * t.1.val + 3200 * t.2.2.val] = _
  congr 1; omega
theorem off2_num : k1_off2 (pt t.1 t.2.1) t.2.2 = ![num t * 800] := by
  rw [k1_off2_eq]; unfold num
  show ![12800 * t.2.1.val + 6400 * t.1.val + 800 * t.2.2.val] = _
  congr 1; omega
theorem off3_num : k1_off3 (pt t.1 t.2.1) t.2.2 = ![num t * 1408] := by
  rw [k1_off3_eq]; unfold num
  show ![22528 * t.2.1.val + 11264 * t.1.val + 1408 * t.2.2.val] = _
  congr 1; omega
theorem off4_num : k1_off4 (pt t.1 t.2.1) t.2.2 = ![num t * 5376] := by
  rw [k1_off4_eq]; unfold num
  show ![86016 * t.2.1.val + 43008 * t.1.val + 5376 * t.2.2.val] = _
  congr 1; omega

/-- A unit block of a rank-one array holds the positions that number it. -/
theorem mem_block {N m : Nat} (hm : 0 < m) {off : Fin 1 → Nat} {k : Nat} (ho : off = ![k * m]) (inb : ∀ a, off a + (![m] : Fin 1 → Nat) a ≤ (⟨1, ![N]⟩ : Shape).size a)
    (n : (⟨1, ![N]⟩ : Shape).Idx) : n ∈ (Rect.unit (s := ⟨1, ![N]⟩) off ![m] inb).set ↔ (n 0).val / m = k := by
  subst ho
  rw [Rect.mem_set_unit, Nat.div_eq_iff hm]
  constructor
  · intro h; have := h 0
    have h1 : k * m ≤ (n 0).val := this.1
    have h2 : (n 0).val < k * m + m := this.2
    omega
  · intro h a
    obtain rfl : a = 0 := Fin.eq_zero a
    show k * m ≤ (n 0).val ∧ (n 0).val < k * m + m
    omega

theorem mem_B2 (n : S819200.Idx) : n ∈ (B2 t).view.set ↔ (n 0).val / 3200 = num t := by
  exact ValueKit.mem_set_slice_whole_iff main_v11_scv _ n (mem_block (by decide) (off1_num t) _ n)
theorem mem_B3 (n : S204800.Idx) : n ∈ (B3 t).view.set ↔ (n 0).val / 800 = num t := by
  exact ValueKit.mem_set_slice_whole_iff main_v12_scv _ n (mem_block (by decide) (off2_num t) _ n)
theorem mem_B9 (n : S360448.Idx) : n ∈ (B9 t).view.set ↔ (n 0).val / 1408 = num t := by
  exact ValueKit.mem_set_slice_whole_iff main_v13_0_scv _ n (mem_block (by decide) (off3_num t) _ n)
theorem mem_B10 (n : S1376256.Idx) : n ∈ (B10 t).view.set ↔ (n 0).val / 5376 = num t := by
  exact ValueKit.mem_set_slice_whole_iff main_v13_1_scv _ n (mem_block (by decide) (off4_num t) _ n)

/-- Block `k` of a rank-one array, in blocks of `m`. -/
def blk {N : Nat} (m : Nat) [NeZero N] (w : Vec F ⟨1, ![N]⟩ .f32) (k : Nat) : Vec F ⟨1, ![m]⟩ .f32 := vec1 fun j => nat1 w (k * m + j)

/-- What a unit block reads. -/
theorem read_block {N m : Nat} [NeZero N] {off : Fin 1 → Nat} {k : Nat} (ho : off = ![k * m]) (inb : ∀ a, off a + (![m] : Fin 1 → Nat) a ≤ (⟨1, ![N]⟩ : Shape).size a)
    (w : Vec F ⟨1, ![N]⟩ .f32) (j : (⟨1, ![m]⟩ : Shape).Idx) : w ((Rect.unit (s := ⟨1, ![N]⟩) off ![m] inb).emb j) = blk m w k j := by
  subst ho
  show _ = nat1 w (k * m + (j 0).val)
  have hl : k * m + (j 0).val < N := by
    have h1 : k * m + m ≤ N := inb 0
    have h2 := idx1_lt j
    omega
  rw [nat1_of_lt w hl]
  refine congrArg w (idx1_ext ?_)
  exact (ValueKit.rect_emb_unit_val (s := ⟨1, ![N]⟩) ![k * m] ![m] inb j 0).trans rfl

theorem read_B2 (w : Vec F S819200 .f32) : (B2 t).view.read (Elt F) w = blk 3200 w (num t) := by
  funext j
  refine (View.read_apply _ _).trans ((cast_eq _ _).trans ?_)
  exact read_block (off1_num t) (k1_off1_inb (pt t.1 t.2.1) t.2.2) w j
theorem read_B3 (w : Vec F S204800 .f32) : (B3 t).view.read (Elt F) w = blk 800 w (num t) := by
  funext j
  refine (View.read_apply _ _).trans ((cast_eq _ _).trans ?_)
  exact read_block (off2_num t) (k1_off2_inb (pt t.1 t.2.1) t.2.2) w j
theorem read_B9 (w : Vec F S360448 .f32) : (B9 t).view.read (Elt F) w = blk 1408 w (num t) := by
  funext j
  refine (View.read_apply _ _).trans ((cast_eq _ _).trans ?_)
  exact read_block (off3_num t) (k1_off3_inb (pt t.1 t.2.1) t.2.2) w j
theorem read_B10 (w : Vec F S1376256 .f32) : (B10 t).view.read (Elt F) w = blk 5376 w (num t) := by
  funext j
  refine (View.read_apply _ _).trans ((cast_eq _ _).trans ?_)
  exact read_block (off4_num t) (k1_off4_inb (pt t.1 t.2.1) t.2.2) w j

/-! ## The whole results -/

/-- What the tasks read: the tables and the two arrays of samples. -/
structure Ins (F : FTy → Type) where
  T : Tabs F
  C0 : Vec F S819200 .f32
  C1 : Vec F S204800 .f32

/-- The two flat results. -/
def out0 (A : Ins F) : Vec F S360448 .f32 := vec1 fun n => res0 A.T (blk 3200 A.C0 (n / 1408)) (ix1 (n % 1408) (Nat.mod_lt _ (by decide)))
def out1 (A : Ins F) : Vec F S1376256 .f32 := vec1 fun n => res1 A.T (blk 800 A.C1 (n / 5376)) (ix1 (n % 5376) (Nat.mod_lt _ (by decide)))

/-- Block `k` of an array given by blocks. -/
theorem blk_vec1 {N m : Nat} [NeZero N] (hm : 0 < m) (r : Nat → Vec F ⟨1, ![m]⟩ .f32) (k : Nat) (hk : k * m + m ≤ N) :
    blk (N := N) m (vec1 fun n => r (n / m) (ix1 (n % m) (Nat.mod_lt _ hm))) k = r k := by
  funext j
  have hj := idx1_lt j
  show nat1 (n := N) (vec1 fun n => r (n / m) (ix1 (n % m) (Nat.mod_lt _ hm))) (k * m + (j 0).val) = r k j
  rw [nat1_vec1 _ (by omega)]
  have e1 : (k * m + (j 0).val) / m = k := by rw [Nat.add_comm, Nat.add_mul_div_right _ _ hm, Nat.div_eq_of_lt hj, Nat.zero_add]
  have e2 : (k * m + (j 0).val) % m = (j 0).val := by rw [Nat.add_comm, Nat.add_mul_mod_self_right, Nat.mod_eq_of_lt hj]
  rw [e1]
  exact congrArg (r k) (idx1_ext e2)

theorem blk_out0 (A : Ins F) : blk 1408 (out0 A) (num t) = res0 A.T (blk 3200 A.C0 (num t)) := by
  have := num_lt t
  exact blk_vec1 (by decide) (fun k => res0 A.T (blk 3200 A.C0 k)) (num t) (by omega)
theorem blk_out1 (A : Ins F) : blk 5376 (out1 A) (num t) = res1 A.T (blk 800 A.C1 (num t)) := by
  have := num_lt t
  exact blk_vec1 (by decide) (fun k => res1 A.T (blk 800 A.C1 k)) (num t) (by omega)

/-! ## From whole arrays to blocks and back -/

/-- A memref that reads `w`, over contents known to read `w` too, is held at those contents. -/
theorem holds_at {s : Shape} {e : EltTy} {th : Thread nD τ} {sp : Space} {M : Memref sig th.2.kind sp s e} {q : PosShare TreeShare} {w : Vec F s e}
    {g : Buf (Elt F) (M.view.loc th)} (h : M.view.read (Elt F) g = w) : holds th M q w ⊢ (M.view.loc th ↦[M.view.set]{q} g : sProp 𝕄) := by
  unfold holds
  iintro ⟨%f, %hf, H⟩
  ihave H := (Entails.of_eq (pointsTo_congr (f := f) (g := g) (fun i hi => ?_))) $$ H
  rotate_left
  · iexact H
  · obtain ⟨y, rfl⟩ := View.exists_emb_of_mem_set M.view hi
    have e := congrFun (hf.trans h.symm) y
    rw [View.read_apply, View.read_apply] at e
    exact (cast_inj _).mp e

/-- And the converse. -/
theorem at_holds {s : Shape} {e : EltTy} {th : Thread nD τ} {sp : Space} {M : Memref sig th.2.kind sp s e} {q : PosShare TreeShare} {w : Vec F s e}
    {g : Buf (Elt F) (M.view.loc th)} (h : M.view.read (Elt F) g = w) : (M.view.loc th ↦[M.view.set]{q} g : sProp 𝕄) ⊢ holds th M q w := by
  unfold holds
  iintro H
  iexists g
  isplitr; · ipureintro; exact h
  iexact H

variable (d : Dev nD)

abbrev l2 : Loc nD τ sig := (SparseCore.T d : Thread nD τ).loc main_v11
abbrev l3 : Loc nD τ sig := (SparseCore.T d : Thread nD τ).loc main_v12
abbrev l9 : Loc nD τ sig := (SparseCore.T d : Thread nD τ).loc main_v13_0
abbrev l10 : Loc nD τ sig := (SparseCore.T d : Thread nD τ).loc main_v13_1

/-- The samples' arrays and the results', whole, before the tasks, -/
def before (A : Ins F) : sProp 𝕄 :=
  iprop((l2 d ↦{fullShare} A.C0) ∗ (l3 d ↦{fullShare} A.C1) ∗ (∃ f, l9 d ↦{fullShare} f) ∗ ∃ f, l10 d ↦{fullShare} f)

/-- and after. -/
def after (A : Ins F) : sProp 𝕄 :=
  iprop((l2 d ↦{fullShare} A.C0) ∗ (l3 d ↦{fullShare} A.C1) ∗ (l9 d ↦{fullShare} out0 A) ∗ l10 d ↦{fullShare} out1 A)

theorem parts2 (f : Vec F S819200 .f32) : (l2 d ↦{fullShare} f : sProp 𝕄) = bigSep Finset.univ fun t : Grp => l2 d ↦[(B2 t).view.set]{fullShare} f :=
  whole_parts (ℓ := l2 d) (q := fun n : S819200.Idx => (n 0).val / 3200) mem_B2 (fun n => by have : (n 0).val < 819200 := (n 0).isLt; omega) f
theorem parts3 (f : Vec F S204800 .f32) : (l3 d ↦{fullShare} f : sProp 𝕄) = bigSep Finset.univ fun t : Grp => l3 d ↦[(B3 t).view.set]{fullShare} f :=
  whole_parts (ℓ := l3 d) (q := fun n : S204800.Idx => (n 0).val / 800) mem_B3 (fun n => by have : (n 0).val < 204800 := (n 0).isLt; omega) f
theorem parts9 (f : Vec F S360448 .f32) : (l9 d ↦{fullShare} f : sProp 𝕄) = bigSep Finset.univ fun t : Grp => l9 d ↦[(B9 t).view.set]{fullShare} f :=
  whole_parts (ℓ := l9 d) (q := fun n : S360448.Idx => (n 0).val / 1408) mem_B9 (fun n => by have : (n 0).val < 360448 := (n 0).isLt; omega) f
theorem parts10 (f : Vec F S1376256 .f32) : (l10 d ↦{fullShare} f : sProp 𝕄) = bigSep Finset.univ fun t : Grp => l10 d ↦[(B10 t).view.set]{fullShare} f :=
  whole_parts (ℓ := l10 d) (q := fun n : S1376256.Idx => (n 0).val / 5376) mem_B10 (fun n => by have : (n 0).val < 1376256 := (n 0).isLt; omega) f

/-- A group's blocks before its trip, from the whole arrays, -/
def todoAt (A : Ins F) (t : Grp) : sProp 𝕄 := todo (pt t.1 t.2.1) d (blk 3200 A.C0 (num t)) (blk 800 A.C1 (num t)) t.2.2
/-- and after. -/
def doneAt (A : Ins F) (t : Grp) : sProp 𝕄 := done (pt t.1 t.2.1) d A.T (blk 3200 A.C0 (num t)) (blk 800 A.C1 (num t)) t.2.2

theorem todoAt_intro (A : Ins F) (f9 : Vec F S360448 .f32) (f10 : Vec F S1376256 .f32) (t : Grp) :
    iprop((l2 d ↦[(B2 t).view.set]{fullShare} A.C0) ∗ (l3 d ↦[(B3 t).view.set]{fullShare} A.C1) ∗ (l9 d ↦[(B9 t).view.set]{fullShare} f9) ∗ l10 d ↦[(B10 t).view.set]{fullShare} f10)
      ⊢ (todoAt d A t : sProp 𝕄) := by
  unfold todoAt todo
  iintro ⟨H2, H3, H9, H10⟩
  isplitl [H2]; · iapply (at_holds (th := V d (cV (pt t.1 t.2.1)) (jV (pt t.1 t.2.1))) (M := B2 t) (read_B2 t A.C0)); iexact H2
  isplitl [H3]; · iapply (at_holds (th := V d (cV (pt t.1 t.2.1)) (jV (pt t.1 t.2.1))) (M := B3 t) (read_B3 t A.C1)); iexact H3
  isplitl [H9]
  · iexists _
    iapply (at_holds (th := V d (cV (pt t.1 t.2.1)) (jV (pt t.1 t.2.1))) (M := B9 t) (read_B9 t f9)); iexact H9
  · iexists _
    iapply (at_holds (th := V d (cV (pt t.1 t.2.1)) (jV (pt t.1 t.2.1))) (M := B10 t) (read_B10 t f10)); iexact H10

theorem doneAt_elim (A : Ins F) (t : Grp) :
    (doneAt d A t : sProp 𝕄) ⊢ iprop((l2 d ↦[(B2 t).view.set]{fullShare} A.C0) ∗ (l3 d ↦[(B3 t).view.set]{fullShare} A.C1)
      ∗ (l9 d ↦[(B9 t).view.set]{fullShare} out0 A) ∗ l10 d ↦[(B10 t).view.set]{fullShare} out1 A) := by
  unfold doneAt done
  iintro ⟨H2, H3, H9, H10⟩
  isplitl [H2]; · iapply (holds_at (th := V d (cV (pt t.1 t.2.1)) (jV (pt t.1 t.2.1))) (M := B2 t) (read_B2 t A.C0)); iexact H2
  isplitl [H3]; · iapply (holds_at (th := V d (cV (pt t.1 t.2.1)) (jV (pt t.1 t.2.1))) (M := B3 t) (read_B3 t A.C1)); iexact H3
  isplitl [H9]
  · iapply (holds_at (th := V d (cV (pt t.1 t.2.1)) (jV (pt t.1 t.2.1))) (M := B9 t) ((read_B9 t (out0 A)).trans (blk_out0 t A))); iexact H9
  · iapply (holds_at (th := V d (cV (pt t.1 t.2.1)) (jV (pt t.1 t.2.1))) (M := B10 t) ((read_B10 t (out1 A)).trans (blk_out1 t A))); iexact H10

/-- The whole arrays are dealt to the groups, -/
theorem before_split (A : Ins F) : before d A ⊢ bigSep Finset.univ (todoAt d A) := by
  unfold before
  iintro ⟨H2, H3, ⟨%f9, H9⟩, ⟨%f10, H10⟩⟩
  ihave H2 := (Entails.of_eq (parts2 d A.C0)) $$ H2
  ihave H3 := (Entails.of_eq (parts3 d A.C1)) $$ H3
  ihave H9 := (Entails.of_eq (parts9 d f9)) $$ H9
  ihave H10 := (Entails.of_eq (parts10 d f10)) $$ H10
  iapply (show iprop((bigSep Finset.univ fun t : Grp => l2 d ↦[(B2 t).view.set]{fullShare} A.C0) ∗ (bigSep Finset.univ fun t : Grp => l3 d ↦[(B3 t).view.set]{fullShare} A.C1)
      ∗ (bigSep Finset.univ fun t : Grp => l9 d ↦[(B9 t).view.set]{fullShare} f9) ∗ bigSep Finset.univ fun t : Grp => l10 d ↦[(B10 t).view.set]{fullShare} f10)
      ⊢ (bigSep Finset.univ (todoAt d A) : sProp 𝕄) from ?_) $$ [H2 H3 H9 H10]
  · rw [← bigSep_sep', ← bigSep_sep', ← bigSep_sep']
    exact bigSep_mono fun t _ => todoAt_intro d A f9 f10 t
  · isplitl [H2]; · iexact H2
    isplitl [H3]; · iexact H3
    isplitl [H9]; · iexact H9
    iexact H10

/-- and come back whole from them. -/
theorem after_join (A : Ins F) : bigSep Finset.univ (doneAt d A) ⊢ (after d A : sProp 𝕄) := by
  unfold after
  rw [parts2 d A.C0, parts3 d A.C1, parts9 d (out0 A), parts10 d (out1 A), ← bigSep_sep', ← bigSep_sep', ← bigSep_sep']
  exact bigSep_mono fun t _ => doneAt_elim d A t

end Cert.Proof.RunIdeal
-- ==== Proof.RunIdeal.Tasks.lean ====
/-
  What the call hands each core and each task, and what they bring back.
-/
module

public import proofs.«01_k».proof.Proof.RunIdeal.Blocks

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

theorem nCore_zero : (K (F := F)).nCore 0 = 2 := rfl
theorem nSub_zero : (K (F := F)).nSub 0 = 16 := rfl

/-! ## The tables, shared out -/

section Share

variable (d : Dev nD)

abbrev l4 : Loc nD τ sig := (SparseCore.T d : Thread nD τ).loc main_v4
abbrev l5 : Loc nD τ sig := (SparseCore.T d : Thread nD τ).loc main_v6
abbrev l6 : Loc nD τ sig := (SparseCore.T d : Thread nD τ).loc main_v7
abbrev l7 : Loc nD τ sig := (SparseCore.T d : Thread nD τ).loc main_v9
abbrev l8 : Loc nD τ sig := (SparseCore.T d : Thread nD τ).loc main_v10

/-- The five tables held whole at share `q`. -/
def tabPts (q : PosShare TreeShare) (T : Tabs F) : sProp 𝕄 :=
  iprop((l4 d ↦{q} T.l) ∗ (l5 d ↦{q} T.b0) ∗ (l6 d ↦{q} T.e0) ∗ (l7 d ↦{q} T.b1) ∗ l8 d ↦{q} T.e1)

/-- A whole array held is its memref reading the same. -/
theorem whole_holds {s : Shape} {e : EltTy} {th : Thread nD τ} {sp : Space} {M : Memref sig th.2.kind sp s e} {q : PosShare TreeShare} {w : Vec F s e}
    {g : Buf (Elt F) (M.view.loc th)} (hs : M.view.set = Finset.univ) (h : M.view.read (Elt F) g = w) :
    (M.view.loc th ↦{q} g : sProp 𝕄) = holds th M q w := by
  rw [← hs]
  exact BI.Entails.antisymm (at_holds h) (holds_at h)

theorem srcs_eq (i : grid1.Coords) (q : PosShare TreeShare) (T : Tabs F) : (tabPts d q T : sProp 𝕄) = srcs i d q T := by
  unfold tabPts srcs
  rw [← whole_holds (th := V d (cV i) (jV i)) (M := a4) (w := T.l) (g := T.l) (View.set_whole _) (View.read_whole main_v4_scv T.l),
    ← whole_holds (th := V d (cV i) (jV i)) (M := a5) (w := T.b0) (g := T.b0) (View.set_whole _) (View.read_whole main_v6_scv T.b0),
    ← whole_holds (th := V d (cV i) (jV i)) (M := a6) (w := T.e0) (g := T.e0) (View.set_whole _) (View.read_whole main_v7_scv T.e0),
    ← whole_holds (th := V d (cV i) (jV i)) (M := a7) (w := T.b1) (g := T.b1) (View.set_whole _) (View.read_whole main_v9_scv T.b1),
    ← whole_holds (th := V d (cV i) (jV i)) (M := a8) (w := T.e1) (g := T.e1) (View.set_whole _) (View.read_whole main_v10_scv T.e1)]

/-- Tables held at a share are held at the shares it is dealt into. -/
theorem tabPts_deal (n : Nat) (hn : 0 < n) (q : PosShare TreeShare) (T : Tabs F) :
    (tabPts d q T : sProp 𝕄) = bigSep (Finset.univ : Finset (Fin n)) fun i => tabPts d (Transfers.dealOf q Finset.univ i) T := by
  unfold tabPts
  have hne : (Finset.univ : Finset (Fin n)).Nonempty := ⟨⟨0, hn⟩, Finset.mem_univ _⟩
  rw [bigSep_sep', bigSep_sep', bigSep_sep', bigSep_sep']
  rw [Transfers.pointsTo_deal (ℓ := l4 d) (f := T.l) Finset.univ hne q, Transfers.pointsTo_deal (ℓ := l5 d) (f := T.b0) Finset.univ hne q,
    Transfers.pointsTo_deal (ℓ := l6 d) (f := T.e0) Finset.univ hne q, Transfers.pointsTo_deal (ℓ := l7 d) (f := T.b1) Finset.univ hne q,
    Transfers.pointsTo_deal (ℓ := l8 d) (f := T.e1) Finset.univ hne q]

end Share

/-- A core's share of the tables, and a task's. -/
def shC (c : Fin 2) : PosShare TreeShare := Transfers.dealOf fullShare Finset.univ c
def shV (c : Fin 2) (s : Fin 16) : PosShare TreeShare := Transfers.dealOf (shC c) Finset.univ s

/-! ## What each core and each task takes and brings back -/

section Pay

variable (d : Dev nD) (A : Ins F)

/-- A core's part before its tasks run: its share of the tables, and its groups' blocks. -/
def coreIn (c : Fin 2) : sProp 𝕄 :=
  iprop(tabPts d (shC c) A.T ∗ bigSep Finset.univ fun s : Fin 16 => bigSep Finset.univ fun g : Fin k1_t1_loop.trips => todoAt d A (c, s, g))
/-- And after. -/
def coreOut (c : Fin 2) : sProp 𝕄 :=
  iprop(tabPts d (shC c) A.T ∗ bigSep Finset.univ fun s : Fin 16 => bigSep Finset.univ fun g : Fin k1_t1_loop.trips => doneAt d A (c, s, g))
/-- A task's part before it runs. -/
def taskIn (c : Fin 2) (s : Fin 16) : sProp 𝕄 :=
  given (pt c s) d (shV c s) A.T (fun g => blk 3200 A.C0 (num (c, s, g))) (fun g => blk 800 A.C1 (num (c, s, g)))
/-- And after. -/
def taskOut (c : Fin 2) (s : Fin 16) : sProp 𝕄 :=
  taken (pt c s) d (shV c s) A.T (fun g => blk 3200 A.C0 (num (c, s, g))) (fun g => blk 800 A.C1 (num (c, s, g)))

theorem coreIn_eq (c : Fin 2) : (coreIn d A c : sProp 𝕄) = bigSep Finset.univ (taskIn d A c) := by
  unfold coreIn
  rw [tabPts_deal d 16 (by decide), ← bigSep_sep']
  refine bigSep_congr fun s _ => ?_
  unfold taskIn given
  rw [← srcs_eq]
  rfl

theorem coreOut_eq (c : Fin 2) : (coreOut d A c : sProp 𝕄) = bigSep Finset.univ (taskOut d A c) := by
  unfold coreOut
  rw [tabPts_deal d 16 (by decide), ← bigSep_sep']
  refine bigSep_congr fun s _ => ?_
  unfold taskOut taken
  rw [← srcs_eq]
  rfl

/-- The whole arrays and the tables are the cores' parts, -/
theorem cores_in : iprop(before d A ∗ tabPts d fullShare A.T) ⊢ (bigSep Finset.univ (coreIn d A) : sProp 𝕄) := by
  have e : (bigSep Finset.univ (coreIn d A) : sProp 𝕄) = iprop(tabPts d fullShare A.T ∗ bigSep Finset.univ (todoAt d A)) := by
    rw [tabPts_deal d 2 (by decide), bigSep_univ_prod, ← bigSep_sep']
    refine bigSep_congr fun c _ => ?_
    unfold coreIn
    rw [bigSep_univ_prod]
    rfl
  rw [e]
  iintro ⟨Hb, Ht⟩
  isplitl [Ht]; · iexact Ht
  iapply (before_split d A); iexact Hb

/-- and come back from them. -/
theorem cores_out : (bigSep Finset.univ (coreOut d A) : sProp 𝕄) ⊢ iprop(after d A ∗ tabPts d fullShare A.T) := by
  have e : (bigSep Finset.univ (coreOut d A) : sProp 𝕄) = iprop(tabPts d fullShare A.T ∗ bigSep Finset.univ (doneAt d A)) := by
    rw [tabPts_deal d 2 (by decide), bigSep_univ_prod, ← bigSep_sep']
    refine bigSep_congr fun c _ => ?_
    unfold coreOut
    rw [bigSep_univ_prod]
    rfl
  rw [e]
  iintro ⟨Ht, Hd⟩
  isplitl [Hd]; · iapply (after_join d A); iexact Hd
  iexact Ht

end Pay

/-! ## What can be set aside -/

instance holds_storable {s : Shape} {e : EltTy} {th : Thread nD τ} {sp : Space} {M : Memref sig th.2.kind sp s e} {q : PosShare TreeShare} {w : Vec F s e} :
    BI.Storable (upEmb : UEmb _ 𝕄) (holds th M q w) := by unfold holds; infer_instance
instance todo_storable (i : grid1.Coords) (d : Dev nD) (c0 : Vec F S3200 .f32) (c1 : Vec F S800 .f32) (g : Fin k1_t1_loop.trips) :
    BI.Storable (upEmb : UEmb _ 𝕄) (todo i d c0 c1 g) := by unfold todo; infer_instance
instance done_storable (i : grid1.Coords) (d : Dev nD) (T : Tabs F) (c0 : Vec F S3200 .f32) (c1 : Vec F S800 .f32) (g : Fin k1_t1_loop.trips) :
    BI.Storable (upEmb : UEmb _ 𝕄) (done i d T c0 c1 g) := by unfold done; infer_instance
instance taskIn_storable (d : Dev nD) (A : Ins F) (c : Fin 2) (s : Fin 16) : BI.Storable (upEmb : UEmb _ 𝕄) (taskIn d A c s) := by
  unfold taskIn given srcs; infer_instance
instance taskOut_storable (d : Dev nD) (A : Ins F) (c : Fin 2) (s : Fin 16) : BI.Storable (upEmb : UEmb _ 𝕄) (taskOut d A c s) := by
  unfold taskOut taken srcs; infer_instance
instance coreIn_storable (d : Dev nD) (A : Ins F) (c : Fin 2) : BI.Storable (upEmb : UEmb _ 𝕄) (coreIn d A c) := by
  rw [coreIn_eq]; infer_instance
instance coreOut_storable (d : Dev nD) (A : Ins F) (c : Fin 2) : BI.Storable (upEmb : UEmb _ 𝕄) (coreOut d A c) := by
  rw [coreOut_eq]; infer_instance

variable (A : Dev nD → Ins F)

/-- The call's exchange: each core its part, each task its own, and back. -/
def P : (K (F := F)).Pay (nD := nD) (Val := Elt F) (Name := ℕ) (U := UU) where
  st := fun q d c => match q with | 0 => coreIn d (A d) (Fin.cast nCore_zero c)
  dn := fun q d c => match q with | 0 => coreOut d (A d) (Fin.cast nCore_zero c)
  go := fun q d c i => match q with | 0 => taskIn d (A d) (Fin.cast nCore_zero c) (Fin.cast nSub_zero i)
  td := fun q d c i => match q with | 0 => taskOut d (A d) (Fin.cast nCore_zero c) (Fin.cast nSub_zero i)
  x := fun _ _ => iprop(emp)

instance P_storable : (P A).IsStorable where
  st q d c := match q with | 0 => (inferInstance : BI.Storable (upEmb : UEmb _ 𝕄) (coreIn d (A d) (Fin.cast nCore_zero c)))
  dn q d c := match q with | 0 => (inferInstance : BI.Storable (upEmb : UEmb _ 𝕄) (coreOut d (A d) (Fin.cast nCore_zero c)))
  go q d c i := match q with | 0 => (inferInstance : BI.Storable (upEmb : UEmb _ 𝕄) (taskIn d (A d) (Fin.cast nCore_zero c) (Fin.cast nSub_zero i)))
  td q d c i := match q with | 0 => (inferInstance : BI.Storable (upEmb : UEmb _ 𝕄) (taskOut d (A d) (Fin.cast nCore_zero c) (Fin.cast nSub_zero i)))

/-! ## The launch's obligations -/

theorem defs₀_vector (c : Fin τ.nSC) (s : Fin τ.nSub) :
    defs₀ (F := F) (.scVector c s) 1 ()
      = SparseCore.onTile hcore1 hsub1 (fun c s => cc1__simtier_sc_body (pt c s) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) s7 (Memref.isWhole_whole _) s8 (Memref.isWhole_whole _) s9 (Memref.isWhole_whole _) s10 (Memref.isWhole_whole _) cc1_scoped0 cc1_scoped1 cc1_scoped2 cc1_scoped3 cc1_scoped4 cc1_scoped5 cc1_scoped6 cc1_scoped7 cc1_scoped8) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem drop_emp {A B : sProp 𝕄} : iprop(A ∗ emp ∗ B) ⊢ iprop(A ∗ B) := by
  iintro ⟨HA, -, HB⟩
  isplitl [HA]; · iexact HA
  iexact HB

/-- The tables' ids name the histograms' bins. -/
def Named (T : Tabs F) : Prop := (∀ j, (T.b0 j : BitVec 32).toNat < 22) ∧ ∀ j, (T.b1 j : BitVec 32).toNat < 42

theorem tileObl (hA : ∀ d, Named (A d).T) : (K (F := F)).TileObl (D (F := F)) 𝒱 (P A) v₀ 0 := by
  intro d c i O W hO _ _
  simp only [show (P A).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  refine BI.Entails.trans ?_ ((tile_body (i := pt ⟨_, hc.1⟩ ⟨_, hc.2⟩) (d := d) (T := (A d).T) (c0 := fun g => blk 3200 (A d).C0 (num (⟨_, hc.1⟩, ⟨_, hc.2⟩, g)))
    (c1 := fun g => blk 800 (A d).C1 (num (⟨_, hc.1⟩, ⟨_, hc.2⟩, g))) (hA d).1 (hA d).2 (shV ⟨_, hc.1⟩ ⟨_, hc.2⟩) O W hO).trans (wp_mono frame _ _ fun _ => obl_post))
  exact drop_emp

theorem vecSplit : (K (F := F)).VecSplit' (P A) 0 := by
  intro d c
  show coreIn d (A d) (Fin.cast nCore_zero c) ⊢ |={Set.univ}=> iprop(
      (bigSep Finset.univ fun i : Fin ((K (F := F)).nSub 0) => taskIn d (A d) (Fin.cast nCore_zero c) (Fin.cast nSub_zero i))
      ∗ ((bigSep Finset.univ fun i : Fin ((K (F := F)).nSub 0) => taskOut d (A d) (Fin.cast nCore_zero c) (Fin.cast nSub_zero i))
          -∗ coreOut d (A d) (Fin.cast nCore_zero c)))
  rw [coreIn_eq, coreOut_eq]
  iintro H; imodintro
  isplitl [H]; · iexact H
  iintro H; iexact H

end Cert.Proof.RunIdeal
-- ==== Proof.RunIdeal.Cos.lean ====
/-
  The weighted similarities, whole, and the blocks the pipeline moves.
-/
module

public import proofs.«01_k».proof.Proof.RunIdeal.Setup
public import proofs.«01_k».proof.Proof.Hist
public import proofs.«01_k».proof.Proof.Copy
public import proofs.«01_k».proof.Proof.Gen.KernelIdeal.Points
public import Idealize.ShloMosaic.Lib.Pipeline.ValueKit

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Blocks of 64 rows -/

/-- Position `j` of block `k`, in the whole array, -/
def up2 {C : Nat} (k : Fin 64) (j : (⟨2, ![64, C]⟩ : Shape).Idx) : (⟨2, ![4096, C]⟩ : Shape).Idx :=
  fun | 0 => ⟨k.val * 64 + (j 0).val, by have h : (j 0).val < 64 := (j 0).isLt; have := k.isLt; show _ < 4096; omega⟩
      | 1 => ⟨(j 1).val, (j 1).isLt⟩
      | ⟨_ + 2, h⟩ => absurd h (Nat.not_lt.2 (Nat.le_add_left _ _))
def up3 {C E : Nat} (k : Fin 64) (j : (⟨3, ![64, C, E]⟩ : Shape).Idx) : (⟨3, ![4096, C, E]⟩ : Shape).Idx :=
  fun | 0 => ⟨k.val * 64 + (j 0).val, by have h : (j 0).val < 64 := (j 0).isLt; have := k.isLt; show _ < 4096; omega⟩
      | 1 => ⟨(j 1).val, (j 1).isLt⟩
      | 2 => ⟨(j 2).val, (j 2).isLt⟩
      | ⟨_ + 3, h⟩ => absurd h (Nat.not_lt.2 (Nat.le_add_left _ _))

/-- the block of a position of the whole array, and its position there. -/
def top2 {C : Nat} (n : (⟨2, ![4096, C]⟩ : Shape).Idx) : Fin 64 := ⟨(n 0).val / 64, by have h : (n 0).val < 4096 := (n 0).isLt; omega⟩
def low2 {C : Nat} (n : (⟨2, ![4096, C]⟩ : Shape).Idx) : (⟨2, ![64, C]⟩ : Shape).Idx :=
  fun | 0 => ⟨(n 0).val % 64, Nat.mod_lt _ (by decide)⟩
      | 1 => ⟨(n 1).val, (n 1).isLt⟩
      | ⟨_ + 2, h⟩ => absurd h (Nat.not_lt.2 (Nat.le_add_left _ _))

theorem top_up {C : Nat} (k : Fin 64) (j : (⟨2, ![64, C]⟩ : Shape).Idx) : top2 (up2 k j) = k := by
  have h : (j 0).val < 64 := (j 0).isLt
  refine Fin.ext ?_
  show (k.val * 64 + (j 0).val) / 64 = k.val
  omega

theorem low_up {C : Nat} (k : Fin 64) (j : (⟨2, ![64, C]⟩ : Shape).Idx) : low2 (up2 k j) = j := by
  have h : (j 0).val < 64 := (j 0).isLt
  funext a
  match a with
  | 0 => refine Fin.ext ?_
         show (k.val * 64 + (j 0).val) % 64 = (j 0).val
         omega
  | 1 => rfl

theorem up_low {C : Nat} (n : (⟨2, ![4096, C]⟩ : Shape).Idx) : up2 (top2 n) (low2 n) = n := by
  funext a
  match a with
  | 0 => refine Fin.ext ?_
         show (n 0).val / 64 * 64 + (n 0).val % 64 = (n 0).val
         omega
  | 1 => rfl

/-- Block `k` of an array. -/
def part2 {C : Nat} (X : Vec F ⟨2, ![4096, C]⟩ .f32) (k : Fin 64) : Vec F ⟨2, ![64, C]⟩ .f32 := fun j => X (up2 k j)
def part3 {C E : Nat} (X : Vec F ⟨3, ![4096, C, E]⟩ .f32) (k : Fin 64) : Vec F ⟨3, ![64, C, E]⟩ .f32 := fun j => X (up3 k j)

/-- The weighted similarities of each of the two levels, whole. -/
def cosOut0 (I : Vec F S4096x32 .f32) (S : Vec F S4096x200x32 .f32) (N : Vec F S4096x200 .f32) : Vec F S4096x200 .f32 :=
  fun n => k0_pay2 (part2 I (top2 n)) (part3 S (top2 n)) (part2 N (top2 n)) (low2 n)
def cosOut1 (I : Vec F S4096x32 .f32) (S : Vec F S4096x50x32 .f32) (N : Vec F S4096x50 .f32) : Vec F S4096x50 .f32 :=
  fun n => k0_pay3 (part2 I (top2 n)) (part3 S (top2 n)) (part2 N (top2 n)) (low2 n)

theorem part_cosOut0 (I : Vec F S4096x32 .f32) (S : Vec F S4096x200x32 .f32) (N : Vec F S4096x200 .f32) (k : Fin 64) :
    part2 (cosOut0 I S N) k = k0_pay2 (part2 I k) (part3 S k) (part2 N k) := by
  funext j
  show k0_pay2 (part2 I (top2 (up2 k j))) (part3 S (top2 (up2 k j))) (part2 N (top2 (up2 k j))) (low2 (up2 k j)) = _
  rw [top_up, low_up]
theorem part_cosOut1 (I : Vec F S4096x32 .f32) (S : Vec F S4096x50x32 .f32) (N : Vec F S4096x50 .f32) (k : Fin 64) :
    part2 (cosOut1 I S N) k = k0_pay3 (part2 I k) (part3 S k) (part2 N k) := by
  funext j
  show k0_pay3 (part2 I (top2 (up2 k j))) (part3 S (top2 (up2 k j))) (part2 N (top2 (up2 k j))) (low2 (up2 k j)) = _
  rw [top_up, low_up]

/-! ## The windows' blocks are those -/

/-- Point `t`'s number. -/
def pn (t : Fin cfg0.N) : Fin 64 := ⟨t.val, lt_of_lt_of_eq t.isLt N_0⟩

theorem coords_val (t : Fin cfg0.N) : (BitVec.ofNat 32 ((grid0.coords t) 0).val).toNat = t.val := by
  revert t; decide

theorem read_w0 (t : Fin cfg0.N) (X : Vec F S4096x32 .f32) : (win0_0.blk t).view.read (Elt F) X = part2 X (pn t) := by
  funext j
  refine (View.read_apply _ _).trans ((cast_eq _ _).trans (congrArg X ?_))
  funext a
  refine Fin.ext ((ValueKit.view_emb_slice_whole_unit_val main_arg0 _ _ _ j a).trans ?_)
  match a with
  | 0 => show (BitVec.ofNat 32 ((grid0.coords t) 0).val).toNat * 64 + (j 0).val = t.val * 64 + (j 0).val
         rw [coords_val]
  | 1 => show 0 * 32 + (j 1).val = (j 1).val
         omega
theorem read_w1 (t : Fin cfg0.N) (X : Vec F S4096x200x32 .f32) : (win0_1.blk t).view.read (Elt F) X = part3 X (pn t) := by
  funext j
  refine (View.read_apply _ _).trans ((cast_eq _ _).trans (congrArg X ?_))
  funext a
  refine Fin.ext ((ValueKit.view_emb_slice_whole_unit_val main_arg1 _ _ _ j a).trans ?_)
  match a with
  | 0 => show (BitVec.ofNat 32 ((grid0.coords t) 0).val).toNat * 64 + (j 0).val = t.val * 64 + (j 0).val
         rw [coords_val]
  | 1 => show 0 * 200 + (j 1).val = (j 1).val
         omega
  | 2 => show 0 * 32 + (j 2).val = (j 2).val
         omega
theorem read_w2 (t : Fin cfg0.N) (X : Vec F S4096x50x32 .f32) : (win0_2.blk t).view.read (Elt F) X = part3 X (pn t) := by
  funext j
  refine (View.read_apply _ _).trans ((cast_eq _ _).trans (congrArg X ?_))
  funext a
  refine Fin.ext ((ValueKit.view_emb_slice_whole_unit_val main_arg2 _ _ _ j a).trans ?_)
  match a with
  | 0 => show (BitVec.ofNat 32 ((grid0.coords t) 0).val).toNat * 64 + (j 0).val = t.val * 64 + (j 0).val
         rw [coords_val]
  | 1 => show 0 * 50 + (j 1).val = (j 1).val
         omega
  | 2 => show 0 * 32 + (j 2).val = (j 2).val
         omega

/-- Two windows' blocks over arrays of one shape. -/
theorem read_w3 (t : Fin cfg0.N) (X : Vec F S4096x200 .f32) : (win0_3.blk t).view.read (Elt F) X = part2 X (pn t) := by
  funext j
  refine (View.read_apply _ _).trans ((cast_eq _ _).trans (congrArg X ?_))
  funext a
  refine Fin.ext ((ValueKit.view_emb_slice_whole_unit_val main_arg3 _ _ _ j a).trans ?_)
  match a with
  | 0 => show (BitVec.ofNat 32 ((grid0.coords t) 0).val).toNat * 64 + (j 0).val = t.val * 64 + (j 0).val
         rw [coords_val]
  | 1 => show 0 * 200 + (j 1).val = (j 1).val
         omega
theorem read_w4 (t : Fin cfg0.N) (X : Vec F S4096x50 .f32) : (win0_4.blk t).view.read (Elt F) X = part2 X (pn t) := by
  funext j
  refine (View.read_apply _ _).trans ((cast_eq _ _).trans (congrArg X ?_))
  funext a
  refine Fin.ext ((ValueKit.view_emb_slice_whole_unit_val main_arg4 _ _ _ j a).trans ?_)
  match a with
  | 0 => show (BitVec.ofNat 32 ((grid0.coords t) 0).val).toNat * 64 + (j 0).val = t.val * 64 + (j 0).val
         rw [coords_val]
  | 1 => show 0 * 50 + (j 1).val = (j 1).val
         omega
theorem read_w5 (t : Fin cfg0.N) (X : Vec F S4096x200 .f32) : (win0_5.blk t).view.read (Elt F) X = part2 X (pn t) := read_w3 t X
theorem read_w6 (t : Fin cfg0.N) (X : Vec F S4096x50 .f32) : (win0_6.blk t).view.read (Elt F) X = part2 X (pn t) := read_w4 t X

/-- Every position of a result is in some point's block. -/
theorem cover5 (n : S4096x200.Idx) : ∃ t : Fin cfg0.N, n ∈ (win0_5.blk t).view.set := by
  refine ⟨⟨(top2 n).val, lt_of_lt_of_eq (top2 n).isLt N_0.symm⟩, ?_⟩
  rw [← up_low n]
  refine Finset.mem_map.mpr ⟨low2 n, Finset.mem_univ _, ?_⟩
  funext a
  refine Fin.ext ((ValueKit.view_emb_slice_whole_unit_val main_v0_0 _ _ _ (low2 n) a).trans ?_)
  match a with
  | 0 => show (BitVec.ofNat 32 ((grid0.coords _) 0).val).toNat * 64 + (low2 n 0).val = (top2 n).val * 64 + (low2 n 0).val
         rw [coords_val]; dsimp only; rw [top_up]
  | 1 => show 0 * 200 + (n 1).val = (n 1).val
         omega
theorem cover6 (n : S4096x50.Idx) : ∃ t : Fin cfg0.N, n ∈ (win0_6.blk t).view.set := by
  refine ⟨⟨(top2 n).val, lt_of_lt_of_eq (top2 n).isLt N_0.symm⟩, ?_⟩
  rw [← up_low n]
  refine Finset.mem_map.mpr ⟨low2 n, Finset.mem_univ _, ?_⟩
  funext a
  refine Fin.ext ((ValueKit.view_emb_slice_whole_unit_val main_v0_1 _ _ _ (low2 n) a).trans ?_)
  match a with
  | 0 => show (BitVec.ofNat 32 ((grid0.coords _) 0).val).toNat * 64 + (low2 n 0).val = (top2 n).val * 64 + (low2 n 0).val
         rw [coords_val]; dsimp only; rw [top_up]
  | 1 => show 0 * 50 + (n 1).val = (n 1).val
         omega

end Cert.Proof.RunIdeal
-- ==== Proof.RunIdeal.CosRun.lean ====
/-
  One point of the pipeline.
-/
module

public import proofs.«01_k».proof.Proof.RunIdeal.Cos

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## One point of the pipeline -/

/-- A load of a whole array reads it, -/
theorem look_all {S : Shape} {off : Fin S.rank → Nat} (h : off = fun _ => 0) (inb : ∀ a, off a + S.size a ≤ S.size a) (w : Vec F S .f32) :
    (fun x => w ((Rect.unit off S.size inb).toLoadRect.idx x)) = w := View.ld_unit_zero (Val := Elt F) (e := .f32) h inb w

/-- and what has a payload on the whole of an array is the payload. -/
theorem put_all {S : Shape} {off : Fin S.rank → Nat} (h : off = fun _ => 0) (inb : ∀ a, off a + S.size a ≤ S.size a) (w p : Vec F S .f32)
    (hw : ∀ x, w ((Rect.unit off S.size inb).emb x) = p x) : w = p := by
  funext x
  have e : (Rect.unit off S.size inb).emb x = x := by
    funext a
    refine Fin.ext ((ValueKit.rect_emb_unit_val (s := S) off S.size inb x a).trans ?_)
    have h0 : off a = 0 := congrFun h a
    omega
  exact (congrArg w e.symm).trans (hw x)

theorem zero2 : (![0, 0] : Fin 2 → Nat) = fun _ => 0 := funext fun a => by fin_cases a <;> rfl
theorem zero3 : (![0, 0, 0] : Fin 3 → Nat) = fun _ => 0 := funext fun a => by fin_cases a <;> rfl

set_option maxHeartbeats 1600000 in
/-- The body at a point: the two results' buffers left at the point's payloads, the five sources' as they were. -/
theorem cos_run (d : Dev nD) (i : grid0.Coords)
    (M1 : Memref sig .tc .vmem S64x32 .f32) (h1 : M1.IsWhole) (M2 : Memref sig .tc .vmem S64x200x32 .f32) (h2 : M2.IsWhole)
    (M3 : Memref sig .tc .vmem S64x50x32 .f32) (h3 : M3.IsWhole) (M4 : Memref sig .tc .vmem S64x200 .f32) (h4 : M4.IsWhole)
    (M5 : Memref sig .tc .vmem S64x50 .f32) (h5 : M5.IsWhole) (M6 : Memref sig .tc .vmem S64x200 .f32) (h6 : M6.IsWhole)
    (M7 : Memref sig .tc .vmem S64x50 .f32) (h7 : M7.IsWhole)
    (v1 : Vec F S64x32 .f32) (v2 : Vec F S64x200x32 .f32) (v3 : Vec F S64x50x32 .f32) (v4 : Vec F S64x200 .f32) (v5 : Vec F S64x50 .f32)
    (v6 : Vec F S64x200 .f32) (v7 : Vec F S64x50 .f32) (Q : PUnit → sProp 𝕄) :
    iprop(holds (d : Thread nD τ) M1 fullShare v1 ∗ holds (d : Thread nD τ) M2 fullShare v2 ∗ holds (d : Thread nD τ) M3 fullShare v3
        ∗ holds (d : Thread nD τ) M4 fullShare v4 ∗ holds (d : Thread nD τ) M5 fullShare v5 ∗ holds (d : Thread nD τ) M6 fullShare v6
        ∗ holds (d : Thread nD τ) M7 fullShare v7
        ∗ (iprop(holds (d : Thread nD τ) M1 fullShare v1 ∗ holds (d : Thread nD τ) M2 fullShare v2 ∗ holds (d : Thread nD τ) M3 fullShare v3
          ∗ holds (d : Thread nD τ) M4 fullShare v4 ∗ holds (d : Thread nD τ) M5 fullShare v5 ∗ holds (d : Thread nD τ) M6 fullShare (k0_pay2 v1 v2 v4)
          ∗ holds (d : Thread nD τ) M7 fullShare (k0_pay3 v1 v3 v5)) -∗ Q ⟨⟩))
      ⊢ wp frame (wpE (defs₀ (F := F)) 𝒱₀ (d : Thread nD τ) none) Set.univ
          (cc0__cos_body i M1 h1 M2 h2 M3 h3 M4 h4 M5 h5 M6 h6 M7 h7) Q := by
  simp only [cc0__cos_body_eq_skeleton]; unfold cc0__cos_body_skel
  simp only [k0_part1_eq_skeleton]; unfold k0_part1_skel
  simp only [Prog.lift, Prog.bind_op, Prog.bind_ret, Prog.pure_eq_ret]
  iintro ⟨H1, H2, H3, H4, H5, H6, H7, Hk⟩
  iapply (wp_look 𝒱₀ (d : Thread nD τ) none Set.univ) $$ H1
  iintro H1
  iapply (wp_look 𝒱₀ (d : Thread nD τ) none Set.univ) $$ H2
  iintro H2
  iapply (wp_look 𝒱₀ (d : Thread nD τ) none Set.univ) $$ H4
  iintro H4
  iapply (wp_look 𝒱₀ (d : Thread nD τ) none Set.univ) $$ H6
  iintro H6
  rw [look_all zero2, look_all zero3, look_all zero2]
  iapply (wp_put 𝒱₀ (d : Thread nD τ) none Set.univ) $$ H6
  iintro %w6 %hw6 H6
  obtain rfl := put_all zero2 _ w6 _ hw6.1
  iapply (wp_look 𝒱₀ (d : Thread nD τ) none Set.univ) $$ H3
  iintro H3
  iapply (wp_look 𝒱₀ (d : Thread nD τ) none Set.univ) $$ H5
  iintro H5
  iapply (wp_look 𝒱₀ (d : Thread nD τ) none Set.univ) $$ H7
  iintro H7
  rw [look_all zero3, look_all zero2]
  iapply (wp_put 𝒱₀ (d : Thread nD τ) none Set.univ) $$ H7
  iintro %w7 %hw7 H7
  obtain rfl := put_all zero2 _ w7 _ hw7.1
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  iexact H7

/-- The same, said with the library's word for it. -/
theorem cos_run_owns (d : Dev nD) (i : grid0.Coords)
    (M1 : Memref sig .tc .vmem S64x32 .f32) (h1 : M1.IsWhole) (M2 : Memref sig .tc .vmem S64x200x32 .f32) (h2 : M2.IsWhole)
    (M3 : Memref sig .tc .vmem S64x50x32 .f32) (h3 : M3.IsWhole) (M4 : Memref sig .tc .vmem S64x200 .f32) (h4 : M4.IsWhole)
    (M5 : Memref sig .tc .vmem S64x50 .f32) (h5 : M5.IsWhole) (M6 : Memref sig .tc .vmem S64x200 .f32) (h6 : M6.IsWhole)
    (M7 : Memref sig .tc .vmem S64x50 .f32) (h7 : M7.IsWhole)
    (v1 : Vec F S64x32 .f32) (v2 : Vec F S64x200x32 .f32) (v3 : Vec F S64x50x32 .f32) (v4 : Vec F S64x200 .f32) (v5 : Vec F S64x50 .f32)
    (v6 : Vec F S64x200 .f32) (v7 : Vec F S64x50 .f32) (Q : PUnit → sProp 𝕄) :
    iprop(owns (d : Thread nD τ) M1 fullShare v1 ∗ owns (d : Thread nD τ) M2 fullShare v2 ∗ owns (d : Thread nD τ) M3 fullShare v3
        ∗ owns (d : Thread nD τ) M4 fullShare v4 ∗ owns (d : Thread nD τ) M5 fullShare v5 ∗ owns (d : Thread nD τ) M6 fullShare v6
        ∗ owns (d : Thread nD τ) M7 fullShare v7
        ∗ (iprop(owns (d : Thread nD τ) M1 fullShare v1 ∗ owns (d : Thread nD τ) M2 fullShare v2 ∗ owns (d : Thread nD τ) M3 fullShare v3
          ∗ owns (d : Thread nD τ) M4 fullShare v4 ∗ owns (d : Thread nD τ) M5 fullShare v5 ∗ owns (d : Thread nD τ) M6 fullShare (k0_pay2 v1 v2 v4)
          ∗ owns (d : Thread nD τ) M7 fullShare (k0_pay3 v1 v3 v5)) -∗ Q ⟨⟩))
      ⊢ wp frame (wpE (defs₀ (F := F)) 𝒱₀ (d : Thread nD τ) none) Set.univ
          (cc0__cos_body i M1 h1 M2 h2 M3 h3 M4 h4 M5 h5 M6 h6 M7 h7) Q :=
  cos_run d i M1 h1 M2 h2 M3 h3 M4 h4 M5 h5 M6 h6 M7 h7 v1 v2 v3 v4 v5 v6 v7 Q

end Cert.Proof.RunIdeal
-- ==== Proof.RunIdeal.CosDat.lean ====
/-
  The pipeline's proof data, and its body's obligation.
-/
module

public import proofs.«01_k».proof.Proof.RunIdeal.CosRun

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The pipeline's data -/

/-- The arrays before the program: a buffer of the TensorCore's at its contents. -/
abbrev Mem (F : FTy → Type) : Type := (c : Dev nD) → (b : Ref sig .tc) → Buf (Elt F) ((c : Thread nD τ).loc b)

variable (V : Mem F)

/-- The arrays as the pipeline leaves them. -/
def cosA0 (c : Dev nD) : Vec F S4096x200 .f32 := cosOut0 (V c main_arg0) (V c main_arg1) (V c main_arg3)
def cosA1 (c : Dev nD) : Vec F S4096x50 .f32 := cosOut1 (V c main_arg0) (V c main_arg2) (V c main_arg4)

/-- Pairs the core's waits may have recorded before: those low enough. -/
abbrev low (c : Dev nD) (b : ℕ) : Set (SemLoc sig × HIx 1) := {p | (K (F := F)).lev (T c, p.1) p.2 ≤ b}

/-- The proof data: the arrays at `V`; each source's buffer left at its block, each result's at its block of the whole
    result; the core owing its starts all along. -/
def dat (b : ℕ) (c : Dev nD) : Pipeline.Dat τ (Elt F) (HIx 1) ℕ UU ℕ cfg0 c where
  A w := V c (Pipeline.arrRef spec0 w)
  after w t := match w with
    | ⟨0, _⟩ => part2 (V c main_arg0) (pn t)
    | ⟨1, _⟩ => part3 (V c main_arg1) (pn t)
    | ⟨2, _⟩ => part3 (V c main_arg2) (pn t)
    | ⟨3, _⟩ => part2 (V c main_arg3) (pn t)
    | ⟨4, _⟩ => part2 (V c main_arg4) (pn t)
    | ⟨5, _⟩ => part2 (cosA0 V c) (pn t)
    | ⟨6, _⟩ => part2 (cosA1 V c) (pn t)
  Φ _ := Pipeline.scopedRest (Ix := HIx 1) (Name := ℕ) (U := UU) (Lvl := ℕ) (Val := Elt F) spec0 c
  q _ := fullShare
  owed _ := (K (F := F)).Otc c 0
  recorded _ := low (F := F) c b

theorem before0 (b : ℕ) (c : Dev nD) (t : Fin cfg0.N) (d) : (dat V b c).before 0 t d = part2 (V c main_arg0) (pn t) :=
  ((dat V b c).before_fetched 0 t (fetch0_0 t) d).trans (read_w0 t (V c main_arg0))
theorem before1 (b : ℕ) (c : Dev nD) (t : Fin cfg0.N) (d) : (dat V b c).before 1 t d = part3 (V c main_arg1) (pn t) :=
  ((dat V b c).before_fetched 1 t (fetch0_1 t) d).trans (read_w1 t (V c main_arg1))
theorem before2 (b : ℕ) (c : Dev nD) (t : Fin cfg0.N) (d) : (dat V b c).before 2 t d = part3 (V c main_arg2) (pn t) :=
  ((dat V b c).before_fetched 2 t (fetch0_2 t) d).trans (read_w2 t (V c main_arg2))
theorem before3 (b : ℕ) (c : Dev nD) (t : Fin cfg0.N) (d) : (dat V b c).before 3 t d = part2 (V c main_arg3) (pn t) :=
  ((dat V b c).before_fetched 3 t (fetch0_3 t) d).trans (read_w3 t (V c main_arg3))
theorem before4 (b : ℕ) (c : Dev nD) (t : Fin cfg0.N) (d) : (dat V b c).before 4 t d = part2 (V c main_arg4) (pn t) :=
  ((dat V b c).before_fetched 4 t (fetch0_4 t) d).trans (read_w4 t (V c main_arg4))

theorem arr5 (b : ℕ) (c : Dev nD) : (dat V b c).arrAt 5 cfg0.N = cosA0 V c :=
  (dat V b c).arrAt_eq_of_cover 5 (cosA0 V c) (fun t _ => (read_w5 t (cosA0 V c)).symm) fun i =>
    (cover5 i).elim fun t h => ⟨t, flush0_5 t, h⟩
theorem arr6 (b : ℕ) (c : Dev nD) : (dat V b c).arrAt 6 cfg0.N = cosA1 V c :=
  (dat V b c).arrAt_eq_of_cover 6 (cosA1 V c) (fun t _ => (read_w6 t (cosA1 V c)).symm) fun i =>
    (cover6 i).elim fun t h => ⟨t, flush0_6 t, h⟩

set_option maxHeartbeats 1600000 in
/-- The body obligation: the five sources' buffers as fetched, the body run, the results' buffers at their blocks. -/
theorem body_obligation (b : ℕ) (c : Dev nD) : Pipeline.BodyObligation (dat V b c) (defs₀ (F := F)) 𝒱₀ none Set.univ := fun t => by
  rw [bigSep_W0, bigSep_W0]
  rw [show (dat V b c).Φ t.castSucc = (dat V b c).Φ t.succ from rfl,
    show (dat V b c).owesAt none t.castSucc = (dat V b c).owesAt none t.succ from rfl]
  show iprop((dat V b c).Φ t.succ ∗ (dat V b c).owesAt none t.succ
      ∗ (∃ d, owns c (st0_0 t) fullShare ((dat V b c).before 0 t d)) ∗ (∃ d, owns c (st0_1 t) fullShare ((dat V b c).before 1 t d))
      ∗ (∃ d, owns c (st0_2 t) fullShare ((dat V b c).before 2 t d)) ∗ (∃ d, owns c (st0_3 t) fullShare ((dat V b c).before 3 t d))
      ∗ (∃ d, owns c (st0_4 t) fullShare ((dat V b c).before 4 t d)) ∗ (∃ d, owns c (st0_5 t) fullShare ((dat V b c).before 5 t d))
      ∗ ∃ d, owns c (st0_6 t) fullShare ((dat V b c).before 6 t d))
    ⊢ wp frame (wpE (defs₀ (F := F)) 𝒱₀ c none) Set.univ (bodyAt0 t) fun _ =>
      iprop((dat V b c).Φ t.succ ∗ (dat V b c).owesAt none t.succ
      ∗ owns c (st0_0 t) fullShare (part2 (V c main_arg0) (pn t))
      ∗ owns c (st0_1 t) fullShare (part3 (V c main_arg1) (pn t))
      ∗ owns c (st0_2 t) fullShare (part3 (V c main_arg2) (pn t))
      ∗ owns c (st0_3 t) fullShare (part2 (V c main_arg3) (pn t))
      ∗ owns c (st0_4 t) fullShare (part2 (V c main_arg4) (pn t))
      ∗ owns c (st0_5 t) fullShare (part2 (cosA0 V c) (pn t))
      ∗ owns c (st0_6 t) fullShare (part2 (cosA1 V c) (pn t)))
  iintro ⟨HΦ, Howes, ⟨%d0, H0⟩, ⟨%d1, H1⟩, ⟨%d2, H2⟩, ⟨%d3, H3⟩, ⟨%d4, H4⟩, ⟨%d5, H5⟩, ⟨%d6, H6⟩⟩
  rw [before0, before1, before2, before3, before4]
  iapply (cos_run_owns c (grid0.coords t) (st0_0 t) _ (st0_1 t) _ (st0_2 t) _ (st0_3 t) _ (st0_4 t) _ (st0_5 t) _ (st0_6 t) _
    (part2 (V c main_arg0) (pn t)) (part3 (V c main_arg1) (pn t)) (part3 (V c main_arg2) (pn t)) (part2 (V c main_arg3) (pn t))
    (part2 (V c main_arg4) (pn t)) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  rw [cosA0, cosA1, part_cosOut0, part_cosOut1]
  isplitl [H5]; · iexact H5
  iexact H6

end Cert.Proof.RunIdeal
-- ==== Proof.RunIdeal.CosReg.lean ====
/-
  The pipeline as a region of the program.
-/
module

public import proofs.«01_k».proof.Proof.RunIdeal.CosDat
public import Idealize.ShloMosaic.Lib.Pipeline.RegionsLoop

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (V : Mem F) (b : ℕ)

abbrev adm : (p : Fin 1) → (pcfgs (F := F) p).Adm := fun p => (cfgs p).toPCfg_adm

abbrev pdats : (p : Fin 1) → (c : Dev nD) → Pipeline.Dat τ (Elt F) (HIx 1) ℕ UU ℕ (Pipeline.pin (pcfgs (F := F)) adm p) c
  | ⟨0, _⟩ => fun c => dat V b c

/-- A core's starts are counted at their own index only. -/
theorem otc_none (c : Dev nD) (g : GSem nD τ sig) : (K (F := F)).Otc (N := 1) c 0 g none = 0 := by
  rw [SparseCore.Cfg.Otc_zero]
  unfold SparseCore.Cfg.OtcAt
  rw [Finset.sum_apply, Finsupp.finset_sum_apply]
  refine Finset.sum_eq_zero fun q _ => ?_
  rw [Finset.sum_apply, Finsupp.finset_sum_apply]
  refine Finset.sum_eq_zero fun i _ => ?_
  rw [tallyAt_apply]
  exact if_neg fun h => nomatch h.2

/-- What the arrays hold after the pipeline. -/
def V₁ : Mem F := fun c r => if h : r = main_v0_0 then h ▸ cosA0 V c else if h : r = main_v0_1 then h ▸ cosA1 V c else V c r

theorem V₁_0 (c : Dev nD) : V₁ V c main_v0_0 = cosA0 V c := rfl
theorem V₁_1 (c : Dev nD) : V₁ V c main_v0_1 = cosA1 V c := rfl
theorem V₁_ne (c : Dev nD) (r : Ref sig .tc) (h0 : r ≠ main_v0_0) (h1 : r ≠ main_v0_1) : V₁ V c r = V c r := by
  unfold V₁; rw [dif_neg h0, dif_neg h1]

set_option backward.isDefEq.respectTransparency.types false in
/-- THE REGION: from the arrays at `V` and the core owing its starts, to the arrays at `V₁` and the core owing them still. -/
def reg : Pipeline.RegionSeg (pcfgs (F := F)) adm (pdats V b) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V b c).loose
  hwaits c := Pipeline.cellsWaits_intro _ _ _ _ _ fun w s t => (K (F := F)).mayWait_none _ (otc_none c)
  pre c := iprop(unscopedBufs c (V c) ∗ ∃ W, ⌜(K (F := F)).WBelow (T c) W b⌝ ∗ owes (T c) ((K (F := F)).Otc c 0) W)
  post c := iprop(unscopedBufs c (V₁ V c) ∗ ∃ W, ⌜(K (F := F)).WBelow (T c) W b⌝ ∗ owes (T c) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V b) launch0.win launch0.arr_whole c
      ((pdats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V b 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V b) ((pdats V b 0 c).share_full fun _ => rfl) (V c) (V₁ V c) ((pdats V b 0 c).arrAt · cfg0.N)
      (fun w => by
        fin_cases w
        · exact ((dat V b c).arrAt_in 0 rfl _).trans (V₁_ne V c main_arg0 (by decide) (by decide)).symm
        · exact ((dat V b c).arrAt_in 1 rfl _).trans (V₁_ne V c main_arg1 (by decide) (by decide)).symm
        · exact ((dat V b c).arrAt_in 2 rfl _).trans (V₁_ne V c main_arg2 (by decide) (by decide)).symm
        · exact ((dat V b c).arrAt_in 3 rfl _).trans (V₁_ne V c main_arg3 (by decide) (by decide)).symm
        · exact ((dat V b c).arrAt_in 4 rfl _).trans (V₁_ne V c main_arg4 (by decide) (by decide)).symm
        · exact arr5 V b c
        · exact arr6 V b c)
      (fun r hr => V₁_ne V c r (fun h => hr (h ▸ Finset.mem_image.mpr ⟨5, Finset.mem_univ _, rfl⟩))
        (fun h => hr (h ▸ Finset.mem_image.mpr ⟨6, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; swap; · iexact HO
    ipureintro
    intro p hp
    rcases hW hp with h | ⟨w, s, rfl⟩
    · exact h
    · exact Nat.zero_le _

end Cert.Proof.RunIdeal
-- ==== Proof.RunIdeal.HostOps.lean ====
/-
  The operations of the program besides the two kernels, and the tables they make.
-/
module

public import proofs.«01_k».proof.Proof.RunIdeal.Setup
public import proofs.«01_k».proof.Proof.Hist
public import proofs.«01_k».proof.Proof.Copy
public import Idealize.ShloMosaic.Lib.StableHlo.Run

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.StableHlo

/-! ## The operations of the program's own -/

/-- Between the pipeline and the call: the tables of logarithms, of bins and of factors, and the similarities in a row. -/
abbrev opsA : List (HloOp τ sig (Elt F)) :=
  [ nullary main_v1 (sitofp .f32 (iotaInDim S256 32 0)),
    nullary main_cst (constant S_ .f32 0x3F800000#32),
    unary main_cst main_v2 (broadcastInDim S256 ![] bcast_S_S256 : (⟨S_, .f32⟩ : BufTy).Contents (Elt F) → (⟨S256, .f32⟩ : BufTy).Contents (Elt F)),
    binary main_v1 main_v2 main_v3 (addf : (⟨S256, .f32⟩ : BufTy).Contents (Elt F) → (⟨S256, .f32⟩ : BufTy).Contents (Elt F) → (⟨S256, .f32⟩ : BufTy).Contents (Elt F)),
    unary main_v3 main_v4 (Host.log : (⟨S256, .f32⟩ : BufTy).Contents (Elt F) → (⟨S256, .f32⟩ : BufTy).Contents (Elt F)),
    nullary main_v5 (iotaInDim S88 32 0),
    nullary main_c (constantI S_ 32 4#32),
    TRef.unary (TRef.of (T := ⟨S_, .i32⟩) main_c) (TRef.of (T := ⟨S_, .i32⟩) main_call0_v0) id,
    TRef.unary (TRef.of (T := ⟨S_, .i32⟩) main_call0_v0) (TRef.of (T := ⟨S88, .i32⟩) main_call0_v1) (broadcastInDim S88 ![] bcast_S_S88),
    TRef.binary (TRef.of (T := ⟨S88, .i32⟩) main_v5) (TRef.of (T := ⟨S88, .i32⟩) main_call0_v1) (TRef.of (T := ⟨S88, .i32⟩) main_call0_v2) Host.divsi,
    TRef.unary (TRef.of (T := ⟨S88, .i32⟩) main_v5) (TRef.of (T := ⟨S88, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S88, .i32⟩) main_call0_v5) (broadcastInDim S88 ![] bcast_S_S88),
    TRef.binary (TRef.of (T := ⟨S88, .i32⟩) main_call0_v3) (TRef.of (T := ⟨S88, .i32⟩) main_call0_v5) (TRef.of (T := ⟨S88, .i1⟩) main_call0_v6) (cmpi .ne),
    TRef.unary (TRef.of (T := ⟨S_, .i32⟩) main_call0_v0) (TRef.of (T := ⟨S88, .i32⟩) main_call0_v7) (broadcastInDim S88 ![] bcast_S_S88),
    TRef.binary (TRef.of (T := ⟨S88, .i32⟩) main_v5) (TRef.of (T := ⟨S88, .i32⟩) main_call0_v7) (TRef.of (T := ⟨S88, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S88, .i32⟩) main_call0_v9) (broadcastInDim S88 ![] bcast_S_S88),
    TRef.binary (TRef.of (T := ⟨S88, .i32⟩) main_call0_v8) (TRef.of (T := ⟨S88, .i32⟩) main_call0_v9) (TRef.of (T := ⟨S88, .i1⟩) main_call0_v10) (cmpi .ne),
    TRef.binary (TRef.of (T := ⟨S88, .i1⟩) main_call0_v6) (TRef.of (T := ⟨S88, .i1⟩) main_call0_v10) (TRef.of (T := ⟨S88, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S88, .i32⟩) main_call0_v12) (broadcastInDim S88 ![] bcast_S_S88),
    TRef.binary (TRef.of (T := ⟨S88, .i32⟩) main_call0_v2) (TRef.of (T := ⟨S88, .i32⟩) main_call0_v12) (TRef.of (T := ⟨S88, .i32⟩) main_call0_v13) subi,
    TRef.ternary (TRef.of (T := ⟨S88, .i1⟩) main_call0_v11) (TRef.of (T := ⟨S88, .i32⟩) main_call0_v13) (TRef.of (T := ⟨S88, .i32⟩) main_call0_v2) (TRef.of (T := ⟨S88, .i32⟩) main_v6) select,
    reshape main_arg5 main_v7 (rfl : (.f32 : EltTy) = .f32) shapeCasts_S1x22x4_S88,
    nullary main_v8 (iotaInDim S336 32 0),
    nullary main_c_0 (constantI S_ 32 8#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S336, .i32⟩) main_call1_v1) (broadcastInDim S336 ![] bcast_S_S336),
    TRef.binary (TRef.of (T := ⟨S336, .i32⟩) main_v8) (TRef.of (T := ⟨S336, .i32⟩) main_call1_v1) (TRef.of (T := ⟨S336, .i32⟩) main_call1_v2) Host.divsi,
    TRef.unary (TRef.of (T := ⟨S336, .i32⟩) main_v8) (TRef.of (T := ⟨S336, .i32⟩) main_call1_v3) signi,
    TRef.unary (TRef.of (T := ⟨S_, .i32⟩) main_call1_v0) (TRef.of (T := ⟨S_, .i32⟩) main_call1_v4) signi,
    TRef.unary (TRef.of (T := ⟨S_, .i32⟩) main_call1_v4) (TRef.of (T := ⟨S336, .i32⟩) main_call1_v5) (broadcastInDim S336 ![] bcast_S_S336),
    TRef.binary (TRef.of (T := ⟨S336, .i32⟩) main_call1_v3) (TRef.of (T := ⟨S336, .i32⟩) main_call1_v5) (TRef.of (T := ⟨S336, .i1⟩) main_call1_v6) (cmpi .ne),
    TRef.unary (TRef.of (T := ⟨S_, .i32⟩) main_call1_v0) (TRef.of (T := ⟨S336, .i32⟩) main_call1_v7) (broadcastInDim S336 ![] bcast_S_S336),
    TRef.binary (TRef.of (T := ⟨S336, .i32⟩) main_v8) (TRef.of (T := ⟨S336, .i32⟩) main_call1_v7) (TRef.of (T := ⟨S336, .i32⟩) main_call1_v8) Host.remsi,
    TRef.nullary (TRef.of (T := ⟨S_, .i32⟩) main_call1_c) (constantI S_ 32 0#32),
    TRef.unary (TRef.of (T := ⟨S_, .i32⟩) main_call1_c) (TRef.of (T := ⟨S336, .i32⟩) main_call1_v9) (broadcastInDim S336 ![] bcast_S_S336),
    TRef.binary (TRef.of (T := ⟨S336, .i32⟩) main_call1_v8) (TRef.of (T := ⟨S336, .i32⟩) main_call1_v9) (TRef.of (T := ⟨S336, .i1⟩) main_call1_v10) (cmpi .ne),
    TRef.binary (TRef.of (T := ⟨S336, .i1⟩) main_call1_v6) (TRef.of (T := ⟨S336, .i1⟩) main_call1_v10) (TRef.of (T := ⟨S336, .i1⟩) main_call1_v11) andi,
    TRef.nullary (TRef.of (T := ⟨S_, .i32⟩) main_call1_c_0) (constantI S_ 32 1#32),
    TRef.unary (TRef.of (T := ⟨S_, .i32⟩) main_call1_c_0) (TRef.of (T := ⟨S336, .i32⟩) main_call1_v12) (broadcastInDim S336 ![] bcast_S_S336),
    TRef.binary (TRef.of (T := ⟨S336, .i32⟩) main_call1_v2) (TRef.of (T := ⟨S336, .i32⟩) main_call1_v12) (TRef.of (T := ⟨S336, .i32⟩) main_call1_v13) subi,
    TRef.ternary (TRef.of (T := ⟨S336, .i1⟩) main_call1_v11) (TRef.of (T := ⟨S336, .i32⟩) main_call1_v13) (TRef.of (T := ⟨S336, .i32⟩) main_call1_v2) (TRef.of (T := ⟨S336, .i32⟩) main_v9) select,
    reshape main_arg6 main_v10 (rfl : (.f32 : EltTy) = .f32) shapeCasts_S1x42x8_S336,
    reshape main_v0_0 main_v11 (rfl : (.f32 : EltTy) = .f32) shapeCasts_S4096x200_S819200,
    reshape main_v0_1 main_v12 (rfl : (.f32 : EltTy) = .f32) shapeCasts_S4096x50_S204800 ]

/-- After the call: the two results in rows of a user. -/
abbrev opsB : List (HloOp τ sig (Elt F)) :=
  [ reshape main_v13_0 main_v14 (rfl : (.f32 : EltTy) = .f32) shapeCasts_S360448_S4096x88,
    reshape main_v13_1 main_v15 (rfl : (.f32 : EltTy) = .f32) shapeCasts_S1376256_S4096x336 ]

set_option maxRecDepth 8192 in
set_option maxHeartbeats 4000000 in
/-- The program: the pipeline, the operations, the call, the operations. -/
theorem main_eq (d : Dev nD) :
    main (F := F) d = (.op (.customCall (SparseCore.inner (Pipeline.entry 0)) ()) fun _ =>
      seq opsA >>= fun _ => sc.run d 0 >>= fun _ => seq opsB) := (rfl)

set_option maxRecDepth 8192 in
theorem opsA_sub : (opsA : List (HloOp τ sig (Elt F))).Forall fun op => op.bufs ⊆ tcRefs τ sig :=
  ⟨nullary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., reshape_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., reshape_bufs_sub .., reshape_bufs_sub .., reshape_bufs_sub ..⟩

theorem opsB_sub : (opsB : List (HloOp τ sig (Elt F))).Forall fun op => op.bufs ⊆ tcRefs τ sig :=
  ⟨reshape_bufs_sub .., reshape_bufs_sub ..⟩

/-! ## What the tables hold -/

/-- The logarithm of one more than the place. -/
def lutV : Vec F S256 .f32 := Host.log (addf (sitofp .f32 (iotaInDim S256 32 0)) (broadcastInDim S256 ![] bcast_S_S256 (constant S_ .f32 0x3F800000#32)))

/-- The quotient of two words rounded down: the truncated one, one less where the signs differ and it is not exact. -/
def down (x y : BitVec 32) : BitVec 32 :=
  let sg : BitVec 32 → BitVec 32 := fun z => if z = 0 then 0 else if z.msb then -1 else 1
  Idealize.ShloMosaic.select (s := S_)
    (fun _ => IntOp.andi (IntOp.cmpi .ne (sg x) (sg y)) (IntOp.cmpi .ne (IntOp.remsi .host x y) 0#32))
    (fun _ => IntOp.subi (IntOp.divsi .host x y) 1#32) (fun _ => IntOp.divsi .host x y) (fun a => a.elim0)

variable (W : Valuation τ sig (Elt F))

/-- The bin of each place of a user's row of the first result, and of the second. -/
def ids0 : Vec F S88 .i32 := fun j => BitVec.ofNat 32 ((j 0).val / 4)
def ids1 : Vec F S336 .i32 := fun j => BitVec.ofNat 32 ((j 0).val / 8)

set_option maxRecDepth 8192
set_option maxHeartbeats 4000000

theorem after_v4 : after opsA W main_v4 = lutV := by
  simp only [opsA, TRef.binary, TRef.nullary, TRef.unary, TRef.ternary, TRef.toBuf, TRef.ofBuf, cast_eq]; after_results_simp <;> rfl
theorem after_v6 : after opsA W main_v6 = (fun j => down (BitVec.ofNat 32 (j 0).val) 4#32 : Vec F S88 .i32) := by
  simp only [opsA, TRef.binary, TRef.nullary, TRef.unary, TRef.ternary, TRef.toBuf, TRef.ofBuf, cast_eq]; after_results_simp <;> rfl
theorem after_v9 : after opsA W main_v9 = (fun j => down (BitVec.ofNat 32 (j 0).val) 8#32 : Vec F S336 .i32) := by
  simp only [opsA, TRef.binary, TRef.nullary, TRef.unary, TRef.ternary, TRef.toBuf, TRef.ofBuf, cast_eq]; after_results_simp <;> rfl
theorem after_v7 : after opsA W main_v7 = (shapeCast S88 (W main_arg5 : Vec F S1x22x4 .f32) shapeCasts_S1x22x4_S88 : Vec F S88 .f32) := by
  simp only [opsA, TRef.binary, TRef.nullary, TRef.unary, TRef.ternary, TRef.toBuf, TRef.ofBuf, cast_eq]; after_results_simp <;> rfl
theorem after_v10 : after opsA W main_v10 = (shapeCast S336 (W main_arg6 : Vec F S1x42x8 .f32) shapeCasts_S1x42x8_S336 : Vec F S336 .f32) := by
  simp only [opsA, TRef.binary, TRef.nullary, TRef.unary, TRef.ternary, TRef.toBuf, TRef.ofBuf, cast_eq]; after_results_simp <;> rfl
theorem after_v11 : after opsA W main_v11 = (shapeCast S819200 (W main_v0_0 : Vec F S4096x200 .f32) shapeCasts_S4096x200_S819200 : Vec F S819200 .f32) := by
  simp only [opsA, TRef.binary, TRef.nullary, TRef.unary, TRef.ternary, TRef.toBuf, TRef.ofBuf, cast_eq]; after_results_simp <;> rfl
theorem after_v12 : after opsA W main_v12 = (shapeCast S204800 (W main_v0_1 : Vec F S4096x50 .f32) shapeCasts_S4096x50_S204800 : Vec F S204800 .f32) := by
  simp only [opsA, TRef.binary, TRef.nullary, TRef.unary, TRef.ternary, TRef.toBuf, TRef.ofBuf, cast_eq]; after_results_simp <;> rfl

end Cert.Proof.RunIdeal
-- ==== Proof.RunIdeal.HostVals.lean ====
/-
  What the program's arrays hold, from the launch to the end.
-/
module

public import proofs.«01_k».proof.Proof.RunIdeal.Tasks
public import proofs.«01_k».proof.Proof.RunIdeal.CosReg
public import proofs.«01_k».proof.Proof.RunIdeal.HostOps

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.StableHlo

/-! ## The bins -/

theorem down4 : ∀ n : Fin 88, down (BitVec.ofNat 32 n.val) 4#32 = BitVec.ofNat 32 (n.val / 4) := by decide
theorem down8 : ∀ n : Fin 336, down (BitVec.ofNat 32 n.val) 8#32 = BitVec.ofNat 32 (n.val / 8) := by decide

theorem down_ids0 : (fun j => down (BitVec.ofNat 32 (j 0).val) 4#32 : Vec F S88 .i32) = (ids0 : Vec F S88 .i32) := funext fun j => down4 (j 0)
theorem down_ids1 : (fun j => down (BitVec.ofNat 32 (j 0).val) 8#32 : Vec F S336 .i32) = (ids1 : Vec F S336 .i32) := funext fun j => down8 (j 0)

/-! ## What the arrays hold, from the launch to the end -/

section Vals

variable (m : (ℓ : Loc nD τ sig) → Buf (Elt F) ℓ) (d : Dev nD)

/-- At launch, as the pipeline reads it. -/
abbrev V₀ : Mem F := fun c b => m ((c : Thread nD τ).loc b)

/-- What the SparseCores are given: the tables, and the similarities in a row. -/
def given₀ : Ins F where
  T := ⟨lutV, ids0, shapeCast S88 (m ((d : Thread nD τ).loc main_arg5) : Vec F S1x22x4 .f32) shapeCasts_S1x22x4_S88,
    ids1, shapeCast S336 (m ((d : Thread nD τ).loc main_arg6) : Vec F S1x42x8 .f32) shapeCasts_S1x42x8_S336⟩
  C0 := shapeCast S819200 (cosA0 (V₀ m) d : Vec F S4096x200 .f32) shapeCasts_S4096x200_S819200
  C1 := shapeCast S204800 (cosA1 (V₀ m) d : Vec F S4096x50 .f32) shapeCasts_S4096x50_S204800

theorem named₀ : Named (given₀ m d).T := by
  refine ⟨fun j => ?_, fun j => ?_⟩
  · have h := (j 0).isLt
    show (BitVec.ofNat 32 ((j 0).val / 4)).toNat < 22
    have h : (j 0).val < 88 := h
    rw [BitVec.toNat_ofNat, Nat.mod_eq_of_lt] <;> omega
  · have h := (j 0).isLt
    show (BitVec.ofNat 32 ((j 0).val / 8)).toNat < 42
    have h : (j 0).val < 336 := h
    rw [BitVec.toNat_ofNat, Nat.mod_eq_of_lt] <;> omega

/-- At launch, -/
def W₀ : Valuation τ sig (Elt F) := fun b => m (d, b)
/-- after the pipeline, -/
def W₁ : Valuation τ sig (Elt F) :=
  Function.update (Function.update (W₀ m d) (main_v0_0 : DevRef τ sig) (cosA0 (V₀ m) d)) (main_v0_1 : DevRef τ sig) (cosA1 (V₀ m) d)
/-- after the operations before the call, -/
def W₂ : Valuation τ sig (Elt F) := StableHlo.after opsA (W₁ m d)
/-- after the call, -/
def W₃ : Valuation τ sig (Elt F) :=
  Function.update (Function.update (W₂ m d) (main_v13_0 : DevRef τ sig) (out0 (given₀ m d))) (main_v13_1 : DevRef τ sig) (out1 (given₀ m d))
/-- and at the end. -/
def W₄ : Valuation τ sig (Elt F) := StableHlo.after opsB (W₃ m d)

theorem devRef_ne {b b' : Ref sig .tc} (h : b ≠ b') : (b : DevRef τ sig) ≠ (b' : DevRef τ sig) := fun e => h (Proc.devRef_injective .tc e)

theorem W₁_0 : W₁ m d main_v0_0 = cosA0 (V₀ m) d := by
  unfold W₁; rw [Function.update_of_ne (devRef_ne (by decide)), Function.update_self]
theorem W₁_1 : W₁ m d main_v0_1 = cosA1 (V₀ m) d := by
  unfold W₁; rw [Function.update_self]
theorem W₁_ne (b : Ref sig .tc) (h0 : b ≠ main_v0_0) (h1 : b ≠ main_v0_1) : W₁ m d b = m ((d : Thread nD τ).loc b) := by
  unfold W₁; rw [Function.update_of_ne (devRef_ne h1), Function.update_of_ne (devRef_ne h0)]; rfl

theorem W₁_eq (b : Ref sig .tc) : V₁ (V₀ m) d b = W₁ m d b := by
  by_cases h0 : b = main_v0_0
  · subst h0; exact (W₁_0 m d).symm
  by_cases h1 : b = main_v0_1
  · subst h1; exact (W₁_1 m d).symm
  rw [V₁_ne _ _ _ h0 h1, W₁_ne m d b h0 h1]

theorem W₂_v4 : W₂ m d main_v4 = (given₀ m d).T.l := after_v4 _
theorem W₂_v6 : W₂ m d main_v6 = (given₀ m d).T.b0 := (after_v6 _).trans (down_ids0 (F := F))
theorem W₂_v9 : W₂ m d main_v9 = (given₀ m d).T.b1 := (after_v9 _).trans (down_ids1 (F := F))
theorem W₂_v7 : W₂ m d main_v7 = (given₀ m d).T.e0 := by
  refine (after_v7 _).trans ?_; rw [W₁_ne m d main_arg5 (by decide) (by decide)]; rfl
theorem W₂_v10 : W₂ m d main_v10 = (given₀ m d).T.e1 := by
  refine (after_v10 _).trans ?_; rw [W₁_ne m d main_arg6 (by decide) (by decide)]; rfl
theorem W₂_v11 : W₂ m d main_v11 = (given₀ m d).C0 := by
  refine (after_v11 _).trans ?_; rw [W₁_0]; rfl
theorem W₂_v12 : W₂ m d main_v12 = (given₀ m d).C1 := by
  refine (after_v12 _).trans ?_; rw [W₁_1]; rfl

theorem W₃_0 : W₃ m d main_v13_0 = out0 (given₀ m d) := by
  unfold W₃; rw [Function.update_of_ne (devRef_ne (by decide)), Function.update_self]
theorem W₃_1 : W₃ m d main_v13_1 = out1 (given₀ m d) := by
  unfold W₃; rw [Function.update_self]
theorem W₃_ne (b : Ref sig .tc) (h0 : b ≠ main_v13_0) (h1 : b ≠ main_v13_1) : W₃ m d b = W₂ m d b := by
  unfold W₃; rw [Function.update_of_ne (devRef_ne h1), Function.update_of_ne (devRef_ne h0)]

set_option maxRecDepth 8192
set_option maxHeartbeats 4000000

/-- What the operations before the call do not write they leave. -/
theorem W₂_kept (b : Ref sig .tc) (h : b ∈ [main_arg0, main_arg1, main_arg2, main_arg3, main_arg4, main_arg5, main_arg6, main_v0_0, main_v0_1]) :
    W₂ m d b = W₁ m d b := by
  unfold W₂
  have key : ∀ W : Valuation τ sig (Elt F), StableHlo.after opsA W b = W b := by
    intro W
    fin_cases h <;>
    · simp only [opsA, TRef.binary, TRef.nullary, TRef.unary, TRef.ternary, TRef.toBuf, TRef.ofBuf, cast_eq]; after_results_simp <;> rfl
  exact key _

theorem W₄_kept (b : Ref sig .tc) (h : b ∈ [main_arg0, main_arg1, main_arg2, main_arg3, main_arg4, main_arg5, main_arg6, main_v0_0, main_v0_1]) :
    W₄ m d b = W₁ m d b := by
  unfold W₄
  have key : ∀ W : Valuation τ sig (Elt F), StableHlo.after opsB W b = W b := by
    intro W
    fin_cases h <;>
    · simp only [opsB]; after_results_simp <;> rfl
  rw [key, ← W₂_kept m d b h]
  refine W₃_ne m d b ?_ ?_ <;>
  · rintro rfl; revert h; decide

/-- The arguments at the end. -/
theorem W₄_arg (b : Ref sig .tc) (h : b ∈ [main_arg0, main_arg1, main_arg2, main_arg3, main_arg4, main_arg5, main_arg6]) :
    W₄ m d b = m ((d : Thread nD τ).loc b) := by
  rw [W₄_kept m d b (by fin_cases h <;> decide)]
  refine W₁_ne m d b ?_ ?_ <;>
  · rintro rfl; revert h; decide

/-- The four results at the end. -/
theorem W₄_0 : W₄ m d main_v0_0 = cosA0 (V₀ m) d := (W₄_kept m d _ (by decide)).trans (W₁_0 m d)
theorem W₄_1 : W₄ m d main_v0_1 = cosA1 (V₀ m) d := (W₄_kept m d _ (by decide)).trans (W₁_1 m d)
theorem W₄_14 : W₄ m d main_v14 = (shapeCast S4096x88 (out0 (given₀ m d)) shapeCasts_S360448_S4096x88 : Vec F S4096x88 .f32) := by
  unfold W₄
  have key : ∀ W : Valuation τ sig (Elt F), StableHlo.after opsB W main_v14 = (shapeCast S4096x88 (W main_v13_0 : Vec F S360448 .f32) shapeCasts_S360448_S4096x88 : Vec F S4096x88 .f32) := by
    intro W; simp only [opsB]; after_results_simp <;> rfl
  rw [key, W₃_0]
theorem W₄_15 : W₄ m d main_v15 = (shapeCast S4096x336 (out1 (given₀ m d)) shapeCasts_S1376256_S4096x336 : Vec F S4096x336 .f32) := by
  unfold W₄
  have key : ∀ W : Valuation τ sig (Elt F), StableHlo.after opsB W main_v15 = (shapeCast S4096x336 (W main_v13_1 : Vec F S1376256 .f32) shapeCasts_S1376256_S4096x336 : Vec F S4096x336 .f32) := by
    intro W; simp only [opsB]; after_results_simp <;> rfl
  rw [key, W₃_1]

end Vals

end Cert.Proof.RunIdeal
-- ==== Proof.RunIdeal.Launch.lean ====
/-
  The program's run, from the launch to the end.
-/
module

public import proofs.«01_k».proof.Proof.RunIdeal.HostVals
public import Idealize.ShloMosaic.Lib.SparseCore.Quiescent

@[expose] public section

noncomputable section

namespace Cert.Proof.RunIdeal

open Cert.KernelIdeal Cert.KernelIdeal.Gen Cert.Proof.Lanes Cert.Proof.RowOps Cert.Proof.Hist Cert.Proof.Copy

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.Rounds
open Idealize.ShloMosaic.StableHlo (held held_sub_split held_congr tcRefs)

/-! ## The launch's ghost state -/

/-- The handshakes' part and the pipeline's. -/
abbrev EH : Emb UH 𝕄 := (Emb.inl : Emb UH (UH × UR)).trans embL
abbrev EP : Emb UR 𝕄 := (Emb.inr : Emb UR (UH × UR)).trans embL

instance EH_landsIn : (EH (F := F)).LandsIn (upEmb : UEmb _ 𝕄) := by unfold EH; infer_instance
instance EP_landsIn : (EP (F := F)).LandsIn (upEmb : UEmb _ 𝕄) := by unfold EP; infer_instance

abbrev cfgs₀ := Pipeline.pin (pcfgs (F := F)) adm

def u₀ : UU :=
  ((initOf (K (F := F)).hsCells (K (F := F)).hsToks, initOf (Pipeline.cells (nD := nD) (τ := τ) (cfgs₀ (F := F)) cellOf_inj) (Pipeline.launchToks (nD := nD) (τ := τ) (cfgs₀ (F := F)) cellOf_inj)), 1)

/-- What a core is given of the pipeline's. -/
def G (d : Dev nD) : sProp 𝕄 := iprop(Pipeline.cellsGhost (cfgs₀ (F := F)) EP 0 d ∗ Pipeline.toksInit (cfgs₀ (F := F)) EP 0 d)

variable (A : Dev nD → Ins F)

theorem emp_emp {I : Type} (s : Finset I) : (bigSep s fun _ => iprop(emp)) = (iprop(emp) : sProp 𝕄) := bigSep_emp_const s

theorem x_emp : (bigSep Finset.univ fun thr : Thread nD τ => bigSep Finset.univ fun q : Fin 1 => (P A).x q thr) = (iprop(emp) : sProp 𝕄) := by
  rw [show (fun thr : Thread nD τ => bigSep Finset.univ fun q : Fin 1 => (P A).x q thr) = fun _ => (iprop(emp) : sProp 𝕄) from
    funext fun thr => emp_emp _, emp_emp]

theorem of_one (Φ : Fin 1 → Dev nD → sProp 𝕄) : (bigSep Finset.univ fun d => bigSep Finset.univ fun p => Φ p d) = bigSep Finset.univ (Φ 0) :=
  bigSep_congr fun _ _ => bigSep_univ_of_subsingleton (0 : Fin 1)

theorem fund : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P A).x q thr) := by
  rw [x_emp]
  unfold u₀
  iintro Hu
  ihave H := (ownU_pair _ _) $$ Hu
  icases H with ⟨H, -⟩
  ihave H := (own_pair_emb _ _ _) $$ H
  icases H with ⟨HH, HP⟩
  imod (Pipeline.fund_ghost (cfgs₀ (F := F)) (EP (F := F)) cellOf_inj) $$ HP with ⟨Hg, Ht⟩
  imodintro
  isplitl [HH]; · iexact HH
  isplitr []
  · unfold G
    rw [bigSep_sep']
    ihave Hg := (Entails.of_eq (of_one _)) $$ Hg
    ihave Ht := (Entails.of_eq (of_one _)) $$ Ht
    isplitl [Hg]; · iexact Hg
    iexact Ht
  iempintro

/-! ## The arrays, whole -/

/-- The arrays of the program. -/
abbrev ucRefs : Finset (DevRef τ sig) := (tcRefs τ sig).filter fun b => ¬ b.isScoped

theorem unscopedBufs_held (c : Dev nD) (W : Valuation τ sig (Elt F)) :
    (unscopedBufs c (fun b => W b) : sProp 𝕄) = held (c : Thread nD τ) ucRefs W := by
  unfold unscopedBufs held ucRefs tcRefs
  rw [Finset.filter_map, bigSep_map]
  rfl

theorem mem_ucRefs (b : Ref sig .tc) (h : b.isScoped = false) : (b : DevRef τ sig) ∈ ucRefs :=
  Finset.mem_filter.mpr ⟨StableHlo.devRef_mem_tcRefs b, fun h' => Bool.false_ne_true (h.symm.trans h')⟩

theorem sub_ucRefs {ops : List (HloOp τ sig (Elt F))} (h : ops.Forall fun op => op.bufs ⊆ tcRefs τ sig) : ∀ op ∈ ops, op.bufs ⊆ ucRefs :=
  fun op hop b hb => Finset.mem_filter.mpr ⟨(List.forall_iff_forall_mem.mp h) op hop hb, fun h' => Bool.false_ne_true ((op.no_scoped b hb).symm.trans h')⟩

/-- The arrays the call reads and writes. -/
abbrev callRefs : Finset (DevRef τ sig) :=
  {(main_v11 : DevRef τ sig), (main_v12 : DevRef τ sig), (main_v13_0 : DevRef τ sig), (main_v13_1 : DevRef τ sig), (main_v4 : DevRef τ sig),
    (main_v6 : DevRef τ sig), (main_v7 : DevRef τ sig), (main_v9 : DevRef τ sig), (main_v10 : DevRef τ sig)}

theorem callRefs_sub : callRefs ⊆ ucRefs := by
  intro b hb
  simp only [callRefs, Finset.mem_insert, Finset.mem_singleton] at hb
  rcases hb with rfl | rfl | rfl | rfl | rfl | rfl | rfl | rfl | rfl <;> exact mem_ucRefs _ rfl

theorem held_call (d : Dev nD) (W : Valuation τ sig (Elt F)) :
    (held (d : Thread nD τ) callRefs W : sProp 𝕄)
      = iprop((l2 d ↦{fullShare} W main_v11) ∗ (l3 d ↦{fullShare} W main_v12) ∗ (l9 d ↦{fullShare} W main_v13_0) ∗ (l10 d ↦{fullShare} W main_v13_1)
        ∗ (l4 d ↦{fullShare} W main_v4) ∗ (l5 d ↦{fullShare} W main_v6) ∗ (l6 d ↦{fullShare} W main_v7) ∗ (l7 d ↦{fullShare} W main_v9) ∗ l8 d ↦{fullShare} W main_v10) := by
  unfold held callRefs
  have ne {b b' : Ref sig .tc} (h : b ≠ b') := devRef_ne h
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- All the arrays held after the operations before the call: what the call takes, the tables' arrays among it, and the rest. -/
theorem held_take (m : (ℓ : Loc nD τ sig) → Buf (Elt F) ℓ) (d : Dev nD) :
    (held (d : Thread nD τ) ucRefs (W₂ m d) : sProp 𝕄)
      ⊢ iprop((before d (given₀ m d) ∗ tabPts d fullShare (given₀ m d).T) ∗ held (d : Thread nD τ) (ucRefs \ callRefs) (W₂ m d)) := by
  rw [held_sub_split _ callRefs_sub, held_call, W₂_v11, W₂_v12, W₂_v4, W₂_v6, W₂_v7, W₂_v9, W₂_v10]
  unfold before tabPts
  iintro ⟨⟨H1, H2, H3, H4, H5⟩, Hr⟩
  isplitr [Hr]; swap; · iexact Hr
  isplitr [H5]; swap; · iexact H5
  isplitl [H1]; · iexact H1
  isplitl [H2]; · iexact H2
  isplitl [H3]; · iexists _; iexact H3
  iexists _; iexact H4

/-- And back. -/
theorem held_put (m : (ℓ : Loc nD τ sig) → Buf (Elt F) ℓ) (d : Dev nD) :
    iprop((after d (given₀ m d) ∗ tabPts d fullShare (given₀ m d).T) ∗ held (d : Thread nD τ) (ucRefs \ callRefs) (W₂ m d))
      ⊢ (held (d : Thread nD τ) ucRefs (W₃ m d) : sProp 𝕄) := by
  rw [held_sub_split _ callRefs_sub, held_call, W₃_0, W₃_1]
  rw [W₃_ne m d main_v11 (by decide) (by decide), W₃_ne m d main_v12 (by decide) (by decide), W₃_ne m d main_v4 (by decide) (by decide),
    W₃_ne m d main_v6 (by decide) (by decide), W₃_ne m d main_v7 (by decide) (by decide), W₃_ne m d main_v9 (by decide) (by decide),
    W₃_ne m d main_v10 (by decide) (by decide)]
  rw [W₂_v11, W₂_v12, W₂_v4, W₂_v6, W₂_v7, W₂_v9, W₂_v10]
  rw [held_congr (S := ucRefs \ callRefs) (V := W₃ m d) (V' := W₂ m d) _ fun b hb => by
    have hb := (Finset.mem_sdiff.mp hb).2
    unfold W₃
    rw [Function.update_of_ne (fun e => hb (by rw [e]; decide)), Function.update_of_ne (fun e => hb (by rw [e]; decide))]]
  unfold after tabPts
  iintro ⟨⟨⟨H1, H2, H3, H4⟩, H5⟩, Hr⟩
  isplitr [Hr]; swap; · iexact Hr
  isplitl [H1]; · iexact H1
  isplitl [H2]; · iexact H2
  isplitl [H3]; · iexact H3
  isplitl [H4]; · iexact H4
  iexact H5

/-! ## @main -/

variable (m : (ℓ : Loc nD τ sig) → Buf (Elt F) ℓ) (ρ : Dev nD → PrngReg)

theorem st0_eq (d : Dev nD) : (bigSep Finset.univ fun c : Fin ((K (F := F)).nCore 0) => (P (given₀ m)).st 0 d c) = (bigSep Finset.univ (coreIn d (given₀ m d)) : sProp 𝕄) := rfl
theorem dn0_eq (d : Dev nD) : (bigSep Finset.univ fun c : Fin ((K (F := F)).nCore 0) => (P (given₀ m)).dn 0 d c) = (bigSep Finset.univ (coreOut d (given₀ m d)) : sProp 𝕄) := rfl

/-- What a core holds at the end. -/
abbrev FIN (d : Dev nD) : sProp 𝕄 := held (d : Thread nD τ) ucRefs (W₄ m d)

theorem wand_then {X Q Q' R : sProp 𝕄} (h : Q ⊢ Q') : iprop((X -∗ Q) ∗ R) ⊢ iprop((X -∗ Q') ∗ R) := by
  iintro ⟨Hk, HR⟩
  isplitl [Hk]
  · iintro HX; iapply h; iapply Hk; iexact HX
  iexact HR

set_option backward.isDefEq.respectTransparency.types false in
/-- The pipeline, from @main. -/
theorem region_call [∀ e, Nonempty (Elt F e)] (d : Dev nD) {Q : PUnit → sProp 𝕄} :
    iprop((iprop(boundary (d : Thread nD τ) ∗ (reg (V₀ m) 0).post d) -∗ Q ⟨⟩)
        ∗ boundary (d : Thread nD τ) ∗ (reg (V₀ m) 0).pre d ∗ levAts (K (F := F)).L (K (F := F)).lev ∗ G (F := F) d)
      ⊢ wp frame (wpE ((K (F := F)).defs (D (F := F))) 𝒱 (d : Thread nD τ) none) Set.univ
          (SparseCore.liftProg (.op (.customCall (Pipeline.entry 0) ()) fun _ => .ret ⟨⟩ : Prog (TpuEff nD τ sig (Elt F) (ΛP (F := F)) .tc) PUnit)) Q := by
  have h := Pipeline.RegionSeg.wp (pcfgs (F := F)) adm (pdats (V₀ m) 0) none cellOf_inj (EP (F := F)) defs₀ 𝒱₀ (K (F := F)).L (K (F := F)).lev
    (reg (V₀ m) 0) d none (fun u hu => nomatch hu) (fun _ => .ret ⟨⟩) Q
  refine BI.Entails.trans ?_ ((K (F := F)).wp_liftProg (D (F := F)) 𝒱 (d : Thread nD τ) Set.univ none _ Q)
  refine BI.Entails.trans ?_ h
  unfold G
  refine wand_then ?_
  rw [wp_ret]
  exact fupd_intro

theorem reg_pre (d : Dev nD) : (reg (V₀ m) 0).pre d
    = (iprop(unscopedBufs d (V₀ m d) ∗ ∃ W, ⌜(K (F := F)).WBelow (T d) W 0⌝ ∗ owes (T d) ((K (F := F)).Otc d 0) W) : sProp 𝕄) := rfl
theorem reg_post (d : Dev nD) : (reg (V₀ m) 0).post d
    = (iprop(unscopedBufs d (V₁ (V₀ m) d) ∗ ∃ W, ⌜(K (F := F)).WBelow (T d) W 0⌝ ∗ owes (T d) ((K (F := F)).Otc d 0) W) : sProp 𝕄) := rfl

/-- The program, its pipeline first. -/
theorem main_eq' (d : Dev nD) :
    main (F := F) d = SparseCore.liftProg (.op (.customCall (Pipeline.entry 0) ()) fun _ => .ret ⟨⟩ : Prog (TpuEff nD τ sig (Elt F) (ΛP (F := F)) .tc) PUnit) >>= fun _ =>
      StableHlo.seq opsA >>= fun _ => sc.run d 0 >>= fun _ => StableHlo.seq opsB >>= fun _ => pure ⟨⟩ := by
  rw [main_eq, show (fun _ : PUnit => StableHlo.seq opsB >>= fun _ => pure ⟨⟩) = fun _ : PUnit => (StableHlo.seq opsB : Prog (TpuEff nD τ sig (Elt F) (SparseCore.Sig (ΛP (F := F)) 1) .tc) PUnit) from
    funext fun _ => bind_pure _]
  rfl

theorem freshA : ∀ op ∈ (opsA : List (HloOp τ sig (Elt F))), op.fresh = ∅ := by
  intro _ h; (repeat (cases h with | head => rfl | tail _ h => ?_)); exact nomatch h
theorem freshB : ∀ op ∈ (opsB : List (HloOp τ sig (Elt F))), op.fresh = ∅ := by
  intro _ h; (repeat (cases h with | head => rfl | tail _ h => ?_)); exact nomatch h

/-- The arrays at launch, -/
theorem unscoped_launch (d : Dev nD) : (unscopedBufs d (fun b => m ((SparseCore.T d).loc b)) : sProp 𝕄) = unscopedBufs d (V₀ m d) := rfl
/-- and after the pipeline. -/
theorem unscoped_pipe (d : Dev nD) : (unscopedBufs d (V₁ (V₀ m) d) : sProp 𝕄) = held (d : Thread nD τ) ucRefs (W₁ m d) := by
  rw [← unscopedBufs_held]
  exact congrArg _ (funext fun b => W₁_eq m d b)

theorem held_W₂ (d : Dev nD) : (held (d : Thread nD τ) ucRefs (StableHlo.after opsA (W₁ m d)) : sProp 𝕄) = held (d : Thread nD τ) ucRefs (W₂ m d) := rfl
theorem held_W₄ (d : Dev nD) : (held (d : Thread nD τ) ucRefs (StableHlo.after opsB (W₃ m d)) : sProp 𝕄) = FIN m d := rfl

set_option backward.isDefEq.respectTransparency.types false in
set_option maxHeartbeats 1600000 in
/-- @main on a TensorCore: the pipeline, the tables, the call, and the results in rows of a user. -/
theorem hmain [∀ e, Nonempty (Elt F e)] (κ : GSem nD τ sig → ℕ) (d : Dev nD) :
    iprop((K (F := F)).ctx EH (P (given₀ m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq', wp_bind, unscoped_launch]
  conv_lhs => unfold SparseCore.Cfg.tcSt
  iintro ⟨#Hctx, ⟨HO, Hat, Hre, Hsr, Htk⟩, ⟨Hb, Hu, Hts, -⟩, HG⟩
  ihave #Hlev := (SparseCore.Cfg.ctx_levAts κ) $$ Hctx
  iapply (region_call m d)
  isplitr [Hb HO Hu HG]; swap
  · isplitl [Hb]; · iexact Hb
    isplitl [HO Hu]
    · rw [reg_pre]; isplitl [Hu]; · iexact Hu
      iexact HO
    isplitr; · iexact Hlev
    iexact HG
  rw [reg_post]
  iintro ⟨Hb, Hu, HO⟩
  ihave Hu := (Entails.of_eq (unscoped_pipe m d)) $$ Hu
  iapply (StableHlo.wp_seq 𝒱 none Set.univ d ucRefs _ opsA (sub_ucRefs opsA_sub) freshA (W₁ m d)) $$ [Hb Hu]
  · isplitl [Hb]; · iexact Hb
    iexact Hu
  iintro ⟨Hb, Hu⟩
  ihave Hu := (Entails.of_eq (held_W₂ m d)) $$ Hu
  ihave Hu := (held_take m d) $$ Hu
  icases Hu with ⟨Hc, Hrest⟩
  rw [wp_bind]
  iapply ((K (F := F)).wp_run (D (F := F)) 𝒱 (EH := EH) (P := P (given₀ m)) κ d 0) $$ [HO Hat Hre Hsr Htk Hc Hb Hrest Hts]
  isplitr; · iexact Hctx
  isplitl [HO Hat Hre Hsr Htk]
  · unfold SparseCore.Cfg.tcSt
    isplitl [HO]; · iexact HO
    isplitl [Hat]; · iexact Hat
    isplitl [Hre]; · iexact Hre
    isplitl [Hsr]; · iexact Hsr
    iexact Htk
  isplitl [Hc]
  · rw [st0_eq]; iapply (cores_in d (given₀ m d)); iexact Hc
  iintro ⟨Hst, Hdn⟩
  ihave Hdn := (Entails.of_eq (dn0_eq m d)) $$ Hdn
  ihave Hdn := (cores_out d (given₀ m d)) $$ Hdn
  ihave Hu := (held_put m d) $$ [Hdn Hrest]
  · isplitl [Hdn] <;> iassumption
  iapply (StableHlo.wp_seq 𝒱 none Set.univ d ucRefs _ opsB (sub_ucRefs opsB_sub) freshB (W₃ m d)) $$ [Hb Hu]
  · isplitl [Hb]; · iexact Hb
    iexact Hu
  iintro ⟨Hb, Hu⟩
  ihave Hu := (Entails.of_eq (held_W₄ m d)) $$ Hu
  rw [wp_pure]; imodintro
  isplitl [Hst]; · iexact Hst
  isplitl [Hu]; · iexact Hu
  isplitl [Hb] <;> iassumption

/-! ## The run -/

/-- What each array holds at the end. -/
def fq (d : Dev nD) (s' : Phys nD τ sig (Elt F)) : Prop := ∀ b ∈ ucRefs, s'.mem.mem (d, b) = W₄ m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) ucRefs) $$ [HSI H]
  · isplitl [HSI]; · iexact HSI
    iexact H
  ipureintro
  exact fun b hb => h b hb

/-- The end: the arguments as at launch, the two similarities, the two results in rows of a user, the counters at zero. -/
def Ends (r : PUnit × MemSt nD τ sig (Elt F)) : Prop :=
  (∀ (c : Dev nD) (b : Ref sig .tc), b.isScoped = false → r.2.mem ((c : Thread nD τ).loc b) = W₄ m c b) ∧ r.2.sem = fun _ => 0

theorem run_main [∀ e, Nonempty (Elt F e)] : θ_run (defs (F := F)) (threads (F := F)) ⟨m, fun _ => 0, ρ⟩ (Ends m) :=
  SparseCore.Cfg.θ_run_sc_quiescent (K := K (F := F)) (D := D (F := F)) (𝒱 := 𝒱) (EH := EH) (P := P (given₀ m)) (A := ∅) facts v₀
    (fun q hq => match q with | 0 => nomatch hq)
    (fun q _ => match q with | 0 => tileObl (given₀ m) (named₀ m))
    (fun q _ => match q with | 0 => SparseCore.Cfg.VecSplit.of_plain (vecSplit (given₀ m)))
    m ρ main (G (F := F)) (FIN m) (u₀ (F := F)) (sep_elim_left.trans (fund (given₀ m))) (hmain m ρ) (fq m) (hfin m) (Ends m)
    (fun _ h hz => ⟨fun c b hb => h c b (mem_ucRefs b hb), hz⟩)

/-- The arguments are as they were. -/
theorem Ends.arg {r : PUnit × MemSt nD τ sig (Elt F)} (h : Ends m r) (c : Dev nD) (b : Ref sig .tc) (hs : b.isScoped = false)
    (hb : b ∈ [main_arg0, main_arg1, main_arg2, main_arg3, main_arg4, main_arg5, main_arg6]) :
    r.2.mem ((c : Thread nD τ).loc b) = m ((c : Thread nD τ).loc b) := (h.1 c b hs).trans (W₄_arg m c b hb)

end Cert.Proof.RunIdeal
-- ==== Proof.Frames.lean ====
/-
  Each program ends from every memory, with its arguments as they were and every semaphore at zero.
-/
module

public import proofs.«01_k».proof.Proof.Gen.ReferenceIdeal.Run
public import proofs.«01_k».proof.Proof.Run.Launch
public import proofs.«01_k».proof.Proof.RunIdeal.Launch

@[expose] public section

noncomputable section

namespace Cert.Proof.Frames

open Idealize.ShloMosaic Idealize.SL.Sem

/-- What a run of the kernel over the float bit patterns leaves in its arguments and its semaphores. -/
theorem kernel (m : (ℓ : Loc Cert.Kernel.nD Cert.Kernel.τ Cert.Kernel.sig) → Buf (Elt Bits) ℓ)
    (g : Dev Cert.Kernel.nD → PrngReg) :
    θ_run (Cert.Kernel.defs (F := Bits)) (Cert.Kernel.threads (F := Bits)) ⟨m, fun _ => 0, g⟩ fun r =>
      (∀ c : Dev Cert.Kernel.nD, ∀ b ∈ [Cert.Kernel.main_arg0, Cert.Kernel.main_arg1, Cert.Kernel.main_arg2,
        Cert.Kernel.main_arg3, Cert.Kernel.main_arg4, Cert.Kernel.main_arg5, Cert.Kernel.main_arg6],
        b.isScoped = false → r.2.mem ((c.tc : Thread Cert.Kernel.nD Cert.Kernel.τ).loc b) =
          m ((c.tc : Thread Cert.Kernel.nD Cert.Kernel.τ).loc b)) ∧ r.2.sem = fun _ => 0 :=
  (θ_run _ _ _).mono (fun _ h => ⟨fun c b hb hs => h.arg m c b hs hb, h.2⟩) (Run.run_main (F := Bits) m g)

/-- What a run of the kernel over the extended reals leaves in its arguments and its semaphores. -/
theorem kernelIdeal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (Cert.KernelIdeal.threads (F := Ideal)) ⟨m, fun _ => 0, g⟩ fun r =>
      (∀ c : Dev Cert.KernelIdeal.nD, ∀ b ∈ [Cert.KernelIdeal.main_arg0, Cert.KernelIdeal.main_arg1,
        Cert.KernelIdeal.main_arg2, Cert.KernelIdeal.main_arg3, Cert.KernelIdeal.main_arg4, Cert.KernelIdeal.main_arg5,
        Cert.KernelIdeal.main_arg6],
        b.isScoped = false → r.2.mem ((c.tc : Thread Cert.KernelIdeal.nD Cert.KernelIdeal.τ).loc b) =
          m ((c.tc : Thread Cert.KernelIdeal.nD Cert.KernelIdeal.τ).loc b)) ∧ r.2.sem = fun _ => 0 :=
  (θ_run _ _ _).mono (fun _ h => ⟨fun c b hb hs => h.arg m c b hs hb, h.2⟩) (RunIdeal.run_main (F := Ideal) m g)

end Cert.Proof.Frames

end
-- ==== Proof.Value.Unit.lean ====
/-
  Cosines over the extended reals: a vector over its norm plus a small positive number is a real vector of norm at most
  one, an infinite coordinate making the norm infinite and the vector zero; so the product of two such vectors lies in
  [-1, 1], and dividing the product of one with the other's own coordinates afterwards gives the same number.
-/
module

public import Idealize.ShloMosaic.Lib.IdealHost
public import Mathlib.Analysis.SpecialFunctions.Pow.NNReal
public import Mathlib.Algebra.Order.BigOperators.Ring.Finset

@[expose] public section

noncomputable section

namespace Cert.Proof.Value

open Idealize.ShloMosaic
open scoped BigOperators

variable {K : Type} [Fintype K]

/-- The small number added to a norm. -/
def tiny : EReal := Ideal.ofBits .f32 0x2B8CBCCC#32

/-- It is a positive real. -/
theorem tiny_eq : ∃ ε : ℝ, 0 < ε ∧ tiny = ((ε : ℝ) : EReal) := by
  refine ⟨(9223372 : ℝ) / 9223372036854775808, by positivity, ?_⟩
  unfold tiny
  simp [Ideal.ofBits, Ideal.ieee, -EReal.coe_mul]
  norm_num

/-- A vector's norm plus the small number. -/
def len (u : K → EReal) : EReal := Ideal.sqrt (∑ k, u k * u k) + tiny

/-- A vector over its norm. -/
def unit (u : K → EReal) (k : K) : EReal := Ideal.div (u k) (len u)

/-- A sum of reals, read among the extended reals. -/
theorem coe_sum (S : Finset K) (f : K → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- A quotient by the infinite is zero. -/
theorem div_top (x : EReal) : Ideal.div x ⊤ = 0 := by
  unfold Ideal.div
  rw [if_neg (by simp), EReal.inv_top, mul_zero]

/-- A quotient of reals by one that is not zero. -/
theorem div_coe {x y : ℝ} (hy : y ≠ 0) : Ideal.div (x : EReal) (y : EReal) = ((x / y : ℝ) : EReal) := by
  unfold Ideal.div
  rw [if_neg (by simpa using hy), ← EReal.coe_inv, ← EReal.coe_mul, div_eq_mul_inv]

/-- The square of an infinite number is infinite. -/
theorem sq_top {x : EReal} (h : x = ⊤ ∨ x = ⊥) : x * x = ⊤ := by
  rcases h with rfl | rfl
  · exact EReal.top_mul_top
  · exact EReal.bot_mul_bot

/-- No square is negative. -/
theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- A vector with an infinite coordinate has an infinite norm. -/
theorem len_top {u : K → EReal} (h : ∃ k, u k = ⊤ ∨ u k = ⊥) : len u = ⊤ := by
  obtain ⟨k, hk⟩ := h
  obtain ⟨ε, -, he⟩ := tiny_eq
  have hs : ∑ k, u k * u k = ⊤ := by
    have := Finset.single_le_sum (f := fun k => u k * u k) (fun i _ => sq_nonneg' (u i)) (Finset.mem_univ k)
    rw [sq_top hk] at this
    exact top_le_iff.mp this
  unfold len
  rw [hs, Ideal.sqrt_top, he]
  rfl

/-- A vector of reals has its norm plus the small number. -/
theorem len_coe (f : K → ℝ) : ∃ r : ℝ, 0 < r ∧ len (fun k => (f k : EReal)) = (r : EReal) ∧ ∑ k, f k * f k ≤ r * r := by
  obtain ⟨ε, hε, he⟩ := tiny_eq
  have h0 : 0 ≤ ∑ k, f k * f k := Finset.sum_nonneg fun k _ => mul_self_nonneg _
  have hq := Real.sqrt_nonneg (∑ k, f k * f k)
  refine ⟨Real.sqrt (∑ k, f k * f k) + ε, by linarith, ?_, ?_⟩
  · unfold len
    rw [he, show ∑ k, (f k : EReal) * (f k : EReal) = ((∑ k, f k * f k : ℝ) : EReal) by
      rw [coe_sum]; exact Finset.sum_congr rfl fun k _ => (EReal.coe_mul _ _).symm, Ideal.sqrt_coe, if_neg (not_lt.mpr h0),
      EReal.coe_add]
  · have := Real.mul_self_sqrt h0
    nlinarith

/-- Either some coordinate is infinite or all are real. -/
theorem finite_or (u : K → EReal) : (∃ k, u k = ⊤ ∨ u k = ⊥) ∨ ∃ f : K → ℝ, u = fun k => (f k : EReal) := by
  by_cases h : ∃ k, u k = ⊤ ∨ u k = ⊥
  · exact .inl h
  · push Not at h
    exact .inr ⟨fun k => (u k).toReal, funext fun k => (EReal.coe_toReal (h k).1 (h k).2).symm⟩

/-- A vector over its norm is real, of norm at most one. -/
theorem unit_coe (u : K → EReal) : ∃ f : K → ℝ, (∀ k, unit u k = (f k : EReal)) ∧ ∑ k, f k * f k ≤ 1 := by
  rcases finite_or u with h | ⟨f, rfl⟩
  · exact ⟨fun _ => 0, fun k => by unfold unit; rw [len_top h, div_top]; rfl, by simp⟩
  · obtain ⟨r, hr, hl, hs⟩ := len_coe f
    refine ⟨fun k => f k / r, fun k => by unfold unit; rw [hl, div_coe hr.ne'], ?_⟩
    have : ∑ k, f k / r * (f k / r) = (∑ k, f k * f k) / (r * r) := by
      rw [Finset.sum_div]; exact Finset.sum_congr rfl fun k _ => by rw [div_mul_div_comm]
    rw [this, div_le_one (by positivity)]
    exact hs

/-- The cosine of two vectors: the product of each over its norm. -/
def cosine (u v : K → EReal) : EReal := ∑ k, unit u k * unit v k

/-- A cosine is a real of at most one in absolute value. -/
theorem cosine_coe (u v : K → EReal) : ∃ c : ℝ, cosine u v = (c : EReal) ∧ |c| ≤ 1 := by
  obtain ⟨f, hf, hf1⟩ := unit_coe u
  obtain ⟨g, hg, hg1⟩ := unit_coe v
  refine ⟨∑ k, f k * g k, ?_, ?_⟩
  · unfold cosine
    rw [coe_sum]
    exact Finset.sum_congr rfl fun k _ => by rw [hf, hg, EReal.coe_mul]
  · have hc := Finset.sum_mul_sq_le_sq_mul_sq Finset.univ f g
    have hf0 : 0 ≤ ∑ k, f k ^ 2 := Finset.sum_nonneg fun k _ => by positivity
    have hg0 : 0 ≤ ∑ k, g k ^ 2 := Finset.sum_nonneg fun k _ => by positivity
    have e1 : ∑ k, f k ^ 2 ≤ 1 := by simpa [pow_two] using hf1
    have e2 : ∑ k, g k ^ 2 ≤ 1 := by simpa [pow_two] using hg1
    have : (∑ k, f k * g k) ^ 2 ≤ 1 := by nlinarith
    exact (sq_le_one_iff_abs_le_one _).mp this

/-- Dividing by the second norm after the sum gives the cosine too. -/
theorem div_sum_eq_cosine (u v : K → EReal) : Ideal.div (∑ k, unit u k * v k) (len v) = cosine u v := by
  obtain ⟨f, hf, -⟩ := unit_coe u
  unfold cosine
  rcases finite_or v with h | ⟨g, rfl⟩
  · rw [len_top h, div_top]
    refine (Finset.sum_eq_zero fun k _ => ?_).symm
    unfold unit; rw [len_top h, div_top, mul_zero]
  · obtain ⟨r, hr, hl, -⟩ := len_coe g
    have e1 : ∑ k, unit u k * (g k : EReal) = ((∑ k, f k * g k : ℝ) : EReal) := by
      rw [coe_sum]; exact Finset.sum_congr rfl fun k _ => by rw [hf, EReal.coe_mul]
    have e2 : ∀ k, unit u k * unit (fun k => (g k : EReal)) k = ((f k * (g k / r) : ℝ) : EReal) := fun k => by
      rw [hf, EReal.coe_mul]; unfold unit; rw [hl, div_coe hr.ne']
    rw [hl, e1, div_coe hr.ne', Finset.sum_congr rfl fun k _ => e2 k, ← coe_sum, Finset.sum_div]
    exact congrArg _ (Finset.sum_congr rfl fun k _ => mul_div_assoc _ _ _)

/-- A cosine times an indicator of at most one in absolute value is a real of at most one in absolute value. -/
theorem cosine_mul_coe (u v : K → EReal) {n : EReal} (hn : ∃ x : ℝ, n = (x : EReal) ∧ |x| ≤ 1) :
    ∃ c : ℝ, cosine u v * n = (c : EReal) ∧ |c| ≤ 1 := by
  obtain ⟨c, hc, h1⟩ := cosine_coe u v
  obtain ⟨x, rfl, hx⟩ := hn
  refine ⟨c * x, by rw [hc, EReal.coe_mul], ?_⟩
  rw [abs_mul]
  exact mul_le_one₀ h1 (abs_nonneg _) hx

end Cert.Proof.Value

end
-- ==== Proof.Value.Read.lean ====
/-
  Sums along the last axis of arrays of two and three axes, read at an index, as a kernel computes them and as the host
  does; and the kernel's block of cosines, read at an index.
-/
module

public import Idealize.ShloMosaic.Lib.Pipeline.Value
public import proofs.«01_k».proof.Proof.Value.Unit

@[expose] public section

noncomputable section

namespace Cert.Proof.Value

open Idealize.ShloMosaic
open Idealize.ShloMosaic.ValueIdx
open Idealize.ShloMosaic.Pipeline
open scoped BigOperators

variable {a b n : Nat}

/-- Row `i` of an array of two axes, and row `i, j` of one of three. -/
def row2 (x : (⟨2, ![a, n]⟩ : Shape).Idx → EReal) (i : Fin a) : Fin n → EReal := fun k => x (ix2 i k)
def row3 (x : (⟨3, ![a, b, n]⟩ : Shape).Idx → EReal) (i : Fin a) (j : Fin b) : Fin n → EReal := fun k => x (ix3 i j k)

/-- Arrays of two axes, or of three, that agree at every pair or triple of coordinates. -/
theorem ext2 {α : Type} {f g : (⟨2, ![a, b]⟩ : Shape).Idx → α} (h : ∀ i j, f (ix2 i j) = g (ix2 i j)) : f = g := by
  funext n
  have e : n = ix2 (n 0) (n 1) := by funext c; match c with | ⟨0, _⟩ => rfl | ⟨1, _⟩ => rfl
  rw [e]; exact h (n 0) (n 1)

theorem lift2 (h : (⟨2, ![a, n]⟩ : Shape).Reduces [1] ⟨1, ![a]⟩) (j : (⟨1, ![a]⟩ : Shape).Idx) (k : Fin n) : h.lift j k = ix2 (j 0) k := by
  funext c
  apply Fin.ext
  refine (h.lift_val j k c).trans ?_
  unfold Shape.Reduces.liftVal
  match c with
  | ⟨0, _⟩ => rfl
  | ⟨1, _⟩ => rfl

theorem lift3 (h : (⟨3, ![a, b, n]⟩ : Shape).Reduces [2] ⟨2, ![a, b]⟩) (j : (⟨2, ![a, b]⟩ : Shape).Idx) (k : Fin n) : h.lift j k = ix3 (j 0) (j 1) k := by
  funext c
  apply Fin.ext
  refine (h.lift_val j k c).trans ?_
  unfold Shape.Reduces.liftVal
  match c with
  | ⟨0, _⟩ => rfl
  | ⟨1, _⟩ => rfl
  | ⟨2, _⟩ => rfl

/-- A kernel's sum along the last axis. -/
theorem sum2 (x : FVec Ideal ⟨2, ![a, n]⟩ .f32) (acc : BitVec 32) (h : (⟨2, ![a, n]⟩ : Shape).Reduces [1] ⟨1, ![a]⟩)
    (hφ : FKind.Formats .f32) (hacc : acc = FKind.add.neutral .f32 hφ) (j : (⟨1, ![a]⟩ : Shape).Idx) :
    multiReduction .add [1] ⟨1, ![a]⟩ x acc h hφ hacc j = ∑ k, row2 x (j 0) k :=
  (Ideal.multiReduction_add_single x acc h hφ hacc j).trans (Finset.sum_congr rfl fun k _ => congrArg x (lift2 h j k))

theorem sum3 (x : FVec Ideal ⟨3, ![a, b, n]⟩ .f32) (acc : BitVec 32) (h : (⟨3, ![a, b, n]⟩ : Shape).Reduces [2] ⟨2, ![a, b]⟩)
    (hφ : FKind.Formats .f32) (hacc : acc = FKind.add.neutral .f32 hφ) (j : (⟨2, ![a, b]⟩ : Shape).Idx) :
    multiReduction .add [2] ⟨2, ![a, b]⟩ x acc h hφ hacc j = ∑ k, row3 x (j 0) (j 1) k :=
  (Ideal.multiReduction_add_single x acc h hφ hacc j).trans (Finset.sum_congr rfl fun k _ => congrArg x (lift3 h j k))

/-- The host's sum along the last axis, from a zero. -/
theorem hostSum2 {u : Shape} (x : FVec Ideal ⟨2, ![a, n]⟩ .f32) (init : FVec Ideal u .f32) (h : (⟨2, ![a, n]⟩ : Shape).ReducesTo [1] ⟨1, ![a]⟩)
    (h' : (⟨2, ![a, n]⟩ : Shape).Reduces [1] ⟨1, ![a]⟩) (hu : 0 < u.numel) (h0 : init (Shape.Idx.first hu) = (0 : EReal)) (j : (⟨1, ![a]⟩ : Shape).Idx) :
    Host.reduceAdd x init h hu j = ∑ k, row2 x (j 0) k := by
  rw [hostReduceAdd_apply, Ideal.hostReduceAdd_single h h', h0, zero_add]
  exact Finset.sum_congr rfl fun k _ => congrArg x (lift2 h' j k)

theorem hostSum3 {u : Shape} (x : FVec Ideal ⟨3, ![a, b, n]⟩ .f32) (init : FVec Ideal u .f32) (h : (⟨3, ![a, b, n]⟩ : Shape).ReducesTo [2] ⟨2, ![a, b]⟩)
    (h' : (⟨3, ![a, b, n]⟩ : Shape).Reduces [2] ⟨2, ![a, b]⟩) (hu : 0 < u.numel) (h0 : init (Shape.Idx.first hu) = (0 : EReal)) (j : (⟨2, ![a, b]⟩ : Shape).Idx) :
    Host.reduceAdd x init h hu j = ∑ k, row3 x (j 0) (j 1) k := by
  rw [hostReduceAdd_apply, Ideal.hostReduceAdd_single h h', h0, zero_add]
  exact Finset.sum_congr rfl fun k _ => congrArg x (lift3 h' j k)

/-- The kernel's item rows, each over its norm. -/
def itemBlock (x : FVec Ideal ⟨2, ![a, n]⟩ .f32) (h1 : (⟨2, ![a, n]⟩ : Shape).Reduces [1] ⟨1, ![a]⟩)
    (h2 : (⟨1, ![a]⟩ : Shape).ShapeCasts ⟨2, ![a, 1]⟩) (h3 : (⟨2, ![a, 1]⟩ : Shape).Broadcasts ⟨2, ![a, n]⟩) : FVec Ideal ⟨2, ![a, n]⟩ .f32 :=
  divf x (broadcastTo ⟨2, ![a, n]⟩ (addf (sqrt (shapeCast ⟨2, ![a, 1]⟩
    (multiReduction .add [1] ⟨1, ![a]⟩ (mulf x x) 0x00000000#32 h1 (.inl rfl) rfl) h2)) (broadcast ⟨2, ![a, 1]⟩ (Scalar.ofBits .f32 0x2B8CBCCC#32))) h3)

theorem itemBlock_apply (ha : a ≠ 1) (x : FVec Ideal ⟨2, ![a, n]⟩ .f32) (h1 h2 h3) (i : Fin a) (k : Fin n) :
    itemBlock x h1 h2 h3 (ix2 i k) = unit (row2 x i) k := by
  unfold itemBlock
  rw [divf_apply, broadcastTo_apply _ h3 (ix2 i k) (ix2 i 0) (fun c => by match c with
    | ⟨0, _⟩ => exact (if_neg ha).symm
    | ⟨1, _⟩ => rfl), addf_apply]
  show Ideal.div _ (Ideal.sqrt (shapeCast _ _ h2 (ix2 i 0)) + tiny) = _
  rw [shapeCast_apply _ h2 (ix2 i 0) (ix1 i) (by
    rw [Shape.rowMajor_val_one, Shape.rowMajor_val_two]; show i.val = i.val * 1 + 0; omega)]
  exact congrArg (fun z => Ideal.div (x (ix2 i k)) (Ideal.sqrt z + tiny)) (sum2 (mulf x x) 0x00000000#32 h1 (.inl rfl) rfl (ix1 i))

/-- The kernel's block of cosines times indicators. -/
def cosBlock {c : Nat} (it : FVec Ideal ⟨2, ![a, c]⟩ .f32) (s : FVec Ideal ⟨3, ![a, b, c]⟩ .f32) (w : FVec Ideal ⟨2, ![a, b]⟩ .f32)
    (h1 : (⟨2, ![a, c]⟩ : Shape).ShapeCasts ⟨3, ![a, 1, c]⟩) (h2 : (⟨3, ![a, 1, c]⟩ : Shape).Broadcasts ⟨3, ![a, b, c]⟩)
    (h3 : (⟨3, ![a, b, c]⟩ : Shape).Reduces [2] ⟨2, ![a, b]⟩) : FVec Ideal ⟨2, ![a, b]⟩ .f32 :=
  mulf (divf (multiReduction .add [2] ⟨2, ![a, b]⟩ (mulf (broadcastTo ⟨3, ![a, b, c]⟩ (shapeCast ⟨3, ![a, 1, c]⟩ it h1) h2) s) 0x00000000#32 h3 (.inl rfl) rfl)
    (addf (sqrt (multiReduction .add [2] ⟨2, ![a, b]⟩ (mulf s s) 0x00000000#32 h3 (.inl rfl) rfl)) (broadcast ⟨2, ![a, b]⟩ (Scalar.ofBits .f32 0x2B8CBCCC#32)))) w

theorem cosBlock_apply {c : Nat} (ha : a ≠ 1) (hc : c ≠ 1) (x : FVec Ideal ⟨2, ![a, c]⟩ .f32) (it : FVec Ideal ⟨2, ![a, c]⟩ .f32) (s : FVec Ideal ⟨3, ![a, b, c]⟩ .f32)
    (w : FVec Ideal ⟨2, ![a, b]⟩ .f32) (h1 h2 h3) (hit : ∀ i k, it (ix2 i k) = unit (row2 x i) k) (i : Fin a) (j : Fin b) :
    cosBlock it s w h1 h2 h3 (ix2 i j) = cosine (row2 x i) (row3 s i j) * w (ix2 i j) := by
  unfold cosBlock
  rw [mulf_apply, divf_apply, addf_apply]
  refine (congrArg₂ (fun z z' => Ideal.div z (Ideal.sqrt z' + tiny) * w (ix2 i j))
    (sum3 (mulf (broadcastTo ⟨3, ![a, b, c]⟩ (shapeCast ⟨3, ![a, 1, c]⟩ it h1) h2) s) 0x00000000#32 h3 (.inl rfl) rfl (ix2 i j))
    (sum3 (mulf s s) 0x00000000#32 h3 (.inl rfl) rfl (ix2 i j))).trans ?_
  rw [← div_sum_eq_cosine]
  refine congrArg (fun z => Ideal.div z (len (row3 s i j)) * w (ix2 i j)) ?_
  refine Finset.sum_congr rfl fun k _ => ?_
  show mulf _ s (ix3 i j k) = _
  rw [mulf_apply, broadcastTo_apply _ h2 (ix3 i j k) (ix3 i 0 k) (fun c' => by match c' with
    | ⟨0, _⟩ => exact (if_neg ha).symm
    | ⟨1, _⟩ => rfl
    | ⟨2, _⟩ => exact (if_neg hc).symm), shapeCast_apply _ h1 (ix3 i 0 k) (ix2 i k) (by
      rw [Shape.rowMajor_val_two, Shape.rowMajor_val_three]; show i.val * c + k.val = (i.val * 1 + 0) * c + k.val; rw [Nat.mul_one, Nat.add_zero]), hit]
  rfl

/-- The cosines of the items with their sequences, times the indicators. -/
def score {c : Nat} (I : FVec Ideal ⟨2, ![a, c]⟩ .f32) (S : FVec Ideal ⟨3, ![a, b, c]⟩ .f32) (N : FVec Ideal ⟨2, ![a, b]⟩ .f32) :
    FVec Ideal ⟨2, ![a, b]⟩ .f32 :=
  fun n => cosine (row2 I (n 0)) (row3 S (n 0) (n 1)) * N n

end Cert.Proof.Value

end
-- ==== Proof.Value.RefCos.lean ====
/-
  The reference's arrays of cosines are the scores: rows over their norms, the products summed, times the indicators.
-/
module

public import proofs.«01_k».proof.Proof.Value.Read

@[expose] public section

noncomputable section

namespace Cert.Proof.Value

open Idealize.ShloMosaic
open Idealize.ShloMosaic.ValueIdx
open Idealize.ShloMosaic.Pipeline
open scoped BigOperators

variable {a b c : Nat}

/-- The two scalars the reference broadcasts. -/
abbrev zero₀ : FVec Ideal ⟨0, ![]⟩ .f32 := constant (F := Ideal) ⟨0, ![]⟩ .f32 0x00000000#32
abbrev tiny₀ : FVec Ideal ⟨0, ![]⟩ .f32 := constant (F := Ideal) ⟨0, ![]⟩ .f32 0x2B8CBCCC#32

/-- The rows of an array of two axes, each over its norm, as the host computes them. -/
def hostUnit2 (I : FVec Ideal ⟨2, ![a, c]⟩ .f32) (k1 : (⟨2, ![a, 1]⟩ : Shape).BroadcastsInDim ⟨2, ![a, c]⟩ ![0, 1])
    (k2 : (⟨1, ![a]⟩ : Shape).BroadcastsInDim ⟨2, ![a, 1]⟩ ![0]) (k3 : (⟨2, ![a, c]⟩ : Shape).ReducesTo [1] ⟨1, ![a]⟩)
    (k4 : (⟨0, ![]⟩ : Shape).BroadcastsInDim ⟨2, ![a, 1]⟩ ![]) (hu : 0 < (⟨0, ![]⟩ : Shape).numel) : FVec Ideal ⟨2, ![a, c]⟩ .f32 :=
  Host.divf I (broadcastInDim ⟨2, ![a, c]⟩ ![0, 1] k1 (addf (Host.sqrt (broadcastInDim ⟨2, ![a, 1]⟩ ![0] k2 (Host.reduceAdd (mulf I I) zero₀ k3 hu)))
    (broadcastInDim ⟨2, ![a, 1]⟩ ![] k4 tiny₀)))

theorem hostUnit2_apply (ha : a ≠ 1) (I : FVec Ideal ⟨2, ![a, c]⟩ .f32) (k1 k2 k3 k4 hu)
    (h' : (⟨2, ![a, c]⟩ : Shape).Reduces [1] ⟨1, ![a]⟩) (i : Fin a) (k : Fin c) :
    hostUnit2 I k1 k2 k3 k4 hu (ix2 i k) = unit (row2 I i) k := by
  unfold hostUnit2
  rw [hostDivf_apply, broadcastInDim_apply ![0, 1] k1 _ (ix2 i k) (ix2 i 0) (fun d => by match d with
    | ⟨0, _⟩ => exact (if_neg ha).symm
    | ⟨1, _⟩ => rfl), addf_apply, broadcastInDim_scalar_apply]
  show Ideal.div _ (Ideal.sqrt (broadcastInDim (s := ⟨1, ![a]⟩) ⟨2, ![a, 1]⟩ ![0] k2 _ (ix2 i 0)) + tiny) = _
  rw [broadcastInDim_apply ![0] k2 _ (ix2 i 0) (ix1 i) (fun d => by match d with
    | ⟨0, _⟩ => exact (if_neg ha).symm), hostSum2 _ _ k3 h' hu Ideal.ofBits_zero_f32]
  rfl

/-- The same of an array of three axes. -/
def hostUnit3 (S : FVec Ideal ⟨3, ![a, b, c]⟩ .f32) (k1 : (⟨3, ![a, b, 1]⟩ : Shape).BroadcastsInDim ⟨3, ![a, b, c]⟩ ![0, 1, 2])
    (k2 : (⟨2, ![a, b]⟩ : Shape).BroadcastsInDim ⟨3, ![a, b, 1]⟩ ![0, 1]) (k3 : (⟨3, ![a, b, c]⟩ : Shape).ReducesTo [2] ⟨2, ![a, b]⟩)
    (k4 : (⟨0, ![]⟩ : Shape).BroadcastsInDim ⟨3, ![a, b, 1]⟩ ![]) (hu : 0 < (⟨0, ![]⟩ : Shape).numel) : FVec Ideal ⟨3, ![a, b, c]⟩ .f32 :=
  Host.divf S (broadcastInDim ⟨3, ![a, b, c]⟩ ![0, 1, 2] k1 (addf (Host.sqrt (broadcastInDim ⟨3, ![a, b, 1]⟩ ![0, 1] k2 (Host.reduceAdd (mulf S S) zero₀ k3 hu)))
    (broadcastInDim ⟨3, ![a, b, 1]⟩ ![] k4 tiny₀)))

theorem hostUnit3_apply (ha : a ≠ 1) (hb : b ≠ 1) (S : FVec Ideal ⟨3, ![a, b, c]⟩ .f32) (k1 k2 k3 k4 hu)
    (h' : (⟨3, ![a, b, c]⟩ : Shape).Reduces [2] ⟨2, ![a, b]⟩) (i : Fin a) (j : Fin b) (k : Fin c) :
    hostUnit3 S k1 k2 k3 k4 hu (ix3 i j k) = unit (row3 S i j) k := by
  unfold hostUnit3
  rw [hostDivf_apply, broadcastInDim_apply ![0, 1, 2] k1 _ (ix3 i j k) (ix3 i j 0) (fun d => by match d with
    | ⟨0, _⟩ => exact (if_neg ha).symm
    | ⟨1, _⟩ => exact (if_neg hb).symm
    | ⟨2, _⟩ => rfl), addf_apply, broadcastInDim_scalar_apply]
  show Ideal.div _ (Ideal.sqrt (broadcastInDim (s := ⟨2, ![a, b]⟩) ⟨3, ![a, b, 1]⟩ ![0, 1] k2 _ (ix3 i j 0)) + tiny) = _
  rw [broadcastInDim_apply ![0, 1] k2 _ (ix3 i j 0) (ix2 i j) (fun d => by match d with
    | ⟨0, _⟩ => exact (if_neg ha).symm
    | ⟨1, _⟩ => exact (if_neg hb).symm), hostSum3 _ _ k3 h' hu Ideal.ofBits_zero_f32]
  rfl

/-- The reference's cosines, from the two arrays of unit rows. -/
theorem hostCos_eq (ha : a ≠ 1) (hc : c ≠ 1) (I : FVec Ideal ⟨2, ![a, c]⟩ .f32) (S : FVec Ideal ⟨3, ![a, b, c]⟩ .f32) (N : FVec Ideal ⟨2, ![a, b]⟩ .f32)
    (U : FVec Ideal ⟨2, ![a, c]⟩ .f32) (V : FVec Ideal ⟨3, ![a, b, c]⟩ .f32) (hU : ∀ i k, U (ix2 i k) = unit (row2 I i) k)
    (hV : ∀ i j k, V (ix3 i j k) = unit (row3 S i j) k)
    (k1 : (⟨3, ![a, 1, c]⟩ : Shape).BroadcastsInDim ⟨3, ![a, b, c]⟩ ![0, 1, 2]) (k2 : (⟨2, ![a, c]⟩ : Shape).BroadcastsInDim ⟨3, ![a, 1, c]⟩ ![0, 2])
    (k3 : (⟨3, ![a, b, c]⟩ : Shape).ReducesTo [2] ⟨2, ![a, b]⟩) (h' : (⟨3, ![a, b, c]⟩ : Shape).Reduces [2] ⟨2, ![a, b]⟩)
    (hu : 0 < (⟨0, ![]⟩ : Shape).numel) :
    mulf (Host.reduceAdd (mulf (broadcastInDim ⟨3, ![a, b, c]⟩ ![0, 1, 2] k1 (broadcastInDim ⟨3, ![a, 1, c]⟩ ![0, 2] k2 U)) V) zero₀ k3 hu) N = score I S N := by
  refine ext2 fun i j => ?_
  rw [mulf_apply, hostSum3 _ _ k3 h' hu Ideal.ofBits_zero_f32]
  refine congrArg (· * N (ix2 i j)) (Finset.sum_congr rfl fun k _ => ?_)
  show mulf _ V (ix3 i j k) = unit (row2 I i) k * unit (row3 S i j) k
  rw [mulf_apply, hV, broadcastInDim_apply ![0, 1, 2] k1 _ (ix3 i j k) (ix3 i 0 k) (fun d => by match d with
    | ⟨0, _⟩ => exact (if_neg ha).symm
    | ⟨1, _⟩ => rfl
    | ⟨2, _⟩ => exact (if_neg hc).symm), broadcastInDim_apply ![0, 2] k2 _ (ix3 i 0 k) (ix2 i k) (fun d => by match d with
    | ⟨0, _⟩ => exact (if_neg ha).symm
    | ⟨1, _⟩ => exact (if_neg hc).symm), hU]

end Cert.Proof.Value

end
-- ==== Proof.Value.Bins.lean ====
/-
  The bin of a score that lies in [-1, 1]: rounding toward zero and adding one where that lost something is rounding up,
  and the moved number is already in the range it is clamped to. And the number of scores in a bin, as a sum of zeros and
  ones.
-/
module

public import proofs.«01_k».proof.Proof.Value.Unit
public import proofs.«01_k».proof.Proof.Hist

@[expose] public section

noncomputable section

namespace Cert.Proof.Value

open Idealize.ShloMosaic
open Cert.Proof.Hist
open scoped BigOperators

/-- Rounding toward zero, with one added where the number is above that, is rounding up. -/
theorem trunc_add (r : ℝ) : (if 0 ≤ r then ⌊r⌋ else ⌈r⌉) + (if (((if 0 ≤ r then ⌊r⌋ else ⌈r⌉ : ℤ) : ℝ) < r) then 1 else 0) = ⌈r⌉ := by
  by_cases h : 0 ≤ r
  · rw [if_pos h]
    split
    · rename_i hlt
      symm
      rw [Int.ceil_eq_iff]
      push_cast
      exact ⟨by linarith, (Int.lt_floor_add_one r).le⟩
    · rename_i hlt
      have : (⌊r⌋ : ℝ) = r := le_antisymm (Int.floor_le r) (not_lt.mp hlt)
      rw [add_zero]
      conv_rhs => rw [← this]
      exact (Int.ceil_intCast _).symm
  · rw [if_neg h, if_neg (not_lt.mpr (Int.le_ceil r)), add_zero]

/-- The reference's bin of a score: the score times the number of bins per unit rounded up, moved by `off`. -/
def up (P : EReal) (off : BitVec 32) (y : EReal) : BitVec 32 :=
  Ideal.fptosi 32 (Ideal.liftRound Int.ceil (y * P)) + off

/-- Rounding a real of at most a million toward zero gives the integer's word. -/
theorem fptosi_coe {r : ℝ} (h : |r| ≤ 1000000) :
    Ideal.fptosi 32 (r : EReal) = BitVec.ofInt 32 (if 0 ≤ r then ⌊r⌋ else ⌈r⌉) ∧
      -1000000 ≤ (if 0 ≤ r then ⌊r⌋ else ⌈r⌉) ∧ (if 0 ≤ r then ⌊r⌋ else ⌈r⌉) ≤ 1000000 := by
  obtain ⟨h1, h2⟩ := abs_le.mp h
  have b1 : -1000000 ≤ (if 0 ≤ r then ⌊r⌋ else ⌈r⌉) := by
    split
    · exact Int.le_floor.mpr (by push_cast; linarith)
    · have : ((-1000000 : ℤ) : ℝ) ≤ (⌈r⌉ : ℝ) := le_trans (by push_cast; linarith) (Int.le_ceil r)
      exact_mod_cast this
  have b2 : (if 0 ≤ r then ⌊r⌋ else ⌈r⌉) ≤ 1000000 := by
    split
    · have : (⌊r⌋ : ℝ) ≤ ((1000000 : ℤ) : ℝ) := le_trans (Int.floor_le r) (by push_cast; linarith)
      exact_mod_cast this
    · exact Int.ceil_le.mpr (by push_cast; linarith)
  refine ⟨?_, b1, b2⟩
  show BitVec.ofInt 32 (max _ (min _ _)) = _
  congr 1
  rw [min_eq_right, max_eq_right] <;> norm_num <;> omega

/-- The word that tells whether one real is above another. -/
theorem select_gt (r t : ℝ) : Scalar.select (Ideal.cmp .ogt (r : EReal) (t : EReal)) 1#32 0#32 = BitVec.ofInt 32 (if t < r then 1 else 0) := by
  unfold Ideal.cmp Scalar.select
  simp only [EReal.coe_lt_coe_iff]
  by_cases h : t < r
  · simp [h]
  · simp [h]

/-- The kernel's bin of a score in [-1, 1] is the reference's, and is at most twice the number of bins per unit. -/
theorem bin_coe (w : BitVec 32) (N : ℕ) (hN : N ≤ 1000) (hw : Ideal.ofBits .f32 w = ((N : ℝ) : EReal)) {c : ℝ} (hc : |c| ≤ 1) :
    bin (F := Ideal) w (BitVec.ofNat 32 N) (BitVec.ofNat 32 (2 * N + 1)) (c : EReal) = up ((N : ℝ) : EReal) (BitVec.ofNat 32 N) (c : EReal) := by
  have hr : |c * N| ≤ N := by
    rw [abs_mul, Nat.abs_cast]
    exact mul_le_of_le_one_left (Nat.cast_nonneg N) hc
  have hN' : (N : ℝ) ≤ 1000 := by exact_mod_cast hN
  obtain ⟨e1, b1, b2⟩ := fptosi_coe (r := c * N) (by linarith)
  have hceil1 : -(N : ℤ) ≤ ⌈c * N⌉ := by
    have : ((-(N : ℤ) : ℤ) : ℝ) ≤ (⌈c * N⌉ : ℝ) := le_trans (by push_cast; exact (abs_le.mp hr).1) (Int.le_ceil _)
    exact_mod_cast this
  have hceil2 : ⌈c * N⌉ ≤ (N : ℤ) := Int.ceil_le.mpr (by push_cast; exact (abs_le.mp hr).2)
  have e2 : Ideal.fptosi 32 (Ideal.liftRound Int.ceil ((c * N : ℝ) : EReal)) = BitVec.ofInt 32 ⌈c * N⌉ := by
    show Ideal.fptosi 32 (((⌈c * N⌉ : ℝ) : ℝ) : EReal) = _
    have hb : |(⌈c * N⌉ : ℝ)| ≤ 1000000 := by
      rw [abs_le]
      have h1 : ((-(N : ℤ) : ℤ) : ℝ) ≤ (⌈c * N⌉ : ℝ) := by exact_mod_cast hceil1
      have h2 : (⌈c * N⌉ : ℝ) ≤ ((N : ℤ) : ℝ) := by exact_mod_cast hceil2
      push_cast at h1 h2
      constructor <;> linarith
    rw [(fptosi_coe hb).1, Int.floor_intCast, Int.ceil_intCast, ite_self]
  have hm : (c : EReal) * ((N : ℝ) : EReal) = ((c * N : ℝ) : EReal) := (EReal.coe_mul _ _).symm
  unfold up
  rw [hm, e2]
  have hX : BitVec.ofInt 32 ⌈c * N⌉ + BitVec.ofNat 32 N = BitVec.ofInt 32 (⌈c * N⌉ + N) := by
    rw [BitVec.ofInt_add, BitVec.ofInt_natCast]
  have hXi : (BitVec.ofInt 32 (⌈c * N⌉ + N)).toInt = ⌈c * N⌉ + N :=
    BitVec.toInt_ofInt_eq_self (by decide) (by norm_num; omega) (by norm_num; omega)
  have ht : (BitVec.ofInt 32 (if 0 ≤ c * N then ⌊c * N⌋ else ⌈c * N⌉)).toInt = (if 0 ≤ c * N then ⌊c * N⌋ else ⌈c * N⌉) :=
    BitVec.toInt_ofInt_eq_self (by decide) (by norm_num; omega) (by norm_num; omega)
  have hsel : IntOp.addi (FloatOps.fptosi (F := Ideal) (φ := .f32) 32 ((c * N : ℝ) : EReal))
      (Scalar.select (FloatOps.cmpf (F := Ideal) (φ := .f32) .ogt ((c * N : ℝ) : EReal)
        (FloatOps.sitofp .f32 (FloatOps.fptosi (F := Ideal) (φ := .f32) 32 ((c * N : ℝ) : EReal)))) 1#32 0#32) = BitVec.ofInt 32 ⌈c * N⌉ := by
    show Ideal.fptosi 32 _ + Scalar.select (Ideal.cmp .ogt _ (((Ideal.fptosi 32 _).toInt : ℝ) : EReal)) 1#32 0#32 = _
    rw [e1, ht]
    have := trunc_add (c * N)
    have hcmp : Scalar.select (Ideal.cmp .ogt ((c * N : ℝ) : EReal) ((((if 0 ≤ c * N then ⌊c * N⌋ else ⌈c * N⌉ : ℤ) : ℝ) : ℝ) : EReal)) 1#32 0#32
        = BitVec.ofInt 32 (if (((if 0 ≤ c * N then ⌊c * N⌋ else ⌈c * N⌉ : ℤ) : ℝ) < c * N) then 1 else 0) := select_gt _ _
    rw [hcmp, ← BitVec.ofInt_add, this]
  unfold bin
  have hmul : FloatOps.mulf (F := Ideal) (φ := .f32) (c : EReal) (Scalar.ofBits .f32 w) = ((c * N : ℝ) : EReal) := by
    show (c : EReal) * Ideal.ofBits .f32 w = _
    rw [hw, hm]
  rw [hmul, hsel]
  show IntOp.minsi _ (IntOp.maxsi 0#32 (BitVec.ofInt 32 ⌈c * N⌉ + BitVec.ofNat 32 N)) = _
  rw [hX]
  have hmax : IntOp.maxsi 0#32 (BitVec.ofInt 32 (⌈c * N⌉ + N)) = BitVec.ofInt 32 (⌈c * N⌉ + N) := by
    unfold IntOp.maxsi
    refine if_neg ?_
    rw [BitVec.slt_iff_toInt_lt, hXi]
    simp; omega
  rw [hmax]
  unfold IntOp.minsi
  refine if_neg ?_
  rw [BitVec.slt_iff_toInt_lt, hXi, ← BitVec.ofInt_natCast, BitVec.toInt_ofInt_eq_self (by decide) (by norm_num; omega) (by norm_num; omega)]
  push_cast; omega

/-- Ten and twenty, as the float words the programs hold them in. -/
theorem ofBits_ten : Ideal.ofBits .f32 0x41200000#32 = (((10 : ℕ) : ℝ) : EReal) := by
  simp [Ideal.ofBits, Ideal.ieee, -EReal.coe_mul]; norm_num

theorem ofBits_twenty : Ideal.ofBits .f32 0x41A00000#32 = (((20 : ℕ) : ℝ) : EReal) := by
  simp [Ideal.ofBits, Ideal.ieee, -EReal.coe_mul]; norm_num

/-- The number of scores in a bin is the sum of the bin's indicators. -/
theorem sum_indicator {n : ℕ} (b : ℕ) (hb : b < 2 ^ 32) (f : Fin n → BitVec 32) :
    (∑ s, (((IntOp.cmpi .eq (BitVec.ofNat 32 b) (f s)).toNat : ℝ) : EReal))
      = (((Finset.univ.filter fun s => (f s).toNat = b).card : ℝ) : EReal) := by
  have hi : ∀ s, (((IntOp.cmpi .eq (BitVec.ofNat 32 b) (f s)).toNat : ℝ)) = if (f s).toNat = b then 1 else 0 := by
    intro s
    have hq : (BitVec.ofNat 32 b = f s) ↔ (f s).toNat = b := by
      constructor
      · intro e; rw [← e, BitVec.toNat_ofNat, Nat.mod_eq_of_lt hb]
      · intro e; exact BitVec.eq_of_toNat_eq (by rw [BitVec.toNat_ofNat, Nat.mod_eq_of_lt hb, e])
    unfold IntOp.cmpi
    by_cases h : (f s).toNat = b
    · simp [hq.mpr h, h]
    · have : ¬ BitVec.ofNat 32 b = f s := fun e => h (hq.mp e)
      simp [this, h]
  rw [← coe_sum, Finset.sum_congr rfl fun s _ => hi s, Finset.sum_boole]

/-- Counting the first `n` numbers with a property is counting the places of a list of length `n`. -/
theorem card_range {n : ℕ} (p : ℕ → Prop) [DecidablePred p] (q : Fin n → Prop) [DecidablePred q] (h : ∀ s : Fin n, p s.val ↔ q s) :
    ((Finset.range n).filter p).card = (Finset.univ.filter q).card := by
  rw [Finset.card_filter, Finset.card_filter, ← Fin.sum_univ_eq_sum_range (fun s => if p s then 1 else 0) n]
  exact Finset.sum_congr rfl fun s _ => if_congr (h s) rfl rfl

end Cert.Proof.Value

end
-- ==== Proof.Value.RefTier.lean ====
/-
  The reference's histogram rows, read at an index: the logarithm of one more than the number of the row's scores in the
  bin, times the bin's embedding.
-/
module

public import proofs.«01_k».proof.Proof.Value.RefCos
public import proofs.«01_k».proof.Proof.Value.Bins

@[expose] public section

noncomputable section

namespace Cert.Proof.Value

open Idealize.ShloMosaic
open Idealize.ShloMosaic.ValueIdx
open Idealize.ShloMosaic.Pipeline
open scoped BigOperators

variable {a n nb d W : Nat}

/-- How many of row `i`'s scores the reference puts in bin `b`. -/
def tally (P : EReal) (off : BitVec 32) (C : FVec Ideal ⟨2, ![a, n]⟩ .f32) (i : Fin a) (b : ℕ) : ℕ :=
  (Finset.univ.filter fun s : Fin n => (up P off (C (ix2 i s))).toNat = b).card

/-- The embedding of bin `b` weighted by the logarithm of one more than the row's count there. -/
def tier (P : EReal) (off : BitVec 32) (C : FVec Ideal ⟨2, ![a, n]⟩ .f32) (E : FVec Ideal ⟨3, ![1, nb, d]⟩ .f32) (i : Fin a) (b : Fin nb) (e : Fin d) : EReal :=
  Ideal.log (((tally P off C i b.val : ℝ) : EReal) + 1) * E (ix3 0 b e)

/-- The reference's bins. -/
def hostIds (C : FVec Ideal ⟨2, ![a, n]⟩ .f32) (w off : BitVec 32) (k1 k2 : (⟨0, ![]⟩ : Shape).BroadcastsInDim ⟨2, ![a, n]⟩ ![]) : IVec ⟨2, ![a, n]⟩ 32 :=
  addi (fptosi 32 (Host.ceil (mulf C (broadcastInDim ⟨2, ![a, n]⟩ ![] k1 (constant (F := Ideal) ⟨0, ![]⟩ .f32 w)))))
    (broadcastInDim ⟨2, ![a, n]⟩ ![] k2 (constantI ⟨0, ![]⟩ 32 off))

theorem hostIds_apply (C : FVec Ideal ⟨2, ![a, n]⟩ .f32) (w off : BitVec 32) (k1 k2) (j : (⟨2, ![a, n]⟩ : Shape).Idx) :
    hostIds C w off k1 k2 j = up (Ideal.ofBits .f32 w) off (C j) := rfl

/-- The reference's counts. -/
def hostCount (Z : IVec ⟨2, ![a, n]⟩ 32) (k1 : (⟨3, ![1, nb, 1]⟩ : Shape).BroadcastsInDim ⟨3, ![a, nb, n]⟩ ![0, 1, 2])
    (k2 : (⟨1, ![nb]⟩ : Shape).ShapeCasts ⟨3, ![1, nb, 1]⟩) (k3 : (⟨3, ![a, 1, n]⟩ : Shape).BroadcastsInDim ⟨3, ![a, nb, n]⟩ ![0, 1, 2])
    (k4 : (⟨2, ![a, n]⟩ : Shape).BroadcastsInDim ⟨3, ![a, 1, n]⟩ ![0, 2]) (k5 : (⟨3, ![a, nb, n]⟩ : Shape).ReducesTo [2] ⟨2, ![a, nb]⟩)
    (hu : 0 < (⟨0, ![]⟩ : Shape).numel) : FVec Ideal ⟨2, ![a, nb]⟩ .f32 :=
  Host.reduceAdd (uitofp .f32 (cmpi .eq (broadcastInDim ⟨3, ![a, nb, n]⟩ ![0, 1, 2] k1 (shapeCast ⟨3, ![1, nb, 1]⟩ (iotaInDim ⟨1, ![nb]⟩ 32 0) k2))
    (broadcastInDim ⟨3, ![a, nb, n]⟩ ![0, 1, 2] k3 (broadcastInDim ⟨3, ![a, 1, n]⟩ ![0, 2] k4 Z)))) zero₀ k5 hu

theorem hostCount_apply (ha : a ≠ 1) (hb : nb ≠ 1) (hn : n ≠ 1) (hb' : nb < 2 ^ 32) (Z : IVec ⟨2, ![a, n]⟩ 32) (k1 k2 k3 k4 k5 hu)
    (h' : (⟨3, ![a, nb, n]⟩ : Shape).Reduces [2] ⟨2, ![a, nb]⟩) (i : Fin a) (b : Fin nb) :
    hostCount Z k1 k2 k3 k4 k5 hu (ix2 i b) = (((Finset.univ.filter fun s : Fin n => (Z (ix2 i s)).toNat = b.val).card : ℝ) : EReal) := by
  unfold hostCount
  rw [hostSum3 _ _ k5 h' hu Ideal.ofBits_zero_f32, ← sum_indicator b.val (lt_trans b.isLt hb')]
  refine Finset.sum_congr rfl fun k _ => ?_
  have e1 : broadcastInDim (s := ⟨3, ![1, nb, 1]⟩) ⟨3, ![a, nb, n]⟩ ![0, 1, 2] k1 (shapeCast ⟨3, ![1, nb, 1]⟩ (iotaInDim ⟨1, ![nb]⟩ 32 0) k2) (ix3 i b k) = BitVec.ofNat 32 b.val := by
    rw [broadcastInDim_apply ![0, 1, 2] k1 _ (ix3 i b k) (ix3 0 b 0) (fun c => by match c with
      | ⟨0, _⟩ => rfl
      | ⟨1, _⟩ => exact (if_neg hb).symm
      | ⟨2, _⟩ => rfl), shapeCast_apply _ k2 (ix3 0 b 0) (ix1 b) (by
        rw [Shape.rowMajor_val_one, Shape.rowMajor_val_three]; show b.val = (0 * nb + b.val) * 1 + 0; omega)]
    rfl
  have e2 : broadcastInDim (s := ⟨3, ![a, 1, n]⟩) ⟨3, ![a, nb, n]⟩ ![0, 1, 2] k3 (broadcastInDim (s := ⟨2, ![a, n]⟩) ⟨3, ![a, 1, n]⟩ ![0, 2] k4 Z) (ix3 i b k) = Z (ix2 i k) := by
    rw [broadcastInDim_apply ![0, 1, 2] k3 _ (ix3 i b k) (ix3 i 0 k) (fun c => by match c with
      | ⟨0, _⟩ => exact (if_neg ha).symm
      | ⟨1, _⟩ => rfl
      | ⟨2, _⟩ => exact (if_neg hn).symm), broadcastInDim_apply ![0, 2] k4 _ (ix3 i 0 k) (ix2 i k) (fun c => by match c with
      | ⟨0, _⟩ => exact (if_neg ha).symm
      | ⟨1, _⟩ => exact (if_neg hn).symm)]
  show (((IntOp.cmpi .eq (broadcastInDim (s := ⟨3, ![1, nb, 1]⟩) ⟨3, ![a, nb, n]⟩ ![0, 1, 2] k1 _ (ix3 i b k))
    (broadcastInDim (s := ⟨3, ![a, 1, n]⟩) ⟨3, ![a, nb, n]⟩ ![0, 1, 2] k3 _ (ix3 i b k))).toNat : ℝ) : EReal) = _
  rw [e1, e2]

/-- The reference's weighted embeddings, from its counts. -/
def hostTier (M : FVec Ideal ⟨2, ![a, nb]⟩ .f32) (E : FVec Ideal ⟨3, ![1, nb, d]⟩ .f32) (k1 : (⟨3, ![a, nb, 1]⟩ : Shape).BroadcastsInDim ⟨3, ![a, nb, d]⟩ ![0, 1, 2])
    (k2 : (⟨2, ![a, nb]⟩ : Shape).BroadcastsInDim ⟨3, ![a, nb, 1]⟩ ![0, 1]) (k3 : (⟨0, ![]⟩ : Shape).BroadcastsInDim ⟨3, ![a, nb, 1]⟩ ![])
    (k4 : (⟨3, ![1, nb, d]⟩ : Shape).BroadcastsInDim ⟨3, ![a, nb, d]⟩ ![0, 1, 2]) (k5 : (⟨3, ![a, nb, d]⟩ : Shape).ShapeCasts ⟨2, ![a, W]⟩) :
    FVec Ideal ⟨2, ![a, W]⟩ .f32 :=
  shapeCast ⟨2, ![a, W]⟩ (mulf (broadcastInDim ⟨3, ![a, nb, d]⟩ ![0, 1, 2] k1 (Host.log (addf (broadcastInDim ⟨3, ![a, nb, 1]⟩ ![0, 1] k2 M)
    (broadcastInDim ⟨3, ![a, nb, 1]⟩ ![] k3 (constant (F := Ideal) ⟨0, ![]⟩ .f32 0x3F800000#32)))))
    (broadcastInDim ⟨3, ![a, nb, d]⟩ ![0, 1, 2] k4 E)) k5

theorem hostTier_apply (ha : a ≠ 1) (hb : nb ≠ 1) (hd : d ≠ 1) (hW : W = nb * d) (M : FVec Ideal ⟨2, ![a, nb]⟩ .f32) (E : FVec Ideal ⟨3, ![1, nb, d]⟩ .f32)
    (k1 k2 k3 k4) (k5 : (⟨3, ![a, nb, d]⟩ : Shape).ShapeCasts ⟨2, ![a, W]⟩) (i : Fin a) (j : Fin W) (b : Fin nb) (e : Fin d) (hj : j.val = b.val * d + e.val) :
    hostTier M E k1 k2 k3 k4 k5 (ix2 i j) = Ideal.log (M (ix2 i b) + 1) * E (ix3 0 b e) := by
  subst hW
  unfold hostTier
  rw [shapeCast_apply _ k5 (ix2 i j) (ix3 i b e) (by
    rw [Shape.rowMajor_val_three, Shape.rowMajor_val_two]
    show (i.val * nb + b.val) * d + e.val = i.val * (nb * d) + j.val
    rw [hj]; ring), mulf_apply,
    broadcastInDim_apply ![0, 1, 2] k1 _ (ix3 i b e) (ix3 i b 0) (fun c => by match c with
      | ⟨0, _⟩ => exact (if_neg ha).symm
      | ⟨1, _⟩ => exact (if_neg hb).symm
      | ⟨2, _⟩ => rfl),
    broadcastInDim_apply ![0, 1, 2] k4 _ (ix3 i b e) (ix3 0 b e) (fun c => by match c with
      | ⟨0, _⟩ => rfl
      | ⟨1, _⟩ => exact (if_neg hb).symm
      | ⟨2, _⟩ => exact (if_neg hd).symm)]
  show Ideal.log (broadcastInDim (s := ⟨2, ![a, nb]⟩) ⟨3, ![a, nb, 1]⟩ ![0, 1] k2 M (ix3 i b 0) + Ideal.ofBits .f32 0x3F800000#32) * _ = _
  rw [broadcastInDim_apply ![0, 1] k2 _ (ix3 i b 0) (ix2 i b) (fun c => by match c with
      | ⟨0, _⟩ => exact (if_neg ha).symm
      | ⟨1, _⟩ => exact (if_neg hb).symm), Ideal.ofBits_one_f32]

/-- The reference's histogram row at an index. -/
theorem hostTier_eq (ha : a ≠ 1) (hb : nb ≠ 1) (hd : d ≠ 1) (hn : n ≠ 1) (hb' : nb < 2 ^ 32) (hW : W = nb * d) (C : FVec Ideal ⟨2, ![a, n]⟩ .f32)
    (w off : BitVec 32) (E : FVec Ideal ⟨3, ![1, nb, d]⟩ .f32) (q1 q2 c1 c2 c3 c4 c5 hu k1 k2 k3 k4) (k5 : (⟨3, ![a, nb, d]⟩ : Shape).ShapeCasts ⟨2, ![a, W]⟩)
    (h' : (⟨3, ![a, nb, n]⟩ : Shape).Reduces [2] ⟨2, ![a, nb]⟩)
    (i : Fin a) (j : Fin W) (b : Fin nb) (e : Fin d) (hj : j.val = b.val * d + e.val) :
    hostTier (hostCount (hostIds C w off q1 q2) c1 c2 c3 c4 c5 hu) E k1 k2 k3 k4 k5 (ix2 i j) = tier (Ideal.ofBits .f32 w) off C E i b e := by
  rw [hostTier_apply ha hb hd hW _ E k1 k2 k3 k4 k5 i j b e hj, hostCount_apply ha hb hn hb' _ c1 c2 c3 c4 c5 hu h']
  rfl

end Cert.Proof.Value

end
-- ==== Proof.Value.KernelTier.lean ====
/-
  The kernel's histogram rows, read at an index: the same weighted embedding as the reference's, wherever the kernel's
  bin of a score is the reference's.
-/
module

public import proofs.«01_k».proof.Proof.Value.RefTier
public import proofs.«01_k».proof.Proof.RunIdeal.HostVals

@[expose] public section

noncomputable section

namespace Cert.Proof.Value

open Idealize.ShloMosaic hiding ix2 ix3
open Idealize.ShloMosaic.ValueIdx (ix2 ix3)
open Cert.Proof.Lanes Cert.Proof.RowOps Cert.Proof.Hist Cert.Proof.RunIdeal

/-- The table of logarithms at a count. -/
theorem lut_at {k : ℕ} (hk : k < 256) : nat1 (lutV (F := Ideal)) (BitVec.ofNat 32 k).toNat = Ideal.log (((k : ℝ) : EReal) + 1) := by
  have e : (BitVec.ofNat 32 k).toNat = k := by rw [BitVec.toNat_ofNat, Nat.mod_eq_of_lt (by omega)]
  rw [e, nat1_of_lt _ hk]
  show Ideal.log ((((BitVec.ofNat 32 k).toInt : ℝ) : EReal) + Ideal.ofBits .f32 0x3F800000#32) = _
  have e2 : (BitVec.ofNat 32 k).toInt = k := by rw [BitVec.toInt_eq_toNat_of_lt (by rw [e]; omega), e]
  rw [e2, Ideal.ofBits_one_f32]
  norm_num

section
variable {a n nb d W N m NO O : Nat} [NeZero N] [NeZero m] [NeZero W]

/-- The kernel's count over a block of sixteen rows is the tally of the row. -/
theorem cnt_eq_tally (f : EReal → BitVec 32) (P : EReal) (off : BitVec 32) (C : FVec Ideal ⟨2, ![a, n]⟩ .f32) (h : (⟨2, ![a, n]⟩ : Shape).ShapeCasts ⟨1, ![N]⟩)
    (hN : N = a * n) (hf : ∀ j, f (C j) = up P off (C j)) (g l b : ℕ) (hm : m = 16 * n) (hl : l < 16) (R : Fin a) (hR : R.val = g * 16 + l) :
    cnt f (nat1 (blk (F := Ideal) m (shapeCast ⟨1, ![N]⟩ C h) g)) n n l b = tally P off C R b := by
  unfold cnt tally
  refine card_range _ _ fun s => ?_
  have h1 : l * n + s.val < m := by
    rw [hm]; have := s.isLt; have : (l + 1) * n ≤ 16 * n := Nat.mul_le_mul_right _ hl; rw [Nat.add_mul] at this; omega
  have h3 : g * m + (l * n + s.val) = R.val * n + s.val := by rw [hm, hR]; ring
  have h2 : R.val * n + s.val < N := by
    rw [hN]; have := s.isLt; have : (R.val + 1) * n ≤ a * n := Nat.mul_le_mul_right _ R.isLt; rw [Nat.add_mul] at this; omega
  have e : nat1 (blk (F := Ideal) m (shapeCast ⟨1, ![N]⟩ C h) g) (l * n + s.val) = C (ix2 R s) := by
    unfold blk
    rw [nat1_vec1 _ h1, h3, nat1_of_lt _ h2]
    exact shapeCast_apply C h _ _ (by rw [Shape.rowMajor_val_one, Shape.rowMajor_val_two]; rfl)
  rw [e, hf]

/-- One entry of a block of the kernel's histogram rows. -/
theorem cell_eq (c : Nat → EReal) (f : EReal → BitVec 32) (E : FVec Ideal ⟨3, ![1, nb, d]⟩ .f32) (h : (⟨3, ![1, nb, d]⟩ : Shape).ShapeCasts ⟨1, ![W]⟩)
    {nh : Nat} [NeZero nh] (hnh : nh = 16 * nb) (hW : W = nb * d) (hW' : W < 2 ^ 32) (hn : n < 256) (l : ℕ) (hl : l < 16) (b : Fin nb) (e : Fin d) :
    cell (F := Ideal) nb (fun j : (⟨1, ![W]⟩ : Shape).Idx => BitVec.ofNat 32 ((j 0).val / d)) (shapeCast ⟨1, ![W]⟩ E h) (hist (nh := nh) f c n nb n) lutV (l * W + (b.val * d + e.val))
      = Ideal.log (((cnt f c n n l b.val : ℝ) : EReal) + 1) * E (ix3 0 b e) := by
  have hd : 0 < d := e.pos
  have hnb : 0 < nb := b.pos
  have hj : b.val * d + e.val < W := by
    rw [hW]; have := e.isLt; have : (b.val + 1) * d ≤ nb * d := Nat.mul_le_mul_right _ b.isLt; rw [Nat.add_mul] at this; omega
  have hW0 : 0 < W := by omega
  have e1 : (l * W + (b.val * d + e.val)) % W = b.val * d + e.val := by rw [Nat.add_comm, Nat.add_mul_mod_self_right, Nat.mod_eq_of_lt hj]
  have e2 : (l * W + (b.val * d + e.val)) / W = l := by rw [Nat.add_comm, Nat.add_mul_div_right _ _ hW0, Nat.div_eq_of_lt hj, Nat.zero_add]
  have e3 : (b.val * d + e.val) / d = b.val := by rw [Nat.add_comm, Nat.add_mul_div_right _ _ hd, Nat.div_eq_of_lt e.isLt, Nat.zero_add]
  have e4 : (l * nb + b.val) / nb = l := by rw [Nat.add_comm, Nat.add_mul_div_right _ _ hnb, Nat.div_eq_of_lt b.isLt, Nat.zero_add]
  have e5 : (l * nb + b.val) % nb = b.val := by rw [Nat.add_comm, Nat.add_mul_mod_self_right, Nat.mod_eq_of_lt b.isLt]
  have e6 : l * nb + b.val < nh := by
    rw [hnh]; have := b.isLt; have : (l + 1) * nb ≤ 16 * nb := Nat.mul_le_mul_right _ hl; rw [Nat.add_mul] at this; omega
  have hb : (BitVec.ofNat 32 b.val).toNat = b.val := by
    have : b.val ≤ b.val * d := Nat.le_mul_of_pos_right _ hd
    rw [BitVec.toNat_ofNat, Nat.mod_eq_of_lt (by omega)]
  have i1 : nat1 (fun j : (⟨1, ![W]⟩ : Shape).Idx => BitVec.ofNat 32 ((j 0).val / d)) (b.val * d + e.val) = BitVec.ofNat 32 b.val := by
    rw [nat1_of_lt _ hj]; show BitVec.ofNat 32 ((b.val * d + e.val) / d) = _; rw [e3]
  have i2 : nat1 (hist (nh := nh) f c n nb n) (l * nb + b.val) = BitVec.ofNat 32 (cnt f c n n l b.val) := by
    unfold hist; rw [nat1_vec1 _ e6, e4, e5]
  have i3 : nat1 (shapeCast ⟨1, ![W]⟩ E h) (b.val * d + e.val) = E (ix3 0 b e) := by
    rw [nat1_of_lt _ hj]
    exact shapeCast_apply E h _ _ (by
      rw [Shape.rowMajor_val_one, Shape.rowMajor_val_three]; show (0 * nb + b.val) * d + e.val = b.val * d + e.val; rw [Nat.zero_mul, Nat.zero_add])
  unfold cell
  rw [e1, e2, i1, hb, i2, i3, lut_at (lt_of_le_of_lt (cnt_le f c n n l b.val) hn)]
  rfl

/-- The kernel's histogram row at an index. -/
theorem kernelTier_eq (f : EReal → BitVec 32) (P : EReal) (off : BitVec 32) (C : FVec Ideal ⟨2, ![a, n]⟩ .f32) (E : FVec Ideal ⟨3, ![1, nb, d]⟩ .f32)
    (h1 : (⟨2, ![a, n]⟩ : Shape).ShapeCasts ⟨1, ![N]⟩) (h2 : (⟨3, ![1, nb, d]⟩ : Shape).ShapeCasts ⟨1, ![W]⟩) (h3 : (⟨1, ![NO]⟩ : Shape).ShapeCasts ⟨2, ![a, W]⟩)
    (hN : N = a * n) (hm : m = 16 * n) {nh : Nat} [NeZero nh] (hnh : nh = 16 * nb) (hW : W = nb * d) (hW' : W < 2 ^ 32) (hn : n < 256) (hO : O = 16 * W) (hNO : NO = a * W)
    (hf : ∀ j, f (C j) = up P off (C j)) (hO0 : 0 < O) (R : Fin a) (j : Fin W) (b : Fin nb) (e : Fin d) (hj : j.val = b.val * d + e.val) :
    shapeCast ⟨2, ![a, W]⟩ (vec1 (n := NO) fun k => (fun q : (⟨1, ![O]⟩ : Shape).Idx =>
      cell (F := Ideal) nb (fun j : (⟨1, ![W]⟩ : Shape).Idx => BitVec.ofNat 32 ((j 0).val / d)) (shapeCast ⟨1, ![W]⟩ E h2)
        (hist (nh := nh) f (nat1 (blk (F := Ideal) m (shapeCast ⟨1, ![N]⟩ C h1) (k / O))) n nb n) lutV (q 0).val) (ix1 (k % O) (Nat.mod_lt _ hO0))) h3 (ix2 R j)
      = tier P off C E R b e := by
  have hk : R.val * W + j.val < NO := by
    rw [hNO]; have := j.isLt; have : (R.val + 1) * W ≤ a * W := Nat.mul_le_mul_right _ R.isLt; rw [Nat.add_mul] at this; omega
  have hlt : (R.val % 16) * W + j.val < O := by
    rw [hO]; have := j.isLt; have : (R.val % 16 + 1) * W ≤ 16 * W := Nat.mul_le_mul_right _ (Nat.mod_lt _ (by decide)); rw [Nat.add_mul] at this; omega
  have hsplit : R.val * W + j.val = (R.val % 16) * W + j.val + (R.val / 16) * O := by
    rw [hO]; conv_lhs => rw [← Nat.div_add_mod R.val 16]
    ring
  have e1 : (R.val * W + j.val) / O = R.val / 16 := by rw [hsplit, Nat.add_mul_div_right _ _ hO0, Nat.div_eq_of_lt hlt, Nat.zero_add]
  have e2 : (R.val * W + j.val) % O = (R.val % 16) * W + j.val := by rw [hsplit, Nat.add_mul_mod_self_right, Nat.mod_eq_of_lt hlt]
  rw [shapeCast_apply _ h3 (ix2 R j) (ix1 (R.val * W + j.val) hk) (by rw [Shape.rowMajor_val_one, Shape.rowMajor_val_two]; rfl)]
  show cell (F := Ideal) nb (fun j : (⟨1, ![W]⟩ : Shape).Idx => BitVec.ofNat 32 ((j 0).val / d)) (shapeCast ⟨1, ![W]⟩ E h2)
        (hist (nh := nh) f (nat1 (blk (F := Ideal) m (shapeCast ⟨1, ![N]⟩ C h1) ((R.val * W + j.val) / O))) n nb n) lutV ((R.val * W + j.val) % O) = _
  rw [e1, e2, hj, cell_eq _ f E h2 hnh hW hW' hn _ (Nat.mod_lt _ (by decide)) b e,
    cnt_eq_tally f P off C h1 hN hf (R.val / 16) (R.val % 16) b.val hm (Nat.mod_lt _ (by decide)) R (by omega)]
  rfl

end

end Cert.Proof.Value

end
-- ==== Proof.Value.KernelCos.lean ====
/-
  The kernel's two arrays of cosines are the scores.
-/
module

public import proofs.«01_k».proof.Proof.RunIdeal.Cos
public import proofs.«01_k».proof.Proof.Value.Read

@[expose] public section

noncomputable section

namespace Cert.Proof.Value

open Idealize.ShloMosaic
open Cert.KernelIdeal Cert.KernelIdeal.Gen
open Cert.Proof.RunIdeal

/-- An index of the whole array, from its block and its place there. -/
theorem up_low2 {C : Nat} (n : (⟨2, ![4096, C]⟩ : Shape).Idx) : up2 (top2 n) (low2 n) = n := by
  funext a
  match a with
  | 0 => exact Fin.ext (show (n 0).val / 64 * 64 + (n 0).val % 64 = (n 0).val by omega)
  | 1 => rfl

theorem pay2_apply (I : FVec Ideal S64x32 .f32) (S : FVec Ideal S64x200x32 .f32) (N : FVec Ideal S64x200 .f32) (j : S64x200.Idx) :
    k0_pay2 (F := Ideal) I S N j = cosine (row2 I (j 0)) (row3 S (j 0) (j 1)) * N j := by
  have e : j = ValueIdx.ix2 (j 0) (j 1) := by funext c; match c with | 0 => rfl | 1 => rfl
  rw [e]
  exact cosBlock_apply (by decide) (by decide) I (itemBlock I reduces_S64x32_S64 shapeCasts_S64_S64x1 broadcasts_S64x1_S64x32) S N
    shapeCasts_S64x32_S64x1x32 broadcasts_S64x1x32_S64x200x32 reduces_S64x200x32_S64x200
    (itemBlock_apply (by decide) I reduces_S64x32_S64 shapeCasts_S64_S64x1 broadcasts_S64x1_S64x32) (j 0) (j 1)

theorem pay3_apply (I : FVec Ideal S64x32 .f32) (S : FVec Ideal S64x50x32 .f32) (N : FVec Ideal S64x50 .f32) (j : S64x50.Idx) :
    k0_pay3 (F := Ideal) I S N j = cosine (row2 I (j 0)) (row3 S (j 0) (j 1)) * N j := by
  have e : j = ValueIdx.ix2 (j 0) (j 1) := by funext c; match c with | 0 => rfl | 1 => rfl
  rw [e]
  exact cosBlock_apply (by decide) (by decide) I (itemBlock I reduces_S64x32_S64 shapeCasts_S64_S64x1 broadcasts_S64x1_S64x32) S N
    shapeCasts_S64x32_S64x1x32 broadcasts_S64x1x32_S64x50x32 reduces_S64x50x32_S64x50
    (itemBlock_apply (by decide) I reduces_S64x32_S64 shapeCasts_S64_S64x1 broadcasts_S64x1_S64x32) (j 0) (j 1)

/-- A row of a block of the items, and of a block of the sequences, is the whole array's row. -/
theorem row2_part {C b : Nat} (I : FVec Ideal ⟨2, ![4096, C]⟩ .f32) (n : (⟨2, ![4096, b]⟩ : Shape).Idx) :
    row2 (a := 64) (part2 (F := Ideal) I (top2 n)) (low2 n 0) = row2 I (n 0) := by
  funext k
  refine congrArg I ?_
  funext c
  match c with
  | 0 => exact Fin.ext (show (n 0).val / 64 * 64 + (n 0).val % 64 = (n 0).val by omega)
  | 1 => rfl

theorem row3_part {C b : Nat} (S : FVec Ideal ⟨3, ![4096, b, C]⟩ .f32) (n : (⟨2, ![4096, b]⟩ : Shape).Idx) :
    row3 (a := 64) (b := b) (part3 (F := Ideal) S (top2 n)) (low2 n 0) (low2 n 1) = row3 S (n 0) (n 1) := by
  funext k
  refine congrArg S ?_
  funext c
  match c with
  | 0 => exact Fin.ext (show (n 0).val / 64 * 64 + (n 0).val % 64 = (n 0).val by omega)
  | 1 => rfl
  | 2 => rfl

/-- The first level's cosines. -/
theorem cosOut0_eq (I : FVec Ideal S4096x32 .f32) (S : FVec Ideal S4096x200x32 .f32) (N : FVec Ideal S4096x200 .f32) :
    cosOut0 (F := Ideal) I S N = score I S N := by
  funext n
  refine (pay2_apply _ _ _ _).trans ?_
  show cosine _ _ * N (up2 (top2 n) (low2 n)) = _
  rw [up_low2]
  exact congrArg₂ (fun u v => cosine u v * N n) (row2_part I n) (row3_part S n)

/-- The second level's cosines. -/
theorem cosOut1_eq (I : FVec Ideal S4096x32 .f32) (S : FVec Ideal S4096x50x32 .f32) (N : FVec Ideal S4096x50 .f32) :
    cosOut1 (F := Ideal) I S N = score I S N := by
  funext n
  refine (pay3_apply _ _ _ _).trans ?_
  show cosine _ _ * N (up2 (top2 n) (low2 n)) = _
  rw [up_low2]
  exact congrArg₂ (fun u v => cosine u v * N n) (row2_part I n) (row3_part S n)

end Cert.Proof.Value

end
-- ==== Proof.Value.Results.lean ====
/-
  The results as plain values: the two arrays of scores, and the two arrays of histogram rows made from them. Both the
  kernel and the reference compute these.
-/
module

public import proofs.«01_k».proof.Proof.Value.KernelTier
public import proofs.«01_k».proof.Proof.Value.KernelCos
public import proofs.«01_k».proof.Proof.Gen.ReferenceIdeal.Run

@[expose] public section

noncomputable section

namespace Cert.Proof.Value

open Idealize.ShloMosaic hiding ix2 ix3
open Idealize.ShloMosaic.ValueIdx (ix2 ix3)

/-- Histogram rows of the first level: ten bins to a unit, four features to a bin. -/
def rows0 (C : FVec Ideal ⟨2, ![4096, 200]⟩ .f32) (E : FVec Ideal ⟨3, ![1, 22, 4]⟩ .f32) : FVec Ideal ⟨2, ![4096, 88]⟩ .f32 :=
  fun n => tier (Ideal.ofBits .f32 0x41200000#32) 10#32 C E (n 0)
    ⟨(n 1).val / 4, by have : (n 1).val < 88 := (n 1).isLt; omega⟩ ⟨(n 1).val % 4, Nat.mod_lt _ (by decide)⟩

/-- Histogram rows of the second level: twenty bins to a unit, eight features to a bin. -/
def rows1 (C : FVec Ideal ⟨2, ![4096, 50]⟩ .f32) (E : FVec Ideal ⟨3, ![1, 42, 8]⟩ .f32) : FVec Ideal ⟨2, ![4096, 336]⟩ .f32 :=
  fun n => tier (Ideal.ofBits .f32 0x41A00000#32) 20#32 C E (n 0)
    ⟨(n 1).val / 8, by have : (n 1).val < 336 := (n 1).isLt; omega⟩ ⟨(n 1).val % 8, Nat.mod_lt _ (by decide)⟩

/-! ## The reference -/

section Reference

open Cert.ReferenceIdeal Cert.ReferenceIdeal.Gen

theorem reference0 (I : FVec Ideal S4096x32 .f32) (S : FVec Ideal S4096x200x32 .f32) (N : FVec Ideal S4096x200 .f32) :
    mulf (Host.reduceAdd (mulf (broadcastInDim S4096x200x32 ![0, 1, 2] bcast_S4096x1x32_S4096x200x32_0_1_2 (broadcastInDim S4096x1x32 ![0, 2] bcast_S4096x32_S4096x1x32_0_2
      (hostUnit2 I bcast_S4096x1_S4096x32_0_1 bcast_S4096_S4096x1_0 reducesTo_S4096x32_S4096_d1 bcast_S_S4096x1 h_S_)))
      (hostUnit3 S bcast_S4096x200x1_S4096x200x32_0_1_2 bcast_S4096x200_S4096x200x1_0_1 reducesTo_S4096x200x32_S4096x200_d2 bcast_S_S4096x200x1 h_S_))
      zero₀ reducesTo_S4096x200x32_S4096x200_d2 h_S_) N = score I S N :=
  hostCos_eq (by decide) (by decide) I S N _ _ (fun i k => hostUnit2_apply (by decide) I _ _ _ _ _ (by decide) i k)
    (fun i j k => hostUnit3_apply (by decide) (by decide) S _ _ _ _ _ (by decide) i j k) _ _ _ (by decide) _

theorem reference1 (I : FVec Ideal S4096x32 .f32) (S : FVec Ideal S4096x50x32 .f32) (N : FVec Ideal S4096x50 .f32) :
    mulf (Host.reduceAdd (mulf (broadcastInDim S4096x50x32 ![0, 1, 2] bcast_S4096x1x32_S4096x50x32_0_1_2 (broadcastInDim S4096x1x32 ![0, 2] bcast_S4096x32_S4096x1x32_0_2
      (hostUnit2 I bcast_S4096x1_S4096x32_0_1 bcast_S4096_S4096x1_0 reducesTo_S4096x32_S4096_d1 bcast_S_S4096x1 h_S_)))
      (hostUnit3 S bcast_S4096x50x1_S4096x50x32_0_1_2 bcast_S4096x50_S4096x50x1_0_1 reducesTo_S4096x50x32_S4096x50_d2 bcast_S_S4096x50x1 h_S_))
      zero₀ reducesTo_S4096x50x32_S4096x50_d2 h_S_) N = score I S N :=
  hostCos_eq (by decide) (by decide) I S N _ _ (fun i k => hostUnit2_apply (by decide) I _ _ _ _ _ (by decide) i k)
    (fun i j k => hostUnit3_apply (by decide) (by decide) S _ _ _ _ _ (by decide) i j k) _ _ _ (by decide) _

theorem reference2 (C : FVec Ideal S4096x200 .f32) (E : FVec Ideal S1x22x4 .f32) :
    hostTier (W := 88) (hostCount (hostIds C 0x41200000#32 10#32 bcast_S_S4096x200 bcast_S_S4096x200) bcast_S1x22x1_S4096x22x200_0_1_2 shapeCasts_S22_S1x22x1
      bcast_S4096x1x200_S4096x22x200_0_1_2 bcast_S4096x200_S4096x1x200_0_2 reducesTo_S4096x22x200_S4096x22_d2 h_S_) E
      bcast_S4096x22x1_S4096x22x4_0_1_2 bcast_S4096x22_S4096x22x1_0_1 bcast_S_S4096x22x1 bcast_S1x22x4_S4096x22x4_0_1_2 shapeCasts_S4096x22x4_S4096x88 = rows0 C E :=
  ext2 fun i j => hostTier_eq (by decide) (by decide) (by decide) (by decide) (by decide) (by decide) C _ _ E _ _ _ _ _ _ _ _ _ _ _ _ _ (by decide) i j _ _
    (by show j.val = j.val / 4 * 4 + j.val % 4; omega)

theorem reference3 (C : FVec Ideal S4096x50 .f32) (E : FVec Ideal S1x42x8 .f32) :
    hostTier (W := 336) (hostCount (hostIds C 0x41A00000#32 20#32 bcast_S_S4096x50 bcast_S_S4096x50) bcast_S1x42x1_S4096x42x50_0_1_2 shapeCasts_S42_S1x42x1
      bcast_S4096x1x50_S4096x42x50_0_1_2 bcast_S4096x50_S4096x1x50_0_2 reducesTo_S4096x42x50_S4096x42_d2 h_S_) E
      bcast_S4096x42x1_S4096x42x8_0_1_2 bcast_S4096x42_S4096x42x1_0_1 bcast_S_S4096x42x1 bcast_S1x42x8_S4096x42x8_0_1_2 shapeCasts_S4096x42x8_S4096x336 = rows1 C E :=
  ext2 fun i j => hostTier_eq (by decide) (by decide) (by decide) (by decide) (by decide) (by decide) C _ _ E _ _ _ _ _ _ _ _ _ _ _ _ _ (by decide) i j _ _
    (by show j.val = j.val / 8 * 8 + j.val % 8; omega)

end Reference

/-! ## The kernel -/

section Kernel

open Cert.KernelIdeal Cert.KernelIdeal.Gen
open Cert.Proof.RunIdeal Cert.Proof.Hist Cert.Proof.RowOps Cert.Proof.Lanes

/-- Where every indicator is at most one in absolute value, the kernel's bin of a score is the reference's. -/
theorem bin_score {a b c N : ℕ} {w : BitVec 32} (hN : N ≤ 1000) (hw : Ideal.ofBits .f32 w = ((N : ℝ) : EReal)) (I : FVec Ideal ⟨2, ![a, c]⟩ .f32)
    (S : FVec Ideal ⟨3, ![a, b, c]⟩ .f32) (K : FVec Ideal ⟨2, ![a, b]⟩ .f32) (hK : ∀ i, ∃ y : ℝ, K i = (y : EReal) ∧ |y| ≤ 1) (j : (⟨2, ![a, b]⟩ : Shape).Idx) :
    bin (F := Ideal) w (BitVec.ofNat 32 N) (BitVec.ofNat 32 (2 * N + 1)) (score I S K j) = up (Ideal.ofBits .f32 w) (BitVec.ofNat 32 N) (score I S K j) := by
  obtain ⟨y, hy, hy1⟩ := cosine_mul_coe (row2 I (j 0)) (row3 S (j 0) (j 1)) (hK j)
  have e : score I S K j = (y : EReal) := hy
  rw [e, bin_coe w N hN hw hy1, hw]

/-- The first level's rows, from the scores and the embeddings the kernel is given. -/
theorem kernelRows0 (C : FVec Ideal S4096x200 .f32) (E : FVec Ideal S1x22x4 .f32) (hf : ∀ j, bin0 (F := Ideal) (C j) = up (Ideal.ofBits .f32 0x41200000#32) 10#32 (C j))
    (A : Ins Ideal) (hl : A.T.l = lutV) (hb : A.T.b0 = ids0) (he : A.T.e0 = shapeCast S88 E shapeCasts_S1x22x4_S88) (hC : A.C0 = shapeCast S819200 C shapeCasts_S4096x200_S819200) :
    (shapeCast S4096x88 (out0 A) shapeCasts_S360448_S4096x88 : FVec Ideal S4096x88 .f32) = rows0 C E := by
  unfold out0 res0 his0
  rw [hl, hb, he, hC]
  refine ext2 fun i j => ?_
  have hj : j.val = j.val / 4 * 4 + j.val % 4 := by omega
  have h := kernelTier_eq (a := 4096) (n := 200) (nb := 22) (d := 4) (W := 88) (N := 819200) (m := 3200) (NO := 360448) (O := 1408) (nh := 352) (bin0 (F := Ideal))
    (Ideal.ofBits .f32 0x41200000#32) 10#32 C E shapeCasts_S4096x200_S819200 shapeCasts_S1x22x4_S88 shapeCasts_S360448_S4096x88 (by norm_num) (by norm_num) (by norm_num) (by norm_num)
    (by norm_num) (by norm_num) (by norm_num) (by norm_num) hf (by norm_num) i j ⟨j.val / 4, by have := j.isLt; omega⟩ ⟨j.val % 4, Nat.mod_lt _ (by decide)⟩ hj
  exact h

/-- The second level's rows, from the scores and the embeddings the kernel is given. -/
theorem kernelRows1 (C : FVec Ideal S4096x50 .f32) (E : FVec Ideal S1x42x8 .f32) (hf : ∀ j, bin1 (F := Ideal) (C j) = up (Ideal.ofBits .f32 0x41A00000#32) 20#32 (C j))
    (A : Ins Ideal) (hl : A.T.l = lutV) (hb : A.T.b1 = ids1) (he : A.T.e1 = shapeCast S336 E shapeCasts_S1x42x8_S336) (hC : A.C1 = shapeCast S204800 C shapeCasts_S4096x50_S204800) :
    (shapeCast S4096x336 (out1 A) shapeCasts_S1376256_S4096x336 : FVec Ideal S4096x336 .f32) = rows1 C E := by
  unfold out1 res1 his1
  rw [hl, hb, he, hC]
  refine ext2 fun i j => ?_
  have hj : j.val = j.val / 8 * 8 + j.val % 8 := by omega
  have h := kernelTier_eq (a := 4096) (n := 50) (nb := 42) (d := 8) (W := 336) (N := 204800) (m := 800) (NO := 1376256) (O := 5376) (nh := 672) (bin1 (F := Ideal))
    (Ideal.ofBits .f32 0x41A00000#32) 20#32 C E shapeCasts_S4096x50_S204800 shapeCasts_S1x42x8_S336 shapeCasts_S1376256_S4096x336 (by norm_num) (by norm_num) (by norm_num) (by norm_num)
    (by norm_num) (by norm_num) (by norm_num) (by norm_num) hf (by norm_num) i j ⟨j.val / 8, by have := j.isLt; omega⟩ ⟨j.val % 8, Nat.mod_lt _ (by decide)⟩ hj
  exact h

variable (m : (ℓ : Loc nD τ sig) → Buf (Elt Ideal) ℓ) (d : Dev nD)

theorem kernel0 : cosA0 (F := Ideal) (V₀ m) d = score (m ((d.tc : Thread nD τ).loc main_arg0)) (m ((d.tc : Thread nD τ).loc main_arg1)) (m ((d.tc : Thread nD τ).loc main_arg3)) :=
  cosOut0_eq _ _ _

theorem kernel1 : cosA1 (F := Ideal) (V₀ m) d = score (m ((d.tc : Thread nD τ).loc main_arg0)) (m ((d.tc : Thread nD τ).loc main_arg2)) (m ((d.tc : Thread nD τ).loc main_arg4)) :=
  cosOut1_eq _ _ _

theorem kernel2 (hK : ∀ i : S4096x200.Idx, ∃ y : ℝ, (m ((d.tc : Thread nD τ).loc main_arg3) : FVec Ideal S4096x200 .f32) i = (y : EReal) ∧ |y| ≤ 1) :
    (shapeCast S4096x88 (out0 (given₀ m d)) shapeCasts_S360448_S4096x88 : FVec Ideal S4096x88 .f32)
      = rows0 (cosA0 (F := Ideal) (V₀ m) d) (m ((d.tc : Thread nD τ).loc main_arg5)) :=
  kernelRows0 _ _ (fun j => by rw [kernel0]; exact bin_score (N := 10) (by norm_num) ofBits_ten _ _ _ hK j) (given₀ m d) rfl rfl rfl rfl

theorem kernel3 (hK : ∀ i : S4096x50.Idx, ∃ y : ℝ, (m ((d.tc : Thread nD τ).loc main_arg4) : FVec Ideal S4096x50 .f32) i = (y : EReal) ∧ |y| ≤ 1) :
    (shapeCast S4096x336 (out1 (given₀ m d)) shapeCasts_S1376256_S4096x336 : FVec Ideal S4096x336 .f32)
      = rows1 (cosA1 (F := Ideal) (V₀ m) d) (m ((d.tc : Thread nD τ).loc main_arg6)) :=
  kernelRows1 _ _ (fun j => by rw [kernel1]; exact bin_score (N := 20) (by norm_num) ofBits_twenty _ _ _ hK j) (given₀ m d) rfl rfl rfl rfl

end Kernel

end Cert.Proof.Value

end
-- ==== Proof.Value.Pre.lean ====
/-
  What the precondition says of the indicators: every one is a real number of absolute value at most one.
-/
module

public import proofs.«01_k».proof.Defs
public import proofs.«01_k».proof.Proof.Value.Unit
public import Idealize.ShloMosaic.Lib.ReduceAll

@[expose] public section

noncomputable section

namespace Cert.Proof.Value

open Idealize.ShloMosaic

/-- The side conditions of the precondition's operations. -/
theorem preFacts : Cert.Pre_bounded.Facts where
  bcast_S_S4096x200 := by decide
  reducesTo_S4096x200_S_d0_1 := by decide
  h_S_ := by decide
  bcast_S_S4096x50 := by decide
  reducesTo_S4096x50_S_d0_1 := by decide

/-- A number of absolute value at most one is a real. -/
theorem real_of_abs_le {x : EReal} (h : max x (-x) ≤ 1) : ∃ y : ℝ, x = (y : EReal) ∧ |y| ≤ 1 := by
  induction x with
  | bot => exact absurd ((le_max_right _ _).trans h) (by rw [EReal.neg_bot]; exact not_le.2 (EReal.coe_lt_top 1))
  | top => exact absurd ((le_max_left _ _).trans h) (not_le.2 (EReal.coe_lt_top 1))
  | coe r =>
    refine ⟨r, rfl, ?_⟩
    have h1 : ((r : ℝ) : EReal) ≤ ((1 : ℝ) : EReal) := (le_max_left _ _).trans h
    have h2 : (((-r) : ℝ) : EReal) ≤ ((1 : ℝ) : EReal) := (le_max_right _ _).trans h
    exact abs_le.2 ⟨by have := EReal.coe_le_coe_iff.1 h2; linarith, EReal.coe_le_coe_iff.1 h1⟩

/-- The comparison the precondition makes, read as that bound. -/
theorem real_of_cmp {x : EReal} (h : Ideal.cmp .ole (max x (-x)) (Ideal.ofBits .f32 0x3F800000#32) = 1#1) : ∃ y : ℝ, x = (y : EReal) ∧ |y| ≤ 1 := by
  refine real_of_abs_le ?_
  by_contra hc
  rw [Ideal.ofBits_one_f32] at h
  simp [Ideal.cmp, hc] at h

variable [Cert.Pre_bounded.Facts]

theorem bounded_of_fn {a0 a1 a2 a3 a4 a5 a6} (h : Cert.Pre_bounded.fn (F := Ideal) a0 a1 a2 a3 a4 a5 a6 = fun _ => 1#1) :
    (∀ i, ∃ y : ℝ, a3 i = (y : EReal) ∧ |y| ≤ 1) ∧ (∀ i, ∃ y : ℝ, a4 i = (y : EReal) ∧ |y| ≤ 1) := by
  have h0 := congrFun h (fun k => k.elim0)
  obtain ⟨h1, h2⟩ := IntOp.andi_eq_one.1 h0
  constructor <;> intro i
  · exact real_of_cmp (Host.reduce_andi_all (t := Cert.Pre_bounded.S_) _ _ _ _ _ h1 i)
  · exact real_of_cmp (Host.reduce_andi_all (t := Cert.Pre_bounded.S_) _ _ _ _ _ h2 i)

end Cert.Proof.Value

end
-- ==== Proof.Value.Algebraic.lean ====
/-
  The kernel and the reference, run from memories with equal arguments, leave equal results.
-/
module

public import proofs.«01_k».proof.Proof.Value.Results
public import proofs.«01_k».proof.Proof.Value.Pre
public import proofs.«01_k».proof.Proof.RunIdeal.Launch

@[expose] public section

noncomputable section

namespace Cert.Proof.Value

open Idealize.ShloMosaic Idealize.SL.Sem

section Kernel

open Cert.KernelIdeal Cert.KernelIdeal.Gen
open Cert.Proof.RunIdeal

variable (m : (ℓ : Loc nD τ sig) → Buf (Elt Ideal) ℓ) (c : Dev nD)

/-- The scores and histogram rows of the arguments in a memory of the kernel. -/
def scores0 : FVec Ideal S4096x200 .f32 := score (m ((c.tc : Thread nD τ).loc main_arg0)) (m ((c.tc : Thread nD τ).loc main_arg1)) (m ((c.tc : Thread nD τ).loc main_arg3))
def scores1 : FVec Ideal S4096x50 .f32 := score (m ((c.tc : Thread nD τ).loc main_arg0)) (m ((c.tc : Thread nD τ).loc main_arg2)) (m ((c.tc : Thread nD τ).loc main_arg4))
def weighted0 : FVec Ideal S4096x88 .f32 := rows0 (scores0 m c) (m ((c.tc : Thread nD τ).loc main_arg5))
def weighted1 : FVec Ideal S4096x336 .f32 := rows1 (scores1 m c) (m ((c.tc : Thread nD τ).loc main_arg6))

/-- Every indicator is a real of absolute value at most one. -/
def Bounded : Prop :=
  ∀ c : Dev nD, (∀ i : S4096x200.Idx, ∃ y : ℝ, (m ((c.tc : Thread nD τ).loc main_arg3) : FVec Ideal S4096x200 .f32) i = (y : EReal) ∧ |y| ≤ 1)
    ∧ (∀ i : S4096x50.Idx, ∃ y : ℝ, (m ((c.tc : Thread nD τ).loc main_arg4) : FVec Ideal S4096x50 .f32) i = (y : EReal) ∧ |y| ≤ 1)

/-- What a run of the kernel leaves. -/
theorem kernelRun (g : Dev nD → PrngReg) (hb : Bounded m) :
    θ_run (defs (F := Ideal)) (threads (F := Ideal)) ⟨m, fun _ => 0, g⟩ fun r => ∀ c : Dev nD,
      r.2.mem ((c.tc : Thread nD τ).loc main_v0_0) = scores0 m c
      ∧ r.2.mem ((c.tc : Thread nD τ).loc main_v0_1) = scores1 m c
      ∧ r.2.mem ((c.tc : Thread nD τ).loc main_v14) = weighted0 m c
      ∧ r.2.mem ((c.tc : Thread nD τ).loc main_v15) = weighted1 m c
      ∧ ∀ b ∈ [main_arg0, main_arg1, main_arg2, main_arg3, main_arg4, main_arg5, main_arg6], b.isScoped = false →
          r.2.mem ((c.tc : Thread nD τ).loc b) = m ((c.tc : Thread nD τ).loc b) := by
  refine (θ_run _ _ _).mono (fun r h c => ⟨?_, ?_, ?_, ?_, fun b hb hs => h.arg m c b hs hb⟩) (RunIdeal.run_main (F := Ideal) m g)
  · exact (h.1 c main_v0_0 rfl).trans ((W₄_0 m c).trans (kernel0 m c))
  · exact (h.1 c main_v0_1 rfl).trans ((W₄_1 m c).trans (kernel1 m c))
  · exact (h.1 c main_v14 rfl).trans ((W₄_14 m c).trans ((kernel2 m c (hb c).1).trans (congrArg (fun C => rows0 C _) (kernel0 m c))))
  · exact (h.1 c main_v15 rfl).trans ((W₄_15 m c).trans ((kernel3 m c (hb c).2).trans (congrArg (fun C => rows1 C _) (kernel1 m c))))

end Kernel

section Reference

open Cert.ReferenceIdeal Cert.ReferenceIdeal.Gen

variable (m : (ℓ : Loc nD τ sig) → Buf (Elt Ideal) ℓ)

/-- What a run of the reference leaves. -/
theorem referenceRun (g : Dev nD → PrngReg) :
    θ_run (defs (F := Ideal)) (onTc (τ := τ) (main (F := Ideal))) ⟨m, fun _ => 0, g⟩ fun r => ∀ c : Dev nD,
      r.2.mem ((c.tc : Thread nD τ).loc main_v14) = score (m ((c.tc : Thread nD τ).loc main_arg0)) (m ((c.tc : Thread nD τ).loc main_arg1)) (m ((c.tc : Thread nD τ).loc main_arg3))
      ∧ r.2.mem ((c.tc : Thread nD τ).loc main_v29) = score (m ((c.tc : Thread nD τ).loc main_arg0)) (m ((c.tc : Thread nD τ).loc main_arg2)) (m ((c.tc : Thread nD τ).loc main_arg4))
      ∧ r.2.mem ((c.tc : Thread nD τ).loc main_v51) = rows0 (score (m ((c.tc : Thread nD τ).loc main_arg0)) (m ((c.tc : Thread nD τ).loc main_arg1)) (m ((c.tc : Thread nD τ).loc main_arg3))) (m ((c.tc : Thread nD τ).loc main_arg5))
      ∧ r.2.mem ((c.tc : Thread nD τ).loc main_v73) = rows1 (score (m ((c.tc : Thread nD τ).loc main_arg0)) (m ((c.tc : Thread nD τ).loc main_arg2)) (m ((c.tc : Thread nD τ).loc main_arg4))) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h c => ?_) (Cert.ReferenceIdeal.Value.run (F := Ideal) m g)
  obtain ⟨h0, h1, h2, h3, ha⟩ := h c
  have e0 := reference0 (m ((c.tc : Thread nD τ).loc main_arg0)) (m ((c.tc : Thread nD τ).loc main_arg1)) (m ((c.tc : Thread nD τ).loc main_arg3))
  have e1 := reference1 (m ((c.tc : Thread nD τ).loc main_arg0)) (m ((c.tc : Thread nD τ).loc main_arg2)) (m ((c.tc : Thread nD τ).loc main_arg4))
  refine ⟨h0.trans e0, h1.trans e1, h2.trans ?_, h3.trans ?_, ha⟩
  · exact (reference2 _ _).trans (congrArg (fun C => rows0 C (m ((c.tc : Thread nD τ).loc main_arg5))) e0)
  · exact (reference3 _ _).trans (congrArg (fun C => rows1 C (m ((c.tc : Thread nD τ).loc main_arg6))) e1)

end Reference

/-- The precondition bounds the indicators. -/
theorem bounded_of_pre (m : (ℓ : Loc Cert.KernelIdeal.nD Cert.KernelIdeal.τ Cert.KernelIdeal.sig) → Buf (Elt Ideal) ℓ)
    (h : Cert.Pre_KernelIdeal_bounded (hPre_bounded := preFacts) m) : Bounded m := fun c => by
  haveI := preFacts
  exact bounded_of_fn (h c)

/-- Equal results. -/
theorem algebraic : Cert.algebraic_KernelIdeal_ReferenceIdeal_pre_bounded (hKernelIdeal := Cert.KernelIdeal.Gen.facts)
    (hReferenceIdeal := Cert.ReferenceIdeal.Gen.facts) (hPre_bounded := preFacts) := by
  intro m g m' g' hpre hargs
  refine ⟨scores0 m, scores1 m, weighted0 m, weighted1 m, ?_, ?_⟩
  · refine (θ_run _ _ _).mono (fun r h c => ?_) (kernelRun m g (bounded_of_pre m hpre))
    obtain ⟨h0, h1, h2, h3, ha⟩ := h c
    refine ⟨h0, h1, h2, h3, ?_, ?_, ?_, ?_, ?_, ?_, ?_⟩ <;> exact ha _ (by simp) rfl
  · refine (θ_run _ _ _).mono (fun r h c => ?_) (referenceRun m' g')
    obtain ⟨h0, h1, h2, h3, ha⟩ := h c
    obtain ⟨a0, a1, a2, a3, a4, a5, a6⟩ := hargs c
    refine ⟨h0.trans ?_, h1.trans ?_, h2.trans ?_, h3.trans ?_, ha⟩
    · rw [a0, a1, a3]; rfl
    · rw [a0, a2, a4]; rfl
    · rw [a0, a1, a3, a5]; rfl
    · rw [a0, a2, a4, a6]; rfl

end Cert.Proof.Value

end
-- ==== Proof.lean ====
/-
  The certificate's claims, put together: each program's frame, and the equality of the kernel's results with the
  reference's.
-/
module

public import proofs.«01_k».proof.Proof.Gen.ReferenceIdeal.Run
public import proofs.«01_k».proof.Proof.Frames
public import proofs.«01_k».proof.Proof.Value.Algebraic
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel's frame over the bit patterns, its frame over the extended reals, the reference's frame, and the equality
    of the kernel's results with the reference's over the extended reals. -/
theorem claim : Cert.Claim := ⟨Cert.Kernel.Gen.facts, Cert.KernelIdeal.Gen.facts, Cert.ReferenceIdeal.Gen.facts, Value.preFacts, by
  refine ⟨fun m g _ => ?_, fun m g _ => ?_, fun m g _ => ?_, fun m g _ => ?_, fun m g _ => ?_, trivial, Value.algebraic⟩
  · exact (θ_run _ _ _).mono (fun r h => ⟨fun c => by
      refine ⟨?_, ?_, ?_, ?_, ?_, ?_, ?_⟩ <;> exact h.1 c _ (by simp) rfl, h.2⟩) (Frames.kernel m g)
  · exact (θ_run _ _ _).mono (fun r h => ⟨fun c => by
      refine ⟨?_, ?_, ?_, ?_, ?_, ?_, ?_⟩ <;> exact h.1 c _ (by simp) rfl, h.2⟩) (Frames.kernelIdeal m g)
  · exact (θ_run _ _ _).mono (fun r h => ⟨fun c => by
      refine ⟨?_, ?_, ?_, ?_, ?_, ?_, ?_⟩ <;> exact h.1 c _ (by simp) rfl, h.2⟩) (Frames.kernelIdeal m g)
  · exact (θ_run _ _ _).mono (fun r h => ⟨fun c => (h c).2.2.2.2, sem_eq_zero_of_no_sems (by decide) r.2⟩)
      (Cert.ReferenceIdeal.Value.run m g)
  · exact (θ_run _ _ _).mono (fun r h => ⟨fun c => (h c).2.2.2.2, sem_eq_zero_of_no_sems (by decide) r.2⟩)
      (Cert.ReferenceIdeal.Value.run m g)⟩

end Cert.Proof

end
